-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pack.Statement Cert.KernelIdeal.S64x384
  ∧ IdealRules.bf16_pack.Statement Cert.KernelIdeal.S1x384
  ∧ IdealRules.named_const.Statement Cert.KernelIdeal.κ "log2e" .f32 0x3FB8AA3B#32 (((Real.log 2)⁻¹ : ℝ) : EReal)
  ∧ IdealRules.named_const.Statement Cert.KernelIdeal.κ "neg_inf" .f32 0xF149F2CA#32 ⊥
  ∧ IdealRules.bf16_pack.Statement Cert.KernelIdeal.S8x128

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65_0) = v0 c
          ∧ r.2.mem ((c.tc : Thread Cert.ReferenceIdeal.nD Cert.ReferenceIdeal.τ).loc Cert.ReferenceIdeal.main_v65_1) = v1 c
          ∧ r.2.mem ((c.tc : Thread Cert.ReferenceIdeal.nD Cert.ReferenceIdeal.τ).loc Cert.ReferenceIdeal.main_v65_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S3000x128x2 : Shape := ⟨3, ![3000, 128, 2]⟩
abbrev S3000x128x3 : Shape := ⟨3, ![3000, 128, 3]⟩
abbrev S3000x128 : Shape := ⟨2, ![3000, 128]⟩
abbrev S3000 : Shape := ⟨1, ![3000]⟩
abbrev S3000x128x64 : Shape := ⟨3, ![3000, 128, 64]⟩
abbrev S64 : Shape := ⟨1, ![64]⟩
abbrev S64x384 : Shape := ⟨2, ![64, 384]⟩
abbrev S384 : Shape := ⟨1, ![384]⟩
abbrev S_ : Shape := ⟨0, ![]⟩

class Facts : Prop where
  bcast_S_S3000x128x2 : S_.BroadcastsInDim S3000x128x2 (![] : Fin 0 → Fin S3000x128x2.rank)
  bcast_S_S3000x128x3 : S_.BroadcastsInDim S3000x128x3 (![] : Fin 0 → Fin S3000x128x3.rank)
  bcast_S_S3000x128 : S_.BroadcastsInDim S3000x128 (![] : Fin 0 → Fin S3000x128.rank)
  bcast_S_S64x384 : S_.BroadcastsInDim S64x384 (![] : Fin 0 → Fin S64x384.rank)
  bcast_S_S384 : S_.BroadcastsInDim S384 (![] : Fin 0 → Fin S384.rank)

variable [Facts]

def fn_part1 {F : FTy → Type} [FloatOps F] (main_v2 : IVec S3000x128x2 1) (main_v5 : IVec S3000x128x3 1) (main_v10 : IVec S3000x128 1) (main_v13 : IVec S64x384 1) (main_v16 : IVec S384 1) (main_v17 : FVec F S384 .f32) : IVec S3000x128x2 1 × IVec S3000x128x3 1 × IVec S3000x128 1 × IVec S64x384 1 × IVec S384 1 × IVec S384 1 :=
  let main_cst_5 : FVec F S_ .f32 := constant S_ .f32 0x7F800000#32
  let main_v18 : FVec F S384 .f32 := broadcastInDim S384 ![] bcast_S_S384 main_cst_5
  let main_v19 : IVec S384 1 := cmpf .olt main_v17 main_v18
  (main_v2, main_v5, main_v10, main_v13, main_v16, main_v19)

def fn {F : FTy → Type} [FloatOps F] (main_arg0 : FVec F S3000x128x2 .f32) (main_arg1 : FVec F S3000x128x3 .f32) (main_arg2 : FVec F S3000x128 .f32) (main_arg3 : IVec S3000 32) (main_arg4 : FVec F S3000x128x64 .fp8e4m3) (main_arg5 : FVec F S64 .f32) (main_arg6 : FVec F S64x384 .f32) (main_arg7 : FVec F S384 .f32) (main_arg8 : FVec F S384 .f32) : IVec S3000x128x2 1 × IVec S3000x128x3 1 × IVec S3000x128 1 × IVec S64x384 1 × IVec S384 1 × IVec S384 1 :=
  let main_v0 : FVec F S3000x128x2 .f32 := Host.absf main_arg0
  let main_cst : FVec F S_ .f32 := constant S_ .f32 0x7F800000#32
  let main_v1 : FVec F S3000x128x2 .f32 := broadcastInDim S3000x128x2 ![] bcast_S_S3000x128x2 main_cst
  let main_v2 : IVec S3000x128x2 1 := cmpf .olt main_v0 main_v1
  let main_v3 : FVec F S3000x128x3 .f32 := Host.absf main_arg1
  let main_cst_0 : FVec F S_ .f32 := constant S_ .f32 0x7F800000#32
  let main_v4 : FVec F S3000x128x3 .f32 := broadcastInDim S3000x128x3 ![] bcast_S_S3000x128x3 main_cst_0
  let main_v5 : IVec S3000x128x3 1 := cmpf .olt main_v3 main_v4
  let main_cst_1 : FVec F S_ .f32 := constant S_ .f32 0x00000000#32
  let main_v6 : FVec F S3000x128 .f32 := broadcastInDim S3000x128 ![] bcast_S_S3000x128 main_cst_1
  let main_v7 : IVec S3000x128 1 := cmpf .oge main_arg2 main_v6
  let main_cst_2 : FVec F S_ .f32 := constant S_ .f32 0x7F800000#32
  let main_v8 : FVec F S3000x128 .f32 := broadcastInDim S3000x128 ![] bcast_S_S3000x128 main_cst_2
  let main_v9 : IVec S3000x128 1 := cmpf .olt main_arg2 main_v8
  let main_v10 : IVec S3000x128 1 := andi main_v7 main_v9
  let main_v11 : FVec F S64x384 .f32 := Host.absf main_arg6
  let main_cst_3 : FVec F S_ .f32 := constant S_ .f32 0x7F800000#32
  let main_v12 : FVec F S64x384 .f32 := broadcastInDim S64x384 ![] bcast_S_S64x384 main_cst_3
  let main_v13 : IVec S64x384 1 := cmpf .olt main_v11 main_v12
  let main_v14 : FVec F S384 .f32 := Host.absf main_arg7
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  let main_v17 : FVec F S384 .f32 := Host.absf main_arg8
  fn_part1 (F := F) main_v2 main_v5 main_v10 main_v13 main_v16 main_v17
-- ==== Kernel.lean ====
abbrev S3000x128x2 : Shape := ⟨3, ![3000, 128, 2]⟩
abbrev S3000x128x3 : Shape := ⟨3, ![3000, 128, 3]⟩
abbrev S3000x128 : Shape := ⟨2, ![3000, 128]⟩
abbrev S3000 : Shape := ⟨1, ![3000]⟩
abbrev S3000x128x64 : Shape := ⟨3, ![3000, 128, 64]⟩
abbrev S64 : Shape := ⟨1, ![64]⟩
abbrev S64x384 : Shape := ⟨2, ![64, 384]⟩
abbrev S384 : Shape := ⟨1, ![384]⟩
abbrev S24x256 : Shape := ⟨2, ![24, 256]⟩
abbrev S3000x2x128 : Shape := ⟨3, ![3000, 2, 128]⟩
abbrev S3x3000x128 : Shape := ⟨3, ![3, 3000, 128]⟩
abbrev S3000x64x128 : Shape := ⟨3, ![3000, 64, 128]⟩
abbrev S1x64 : Shape := ⟨2, ![1, 64]⟩
abbrev S1x384 : Shape := ⟨2, ![1, 384]⟩
abbrev S3000x256x384 : Shape := ⟨3, ![3000, 256, 384]⟩
abbrev S3000x64x256 : Shape := ⟨3, ![3000, 64, 256]⟩
abbrev S3000x256 : Shape := ⟨2, ![3000, 256]⟩
abbrev S8x2x128 : Shape := ⟨3, ![8, 2, 128]⟩
abbrev S3x8x128 : Shape := ⟨3, ![3, 8, 128]⟩
abbrev S8x128 : Shape := ⟨2, ![8, 128]⟩
abbrev S8x64x128 : Shape := ⟨3, ![8, 64, 128]⟩
abbrev S8x256x384 : Shape := ⟨3, ![8, 256, 384]⟩
abbrev S8x64x256 : Shape := ⟨3, ![8, 64, 256]⟩
abbrev S8x256 : Shape := ⟨2, ![8, 256]⟩
abbrev S192x128 : Shape := ⟨2, ![192, 128]⟩
abbrev S2x1152x128 : Shape := ⟨3, ![2, 1152, 128]⟩
abbrev S2x8x128 : Shape := ⟨3, ![2, 8, 128]⟩
abbrev S64x128 : Shape := ⟨2, ![64, 128]⟩
abbrev S256x384 : Shape := ⟨2, ![256, 384]⟩
abbrev S128x64 : Shape := ⟨2, ![128, 64]⟩
abbrev S1 : Shape := ⟨1, ![1]⟩
abbrev S8x1x128 : Shape := ⟨3, ![8, 1, 128]⟩
abbrev S1x8x128 : Shape := ⟨3, ![1, 8, 128]⟩
abbrev S24x128 : Shape := ⟨2, ![24, 128]⟩
abbrev S128x24 : Shape := ⟨2, ![128, 24]⟩
abbrev S128x256 : Shape := ⟨2, ![128, 256]⟩
abbrev S128x128 : Shape := ⟨2, ![128, 128]⟩
abbrev S1x1152x128 : Shape := ⟨3, ![1, 1152, 128]⟩
abbrev S1152x128 : Shape := ⟨2, ![1152, 128]⟩
abbrev S64x256 : Shape := ⟨2, ![64, 256]⟩
abbrev S1x1x128 : Shape := ⟨3, ![1, 1, 128]⟩
abbrev S1x128 : Shape := ⟨2, ![1, 128]⟩
abbrev S1x64x128 : Shape := ⟨3, ![1, 64, 128]⟩
abbrev S1x256 : Shape := ⟨2, ![1, 256]⟩
abbrev S256 : Shape := ⟨1, ![256]⟩
abbrev S1x64x256 : Shape := ⟨3, ![1, 64, 256]⟩
abbrev S256x256 : Shape := ⟨2, ![256, 256]⟩
abbrev S1x256x384 : Shape := ⟨3, ![1, 256, 384]⟩

abbrev nBuf : Space → Nat
  | .hbm => 19
  | .vmem => 25
  | .smem => 1
  | _ => 0

abbrev bufTy : (tb : Table) → Fin (tcTables nBuf tb) → BufTy
  | .hbm, ⟨0, _⟩ => ⟨S3000x128x2, .f32⟩
  | .hbm, ⟨1, _⟩ => ⟨S3000x128x3, .f32⟩
  | .hbm, ⟨2, _⟩ => ⟨S3000x128, .f32⟩
  | .hbm, ⟨3, _⟩ => ⟨S3000x128x64, .fp8e4m3⟩
  | .hbm, ⟨4, _⟩ => ⟨S64, .f32⟩
  | .hbm, ⟨5, _⟩ => ⟨S64x384, .f32⟩
  | .hbm, ⟨6, _⟩ => ⟨S384, .f32⟩
  | .hbm, ⟨7, _⟩ => ⟨S384, .f32⟩
  | .hbm, ⟨8, _⟩ => ⟨S24x256, .f32⟩
  | .hbm, ⟨9, _⟩ => ⟨S3000x2x128, .f32⟩
  | .hbm, ⟨10, _⟩ => ⟨S3x3000x128, .f32⟩
  | .hbm, ⟨11, _⟩ => ⟨S3000x64x128, .fp8e4m3⟩
  | .hbm, ⟨12, _⟩ => ⟨S1x64, .f32⟩
  | .hbm, ⟨13, _⟩ => ⟨S64x384, .fp8e4m3⟩
  | .hbm, ⟨14, _⟩ => ⟨S1x384, .f32⟩
  | .hbm, ⟨15, _⟩ => ⟨S1x384, .f32⟩
  | .hbm, ⟨16, _⟩ => ⟨S3000x256x384, .bf16⟩
  | .hbm, ⟨17, _⟩ => ⟨S3000x64x256, .fp8e4m3⟩
  | .hbm, ⟨18, _⟩ => ⟨S3000x256, .f32⟩
  | .local _ .vmem, ⟨0, _⟩ => ⟨S8x2x128, .f32⟩
  | .local _ .vmem, ⟨1, _⟩ => ⟨S8x2x128, .f32⟩
  | .local _ .vmem, ⟨2, _⟩ => ⟨S3x8x128, .f32⟩
  | .local _ .vmem, ⟨3, _⟩ => ⟨S3x8x128, .f32⟩
  | .local _ .vmem, ⟨4, _⟩ => ⟨S8x128, .f32⟩
  | .local _ .vmem, ⟨5, _⟩ => ⟨S8x128, .f32⟩
  | .local _ .vmem, ⟨6, _⟩ => ⟨S8x64x128, .fp8e4m3⟩
  | .local _ .vmem, ⟨7, _⟩ => ⟨S8x64x128, .fp8e4m3⟩
  | .local _ .vmem, ⟨8, _⟩ => ⟨S24x256, .f32⟩
  | .local _ .vmem, ⟨9, _⟩ => ⟨S1x64, .f32⟩
  | .local _ .vmem, ⟨10, _⟩ => ⟨S64x384, .fp8e4m3⟩
  | .local _ .vmem, ⟨11, _⟩ => ⟨S1x384, .f32⟩
  | .local _ .vmem, ⟨12, _⟩ => ⟨S1x384, .f32⟩
  | .local _ .vmem, ⟨13, _⟩ => ⟨S8x256x384, .bf16⟩
  | .local _ .vmem, ⟨14, _⟩ => ⟨S8x256x384, .bf16⟩
  | .local _ .vmem, ⟨15, _⟩ => ⟨S8x64x256, .fp8e4m3⟩
  | .local _ .vmem, ⟨16, _⟩ => ⟨S8x64x256, .fp8e4m3⟩
  | .local _ .vmem, ⟨17, _⟩ => ⟨S8x256, .f32⟩
  | .local _ .vmem, ⟨18, _⟩ => ⟨S8x256, .f32⟩
  | .local _ .vmem, ⟨19, _⟩ => ⟨S192x128, .f32⟩
  | .local _ .vmem, ⟨20, _⟩ => ⟨S2x1152x128, .f32⟩
  | .local _ .vmem, ⟨21, _⟩ => ⟨S2x8x128, .f32⟩
  | .local _ .vmem, ⟨22, _⟩ => ⟨S2x8x128, .f32⟩
  | .local _ .vmem, ⟨23, _⟩ => ⟨S64x128, .f32⟩
  | .local _ .vmem, ⟨24, _⟩ => ⟨S256x384, .bf16⟩
  | .local _ .smem, ⟨0, _⟩ => ⟨S3000, .i32⟩
  | _, _ => ⟨S3000x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [BitOps F]

abbrev grid0 : Pipeline.Grid := ⟨1, ![375], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_3 : BitVec 32) : Fin 1 → Nat :=
  let arg0 : BitVec 32 := BitVec.ofNat 32 (i 0).val
  let c8_i32 : BitVec 32 := 8#32
  let v8 : BitVec 32 := Scalar.muli arg0 c8_i32
  let v9 : BitVec 32 := Scalar.addi v8 c0_i32_3
  let v10 : Index := Scalar.indexCast v9
  ![v10.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S24x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x256x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x64x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log2e" => some (((Real.log 2)⁻¹ : ℝ) : EReal)
  | "neg_inf" => some ⊥
  | _ => none
-- ==== ReferenceIdeal.lean ====
abbrev S3000x128x2 : Shape := ⟨3, ![3000, 128, 2]⟩
abbrev S3000x128x3 : Shape := ⟨3, ![3000, 128, 3]⟩
abbrev S3000x128 : Shape := ⟨2, ![3000, 128]⟩
abbrev S3000 : Shape := ⟨1, ![3000]⟩
abbrev S3000x128x64 : Shape := ⟨3, ![3000, 128, 64]⟩
abbrev S64 : Shape := ⟨1, ![64]⟩
abbrev S64x384 : Shape := ⟨2, ![64, 384]⟩
abbrev S384 : Shape := ⟨1, ![384]⟩
abbrev S256 : Shape := ⟨1, ![256]⟩
abbrev S_ : Shape := ⟨0, ![]⟩
abbrev S1x256x1 : Shape := ⟨3, ![1, 256, 1]⟩
abbrev S3000x128x1 : Shape := ⟨3, ![3000, 128, 1]⟩
abbrev S3000x1x128 : Shape := ⟨3, ![3000, 1, 128]⟩
abbrev S3000x256x128 : Shape := ⟨3, ![3000, 256, 128]⟩
abbrev S128 : Shape := ⟨1, ![128]⟩
abbrev S1x1x128 : Shape := ⟨3, ![1, 1, 128]⟩
abbrev S3000x1x1 : Shape := ⟨3, ![3000, 1, 1]⟩
abbrev S3000x256x384 : Shape := ⟨3, ![3000, 256, 384]⟩
abbrev S3000x64x256 : Shape := ⟨3, ![3000, 64, 256]⟩
abbrev S3000x256 : Shape := ⟨2, ![3000, 256]⟩
abbrev S3000x256x1 : Shape := ⟨3, ![3000, 256, 1]⟩
abbrev S3000x256x64 : Shape := ⟨3, ![3000, 256, 64]⟩
abbrev S1x1x64 : Shape := ⟨3, ![1, 1, 64]⟩
abbrev S1x1x384 : Shape := ⟨3, ![1, 1, 384]⟩

abbrev nBuf : Space → Nat
  | .hbm => 125
  | .vmem => 9
  | .smem => 0
  | _ => 0

abbrev bufTy : (tb : Table) → Fin (tcTables nBuf tb) → BufTy
  | .hbm, ⟨0, _⟩ => ⟨S3000x128x2, .f32⟩
  | .hbm, ⟨1, _⟩ => ⟨S3000x128x3, .f32⟩
  | .hbm, ⟨2, _⟩ => ⟨S3000x128, .f32⟩
  | .hbm, ⟨3, _⟩ => ⟨S3000, .i32⟩
  | .hbm, ⟨4, _⟩ => ⟨S3000x128x64, .fp8e4m3⟩
  | .hbm, ⟨5, _⟩ => ⟨S64, .f32⟩
  | .hbm, ⟨6, _⟩ => ⟨S64x384, .f32⟩
  | .hbm, ⟨7, _⟩ => ⟨S384, .f32⟩
  | .hbm, ⟨8, _⟩ => ⟨S384, .f32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S_, .i1⟩
  | .hbm, ⟨26, _⟩ => ⟨S256, .i1⟩
  | .hbm, ⟨27, _⟩ => ⟨S256, .i1⟩
  | .hbm, ⟨28, _⟩ => ⟨S256, .i1⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S_, .i32⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S1x256x1, .f32⟩
  | .hbm, ⟨59, _⟩ => ⟨S3000x128x1, .f32⟩
  | .hbm, ⟨60, _⟩ => ⟨S3000x128, .f32⟩
  | .hbm, ⟨61, _⟩ => ⟨S3000x1x128, .f32⟩
  | .hbm, ⟨62, _⟩ => ⟨S3000x256x128, .f32⟩
  | .hbm, ⟨63, _⟩ => ⟨S3000x256x128, .f32⟩
  | .hbm, ⟨64, _⟩ => ⟨S3000x256x128, .f32⟩
  | .hbm, ⟨65, _⟩ => ⟨S1x256x1, .f32⟩
  | .hbm, ⟨66, _⟩ => ⟨S3000x128x1, .f32⟩
  | .hbm, ⟨67, _⟩ => ⟨S3000x128, .f32⟩
  | .hbm, ⟨68, _⟩ => ⟨S3000x1x128, .f32⟩
  | .hbm, ⟨69, _⟩ => ⟨S3000x256x128, .f32⟩
  | .hbm, ⟨70, _⟩ => ⟨S3000x256x128, .f32⟩
  | .hbm, ⟨71, _⟩ => ⟨S3000x256x128, .f32⟩
  | .hbm, ⟨72, _⟩ => ⟨S3000x128x1, .f32⟩
  | .hbm, ⟨73, _⟩ => ⟨S3000x128, .f32⟩
  | .hbm, ⟨74, _⟩ => ⟨S3000x1x128, .f32⟩
  | .hbm, ⟨75, _⟩ => ⟨S3000x128x1, .f32⟩
  | .hbm, ⟨76, _⟩ => ⟨S3000x128, .f32⟩
  | .hbm, ⟨77, _⟩ => ⟨S3000x1x128, .f32⟩
  | .hbm, ⟨78, _⟩ => ⟨S3000x128x1, .f32⟩
  | .hbm, ⟨79, _⟩ => ⟨S3000x128, .f32⟩
  | .hbm, ⟨80, _⟩ => ⟨S3000x1x128, .f32⟩
  | .hbm, ⟨81, _⟩ => ⟨S3000x256x128, .f32⟩
  | .hbm, ⟨82, _⟩ => ⟨S3000x256x128, .f32⟩
  | .hbm, ⟨83, _⟩ => ⟨S3000x256x128, .f32⟩
  | .hbm, ⟨84, _⟩ => ⟨S3000x256x128, .f32⟩
  | .hbm, ⟨85, _⟩ => ⟨S3000x256x128, .f32⟩
  | .hbm, ⟨86, _⟩ => ⟨S3000x256x128, .f32⟩
  | .hbm, ⟨87, _⟩ => ⟨S3000x256x128, .f32⟩
  | .hbm, ⟨88, _⟩ => ⟨S_, .f32⟩
  | .hbm, ⟨89, _⟩ => ⟨S3000x256x128, .f32⟩
  | .hbm, ⟨90, _⟩ => ⟨S3000x256x128, .f32⟩
  | .hbm, ⟨91, _⟩ => ⟨S3000x256x128, .f32⟩
  | .hbm, ⟨92, _⟩ => ⟨S3000x256x128, .f32⟩
  | .hbm, ⟨93, _⟩ => ⟨S3000x256x128, .f32⟩
  | .hbm, ⟨94, _⟩ => ⟨S3000x256x128, .f32⟩
  | .hbm, ⟨95, _⟩ => ⟨S3000x1x128, .f32⟩
  | .hbm, ⟨96, _⟩ => ⟨S3000x256x128, .f32⟩
  | .hbm, ⟨97, _⟩ => ⟨S3000x256x128, .f32⟩
  | .hbm, ⟨98, _⟩ => ⟨S3000x256x128, .f32⟩
  | .hbm, ⟨99, _⟩ => ⟨S_, .f32⟩
  | .hbm, ⟨100, _⟩ => ⟨S3000x256x128, .f32⟩
  | .hbm, ⟨101, _⟩ => ⟨S3000x256x128, .f32⟩
  | .hbm, ⟨102, _⟩ => ⟨S128, .i32⟩
  | .hbm, ⟨103, _⟩ => ⟨S1x1x128, .i32⟩
  | .hbm, ⟨104, _⟩ => ⟨S3000x1x1, .i32⟩
  | .hbm, ⟨105, _⟩ => ⟨S3000x1x128, .i32⟩
  | .hbm, ⟨106, _⟩ => ⟨S3000x1x128, .i32⟩
  | .hbm, ⟨107, _⟩ => ⟨S3000x1x128, .i1⟩
  | .hbm, ⟨108, _⟩ => ⟨S_, .f32⟩
  | .hbm, ⟨109, _⟩ => ⟨S_, .f32⟩
  | .hbm, ⟨110, _⟩ => ⟨S3000x256x128, .i1⟩
  | .hbm, ⟨111, _⟩ => ⟨S3000x256x128, .f32⟩
  | .hbm, ⟨112, _⟩ => ⟨S3000x256x128, .f32⟩
  | .hbm, ⟨113, _⟩ => ⟨S3000x256x128, .f32⟩
  | .hbm, ⟨114, _⟩ => ⟨S3000x256x128, .f32⟩
  | .hbm, ⟨115, _⟩ => ⟨S_, .f32⟩
  | .hbm, ⟨116, _⟩ => ⟨S_, .f32⟩
  | .hbm, ⟨117, _⟩ => ⟨S3000x256x128, .f32⟩
  | .hbm, ⟨118, _⟩ => ⟨S3000x256x128, .f32⟩
  | .hbm, ⟨119, _⟩ => ⟨S3000x256x128, .f32⟩
  | .hbm, ⟨120, _⟩ => ⟨S3000x256x128, .f32⟩
  | .hbm, ⟨121, _⟩ => ⟨S64x384, .fp8e4m3⟩
  | .hbm, ⟨122, _⟩ => ⟨S3000x256x384, .bf16⟩
  | .hbm, ⟨123, _⟩ => ⟨S3000x64x256, .fp8e4m3⟩
  | .hbm, ⟨124, _⟩ => ⟨S3000x256, .f32⟩
  | .local _ .vmem, ⟨0, _⟩ => ⟨S3000x256x128, .f32⟩
  | .local _ .vmem, ⟨1, _⟩ => ⟨S3000x128x64, .fp8e4m3⟩
  | .local _ .vmem, ⟨2, _⟩ => ⟨S64, .f32⟩
  | .local _ .vmem, ⟨3, _⟩ => ⟨S64x384, .fp8e4m3⟩
  | .local _ .vmem, ⟨4, _⟩ => ⟨S384, .f32⟩
  | .local _ .vmem, ⟨5, _⟩ => ⟨S384, .f32⟩
  | .local _ .vmem, ⟨6, _⟩ => ⟨S3000x256x384, .bf16⟩
  | .local _ .vmem, ⟨7, _⟩ => ⟨S3000x64x256, .fp8e4m3⟩
  | .local _ .vmem, ⟨8, _⟩ => ⟨S3000x256, .f32⟩
  | _, _ => ⟨S3000x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v1 : Ref sig .tc := ⟨.hbm, 31, rfl⟩
abbrev main_v2 : Ref sig .tc := ⟨.hbm, 32, rfl⟩
abbrev main_cst : Ref sig .tc := ⟨.hbm, 33, rfl⟩
abbrev main_v3 : Ref sig .tc := ⟨.hbm, 34, rfl⟩
abbrev main_v4 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v5 : Ref sig .tc := ⟨.hbm, 53, rfl⟩
abbrev main_v6 : Ref sig .tc := ⟨.hbm, 54, rfl⟩
abbrev main_cst_1 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_2 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_3 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_4 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_call3_cst : Ref sig .tc := ⟨.hbm, 115, rfl⟩
abbrev main_call3_v0 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65_0 : Ref sig .tc := ⟨.hbm, 122, rfl⟩
abbrev main_v65_1 : Ref sig .tc := ⟨.hbm, 123, rfl⟩
abbrev main_v65_2 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S3000x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3000x128x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3000x256x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3000x64x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3000x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Loops.lean ====
module

public import Idealize.SL.Sem.Prog

@[expose] public section

namespace Cert.Loops

open Idealize.SL.Sem

/-- The last `n` of `N` rounds of a counted loop with a carried value: round `k` takes the value the round before left. -/
def loopTo {E : Type → Type} {σ : Type} {N : Nat} (f : Fin N → σ → Prog E σ) : (n : Nat) → n ≤ N → σ → Prog E σ
  | 0, _, s => pure s
  | n + 1, h, s => f ⟨N - (n + 1), by omega⟩ s >>= fun s' => loopTo f n (by omega) s'

end Cert.Loops
-- ==== Proof.KernelBody.lean ====
module

public import proofs.«01_k».proof.Proof.Gen.Kernel.Skeleton
public import proofs.«01_k».proof.Proof.Loops
import Idealize.ShloMosaic.Lib.Pipeline.Regions

@[expose] public section

set_option maxRecDepth 16384

noncomputable section

namespace Cert.Kernel.Hand

open Idealize.ShloMosaic Idealize.ShloMosaic.TcCoe
open Idealize.SL.Sem
open Cert.Kernel Cert.Kernel.Gen

open Cert.Loops

variable {F : FTy → Type} [BitOps F]

/-! ## The kernel body as a program with loops

The printed body is one straight line of some five thousand statements. Here the same program is written with the
loops of its source: one loop over the eight tiles of a block for the powers and opacities, one over the 128
Gaussians of a list for each half of the pixels, one over the eight tiles for the codes and the two products. That
it is the printed body is `splat_pos` / `splat_neg`, by definitional unfolding. -/

/-- A number with the low 16 bits of its pattern cleared. -/
def trunc16 {S : Shape} (x : FVec F S .f32) : FVec F S .f32 :=
  bitcastToFloat .f32 (andi (bitcastToInt x) (broadcast S 4294901760#32))
/-- The constant log2 e. -/
def cLog2e : F .f32 := Scalar.ofBits .f32 0x3FB8AA3B#32
/-- The power of a Gaussian that adds nothing. -/
def cNever : F .f32 := Scalar.ofBits .f32 0xF149F2CA#32

/-- The body's grid point and memrefs. -/
structure Args where
  i : grid0.Coords
  arg1 : Memref sig .tc .smem S3000 .i32
  harg1 : arg1.IsWhole
  arg2 : Memref sig .tc .vmem S8x2x128 .f32
  harg2 : arg2.IsWhole
  arg3 : Memref sig .tc .vmem S3x8x128 .f32
  harg3 : arg3.IsWhole
  arg4 : Memref sig .tc .vmem S8x128 .f32
  harg4 : arg4.IsWhole
  arg5 : Memref sig .tc .vmem S8x64x128 .fp8e4m3
  harg5 : arg5.IsWhole
  arg6 : Memref sig .tc .vmem S24x256 .f32
  harg6 : arg6.IsWhole
  arg7 : Memref sig .tc .vmem S1x64 .f32
  harg7 : arg7.IsWhole
  arg8 : Memref sig .tc .vmem S64x384 .fp8e4m3
  harg8 : arg8.IsWhole
  arg9 : Memref sig .tc .vmem S1x384 .f32
  harg9 : arg9.IsWhole
  arg10 : Memref sig .tc .vmem S1x384 .f32
  harg10 : arg10.IsWhole
  arg11 : Memref sig .tc .vmem S8x256x384 .bf16
  harg11 : arg11.IsWhole
  arg12 : Memref sig .tc .vmem S8x64x256 .fp8e4m3
  harg12 : arg12.IsWhole
  arg13 : Memref sig .tc .vmem S8x256 .f32
  harg13 : arg13.IsWhole
  arg14 : Memref sig .tc .vmem S192x128 .f32
  harg14 : arg14.IsWhole
  arg15 : Memref sig .tc .vmem S2x1152x128 .f32
  harg15 : arg15.IsWhole
  arg16 : Memref sig .tc .vmem S2x8x128 .f32
  harg16 : arg16.IsWhole
  arg17 : Memref sig .tc .vmem S2x8x128 .f32
  harg17 : arg17.IsWhole
  arg18 : Memref sig .tc .vmem S64x128 .f32
  harg18 : arg18.IsWhole
  arg19 : Memref sig .tc .vmem S256x384 .bf16
  harg19 : arg19.IsWhole

/-- The printed body, at a bundle of arguments. -/
def splat (A : Args) : Prog (TpuEff nD τ sig (Elt F) Λ₀ .tc) PUnit :=
  cc0_splat A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19

/-! ### Accesses -/

/-- Programs of the body. -/
abbrev PP (F : FTy → Type) : Type → Type 1 := Prog (TpuEff nD τ sig (Elt F) Λ₀ .tc)

variable {s : Shape} {e : EltTy}

/-- Read a rectangle. -/
def rd (a : Memref sig .tc .vmem s e) (r : Rect s) (h : 0 < r.shape.numel) : PP F (r.shape.Idx → Elt F e) :=
  Prog.lift (.load a r.toLoadRect (View.loadsAt_vmem h))

/-- Read a rectangle, then store to it (what was read is not used). -/
def wr (a : Memref sig .tc .vmem s e) (r : Rect s) (w : r.shape.Idx → Elt F e) (h : 0 < r.shape.numel)
    (hs : (a.access r).Stores Finset.univ) : PP F PUnit :=
  rd a r h >>= fun _ => Prog.lift (.store a r w Finset.univ hs (.inl rfl))

/-! ### The rectangles that depend on a loop variable -/

/-- Row `p` of a block of 24 rows, in each of the eight blocks. -/
abbrev rCoef (p : Nat) (h : p < 24) : Rect S192x128 :=
  ⟨⟨![p, 0], S8x128.size, ![24, 1], by
    intro a; right; match a with
    | 0 => show p + 24 * (8 - 1) < 192; omega
    | 1 => show 0 + 1 * (128 - 1) < 128; omega⟩, spos_24_1⟩
/-- The block of 24 rows of tile `b`. -/
abbrev rTile (b : Fin 8) : Rect S192x128 :=
  Rect.unit (s := S192x128) ![24 * b.val, 0] S24x128.size (by
    intro a; match a with
    | 0 => show 24 * b.val + 24 ≤ 192; omega
    | 1 => exact Nat.le_refl _)
/-- Half `h` of the opacities, -/
abbrev rHalf (h : Fin 2) : Rect S2x1152x128 :=
  Rect.unit (s := S2x1152x128) ![h.val, 0, 0] S1x1152x128.size (by
    intro a; match a with
    | 0 => show h.val + 1 ≤ 2; omega
    | 1 => exact Nat.le_refl _
    | 2 => exact Nat.le_refl _)
/-- and in it the rows of tile `b`: every ninth. -/
abbrev rEvery (b : Fin 8) : Rect S1152x128 :=
  ⟨⟨![b.val, 0], S128x128.size, ![9, 1], by
    intro a; right; match a with
    | 0 => show b.val + 9 * (128 - 1) < 1152; omega
    | 1 => show 0 + 1 * (128 - 1) < 128; omega⟩, spos_9_1⟩
/-- The eight rows of Gaussian `k` in half `h`. -/
abbrev rGauss (h : Fin 2) (k : Fin 128) : Rect S2x1152x128 :=
  Rect.unit (s := S2x1152x128) ![h.val, 9 * k.val, 0] S1x8x128.size (by
    intro a; match a with
    | 0 => show h.val + 1 ≤ 2; omega
    | 1 => show 9 * k.val + 8 ≤ 1152; omega
    | 2 => exact Nat.le_refl _)
/-- Half `h` of the scales, -/
abbrev rScale (h : Fin 2) : Rect S2x8x128 :=
  Rect.unit (s := S2x8x128) ![h.val, 0, 0] S1x8x128.size (by
    intro a; match a with
    | 0 => show h.val + 1 ≤ 2; omega
    | 1 => exact Nat.le_refl _
    | 2 => exact Nat.le_refl _)
/-- and in it the row of tile `b`. -/
abbrev rScaleRow (h : Fin 2) (b : Fin 8) : Rect S2x8x128 :=
  Rect.unit (s := S2x8x128) ![h.val, b.val, 0] S1x1x128.size (by
    intro a; match a with
    | 0 => show h.val + 1 ≤ 2; omega
    | 1 => show b.val + 1 ≤ 8; omega
    | 2 => exact Nat.le_refl _)
/-- Tile `b` of the features, -/
abbrev rFeat (b : Fin 8) : Rect S8x64x128 :=
  Rect.unit (s := S8x64x128) ![b.val, 0, 0] S1x64x128.size (by
    intro a; match a with
    | 0 => show b.val + 1 ≤ 8; omega
    | 1 => exact Nat.le_refl _
    | 2 => exact Nat.le_refl _)
/-- of the feature codes, -/
abbrev rCodes (b : Fin 8) : Rect S8x64x256 :=
  Rect.unit (s := S8x64x256) ![b.val, 0, 0] S1x64x256.size (by
    intro a; match a with
    | 0 => show b.val + 1 ≤ 8; omega
    | 1 => exact Nat.le_refl _
    | 2 => exact Nat.le_refl _)
/-- of their scales -/
abbrev rFs (b : Fin 8) : Rect S8x256 :=
  Rect.unit (s := S8x256) ![b.val, 0] S1x256.size (by
    intro a; match a with
    | 0 => show b.val + 1 ≤ 8; omega
    | 1 => exact Nat.le_refl _)
/-- and of the result. -/
abbrev rY (b : Fin 8) : Rect S8x256x384 :=
  Rect.unit (s := S8x256x384) ![b.val, 0, 0] S1x256x384.size (by
    intro a; match a with
    | 0 => show b.val + 1 ≤ 8; omega
    | 1 => exact Nat.le_refl _
    | 2 => exact Nat.le_refl _)

theorem packed_rCodes : ∀ b : Fin 8, (rCodes b).PackedRows (EltTy.packing .fp8e4m3)
  | 0 => packedfp8e4m3_S8x64x256_S1x64x256_0_0_0 | 1 => packedfp8e4m3_S8x64x256_S1x64x256_1_0_0
  | 2 => packedfp8e4m3_S8x64x256_S1x64x256_2_0_0 | 3 => packedfp8e4m3_S8x64x256_S1x64x256_3_0_0
  | 4 => packedfp8e4m3_S8x64x256_S1x64x256_4_0_0 | 5 => packedfp8e4m3_S8x64x256_S1x64x256_5_0_0
  | 6 => packedfp8e4m3_S8x64x256_S1x64x256_6_0_0 | 7 => packedfp8e4m3_S8x64x256_S1x64x256_7_0_0

theorem packed_rY : ∀ b : Fin 8, (rY b).PackedRows (EltTy.packing .bf16)
  | 0 => packedbf16_S8x256x384_S1x256x384_0_0_0 | 1 => packedbf16_S8x256x384_S1x256x384_1_0_0
  | 2 => packedbf16_S8x256x384_S1x256x384_2_0_0 | 3 => packedbf16_S8x256x384_S1x256x384_3_0_0
  | 4 => packedbf16_S8x256x384_S1x256x384_4_0_0 | 5 => packedbf16_S8x256x384_S1x256x384_5_0_0
  | 6 => packedbf16_S8x256x384_S1x256x384_6_0_0 | 7 => packedbf16_S8x256x384_S1x256x384_7_0_0

/-! ### The values the body computes -/

/-- The first piece of a number: its leading bits; -/
def piece0 {S : Shape} (x : FVec F S .f32) : FVec F S .f32 := trunc16 x
/-- the second: the leading bits of what the first leaves; -/
def piece1 {S : Shape} (x : FVec F S .f32) : FVec F S .f32 := trunc16 (subf x (trunc16 x))
/-- the third: what the two leave. -/
def piece2 {S : Shape} (x : FVec F S .f32) : FVec F S .f32 := subf (subf x (trunc16 x)) (trunc16 (subf x (trunc16 x)))

/-- The power of two below a value's ratio to the largest code, and the flag that the value is zero. -/
def expo {S : Shape} (x : FVec F S .f32) : FVec F S .f32 :=
  floor (mulf (log (mulf x (broadcast S (Scalar.ofBits .f32 0x3B124925#32)))) (broadcast S cLog2e))
def isZero {S : Shape} (x : FVec F S .f32) : IVec S 1 :=
  cmpf .oeq (mulf x (broadcast S (Scalar.ofBits .f32 0x3B124925#32))) (broadcast S (Scalar.ofBits .f32 0x00000000#32))
/-- The scale of the codes of values of greatest absolute value `x`: a power of two; -/
def scaleOf {S : Shape} (x : FVec F S .f32) : FVec F S .f32 :=
  select (isZero x) (broadcast S (Scalar.ofBits .f32 0x3F800000#32))
    (exp2 (addf (expo x) (broadcast S (Scalar.ofBits .f32 0x3F800000#32))))
/-- and its inverse. -/
def invOf {S : Shape} (x : FVec F S .f32) : FVec F S .f32 :=
  select (isZero x) (broadcast S (Scalar.ofBits .f32 0x3F800000#32))
    (exp2 (subf (broadcast S (Scalar.ofBits .f32 0xBF800000#32)) (expo x)))
/-- Codes: clipped to the largest code and rounded to it. -/
def code {S : Shape} (x : FVec F S .f32) : FVec F S .fp8e4m3 :=
  truncf .fp8e4m3 (minimumf (broadcast S (Scalar.ofBits .f32 0x43E00000#32))
    (maximumf (broadcast S (Scalar.ofBits .f32 0xC3E00000#32)) x)) bitsLt_fp8e4m3_f32

/-- The feature scales, one row of 128 columns a scale. -/
def fscOf (v : FVec F S1x64 .f32) : FVec F S64x128 .f32 :=
  shapeCast S64x128 (transpose S64x128 [1, 0] (broadcastTo S128x64 (shapeCast S1x64 (shapeCast S1x64 v shapeCasts_S1x64_S1x64)
    shapeCasts_S1x64_S1x64) broadcasts_S1x64_S128x64) transposes_S128x64_p1_0_S64x128) shapeCasts_S64x128_S64x128

/-- The decoder's codes times their scales. -/
def decOf (w : FVec F S64x384 .fp8e4m3) (d : FVec F S1x384 .f32) : FVec F S64x384 .f32 :=
  mulf (extf .f32 (shapeCast S64x384 w shapeCasts_S64x384_S64x384) bitsLt_fp8e4m3_f32) (broadcastTo S64x384 (shapeCast S1x384 d shapeCasts_S1x384_S1x384) broadcasts_S1x384_S64x384)

/-- A block of 64 rows of the decoder, as it is stored. -/
def augRow (x : FVec F S64x384 .f32) : FVec F S64x384 .bf16 :=
  shapeCast S64x384 (truncf .bf16 x bitsLt_bf16_f32) shapeCasts_S64x384_S64x384

/-- A row of bias, in 64 rows. -/
def biasRow (x : FVec F S1x384 .f32) : FVec F S64x384 .f32 :=
  broadcastTo S64x384 (shapeCast S1x384 x shapeCasts_S1x384_S1x384) broadcasts_S1x384_S64x384
/-- The three pieces of the bias in the first three of 64 rows, zero below. -/
def biasOf (b : FVec F S1x384 .f32) : FVec F S64x384 .f32 :=
  select (cmpi .eq (iota .tc S64x384 32 [0] iota_S64x384_d0_w32) (broadcast S64x384 0#32)) (biasRow (piece0 b))
    (select (cmpi .eq (iota .tc S64x384 32 [0] iota_S64x384_d0_w32) (broadcast S64x384 1#32)) (biasRow (piece1 b))
      (select (cmpi .eq (iota .tc S64x384 32 [0] iota_S64x384_d0_w32) (broadcast S64x384 2#32)) (biasRow (piece2 b))
        (broadcast S64x384 (Scalar.ofBits .f32 0x00000000#32))))

/-- What the first grid point writes. -/
def initBody (A : Args) : PP F PUnit := do
  wr A.arg14 (Rect.unit (s := S192x128) ![0, 0] S192x128.size inb_S192x128_S192x128_0_0)
    (shapeCast S192x128 (broadcast S192x128 (Scalar.ofBits .f32 0x00000000#32)) shapeCasts_S192x128_S192x128)
    h_S192x128 (View.stores_vmem_bits_univ h_S192x128 rfl)
  let v3152 ← rd A.arg7 (Rect.unit (s := S1x64) ![0, 0] S1x64.size inb_S1x64_S1x64_0_0) h_S1x64
  wr A.arg18 (Rect.unit (s := S64x128) ![0, 0] S64x128.size inb_S64x128_S64x128_0_0) (fscOf v3152)
    h_S64x128 (View.stores_vmem_bits_univ h_S64x128 rfl)
  let v3160 ← rd A.arg8 (Rect.unit (s := S64x384) ![0, 0] S64x384.size inb_S64x384_S64x384_0_0) h_S64x384
  let v3162 ← rd A.arg9 (Rect.unit (s := S1x384) ![0, 0] S1x384.size inb_S1x384_S1x384_0_0) h_S1x384
  wr A.arg19 (Rect.unit (s := S256x384) ![0, 0] S256x384.size inb_S256x384_S256x384_0_0)
    (shapeCast S256x384 (broadcast S256x384 (Scalar.ofBits .bf16 0x0000#16)) shapeCasts_S256x384_S256x384)
    h_S256x384 (View.stores_vmem h_S256x384 (A.harg19.storeExact_slice rfl _ packedbf16_S256x384_S256x384_0_0) (fun _ => rfl))
  wr A.arg19 (Rect.unit (s := S256x384) ![0, 0] S64x384.size inb_S256x384_S64x384_0_0) (augRow (piece0 (decOf v3160 v3162)))
    h_S64x384 (View.stores_vmem h_S64x384 (A.harg19.storeExact_slice rfl _ packedbf16_S256x384_S64x384_0_0) (fun _ => rfl))
  wr A.arg19 (Rect.unit (s := S256x384) ![64, 0] S64x384.size inb_S256x384_S64x384_64_0) (augRow (piece1 (decOf v3160 v3162)))
    h_S64x384 (View.stores_vmem h_S64x384 (A.harg19.storeExact_slice rfl _ packedbf16_S256x384_S64x384_64_0) (fun _ => rfl))
  wr A.arg19 (Rect.unit (s := S256x384) ![128, 0] S64x384.size inb_S256x384_S64x384_128_0) (augRow (piece2 (decOf v3160 v3162)))
    h_S64x384 (View.stores_vmem h_S64x384 (A.harg19.storeExact_slice rfl _ packedbf16_S256x384_S64x384_128_0) (fun _ => rfl))
  let v3193 ← rd A.arg10 (Rect.unit (s := S1x384) ![0, 0] S1x384.size inb_S1x384_S1x384_0_0) h_S1x384
  wr A.arg19 (Rect.unit (s := S256x384) ![192, 0] S64x384.size inb_S256x384_S64x384_192_0)
    (augRow (biasOf (shapeCast S1x384 v3193 shapeCasts_S1x384_S1x384)))
    h_S64x384 (View.stores_vmem h_S64x384 (A.harg19.storeExact_slice rfl _ packedbf16_S256x384_S64x384_192_0) (fun _ => rfl))

/-! ### The lists' lengths -/

/-- One word of the table, as a row of the lengths. -/
def lenRow (b : Fin 8) (w : BitVec 32) (lens : IVec S8x128 32) : IVec S8x128 32 :=
  select (cmpi .eq (iota .tc S8x128 32 [0] iota_S8x128_d0_w32) (broadcast S8x128 (BitVec.ofNat 32 b.val)))
    (broadcast S8x128 w) lens

/-- The eight words of the block, one a row. -/
def lensS (A : Args) : PP F (IVec S8x128 32) :=
  loopTo (fun (b : Fin 8) lens => do
    let w : Elt F .i32 ← smemLoad A.arg1 (Rect.unit (s := S3000) (k0_off1 A.i (BitVec.ofNat 32 b.val)) S1.size (k0_off1_inb A.i b)) numel1_S1 rfl
    pure (lenRow b w lens)) 8 (Nat.le_refl _) (broadcast S8x128 0#32)

/-! ### The coefficients of the powers -/

/-- A centre's coordinate from the middle of the tile. -/
def relOf (v : FVec F S8x1x128 .f32) : FVec F S8x128 .f32 :=
  subf (shapeCast S8x128 v shapeCasts_S8x1x128_S8x128) (broadcast S8x128 (Scalar.ofBits .f32 0x41000000#32))
/-- An entry of the conic times log2 e. -/
def conOf (v : FVec F S1x8x128 .f32) : FVec F S8x128 .f32 :=
  mulf (shapeCast S8x128 v shapeCasts_S1x8x128_S8x128) (broadcast S8x128 cLog2e)
/-- The Gaussians that add something. -/
def liveOf (lens : IVec S8x128 32) (op : FVec F S8x128 .f32) : IVec S8x128 1 :=
  andi (cmpi .slt (iota .tc S8x128 32 [1] iota_S8x128_d1_w32) lens)
    (cmpf .ogt op (broadcast S8x128 (Scalar.ofBits .f32 0x00000000#32)))
def gx (u v ca cb : FVec F S8x128 .f32) : FVec F S8x128 .f32 := addf (mulf ca u) (mulf cb v)
def gy (u v cb cc : FVec F S8x128 .f32) : FVec F S8x128 .f32 := addf (mulf cc v) (mulf cb u)
def constOf (u v ca cb cc op : FVec F S8x128 .f32) : FVec F S8x128 .f32 :=
  subf (mulf (log op) (broadcast S8x128 cLog2e))
    (mulf (broadcast S8x128 (Scalar.ofBits .f32 0x3F000000#32)) (addf (mulf (gx u v ca cb) u) (mulf (gy u v cb cc) v)))
/-- A coefficient of a Gaussian that adds something; zero of one that does not. -/
def liveOr0 (live : IVec S8x128 1) (x : FVec F S8x128 .f32) : FVec F S8x128 .f32 :=
  select live x (broadcast S8x128 (Scalar.ofBits .f32 0x00000000#32))
/-- The six coefficients. -/
def coefOf (live : IVec S8x128 1) (u v ca cb cc op : FVec F S8x128 .f32) : Fin 6 → FVec F S8x128 .f32
  | 0 => liveOr0 live (mulf (broadcast S8x128 (Scalar.ofBits .f32 0xBF000000#32)) ca)
  | 1 => liveOr0 live (subf (broadcast S8x128 (Scalar.ofBits .f32 0x00000000#32)) cb)
  | 2 => liveOr0 live (mulf (broadcast S8x128 (Scalar.ofBits .f32 0xBF000000#32)) cc)
  | 3 => liveOr0 live (gx u v ca cb)
  | 4 => liveOr0 live (gy u v cb cc)
  | 5 => select live (constOf u v ca cb cc op) (broadcast S8x128 cNever)

/-- Store the three pieces of coefficient `j`. -/
def storeCoef (A : Args) (j : Fin 6) (c : FVec F S8x128 .f32) : PP F PUnit := do
  wr A.arg14 (rCoef (3 * j.val) (by omega)) (shapeCast S8x128 (piece0 c) shapeCasts_S8x128_S8x128) h_S8x128
    (View.stores_vmem_bits_univ h_S8x128 rfl)
  wr A.arg14 (rCoef (3 * j.val + 1) (by omega)) (shapeCast S8x128 (piece1 c) shapeCasts_S8x128_S8x128) h_S8x128
    (View.stores_vmem_bits_univ h_S8x128 rfl)
  wr A.arg14 (rCoef (3 * j.val + 2) (by omega)) (shapeCast S8x128 (piece2 c) shapeCasts_S8x128_S8x128) h_S8x128
    (View.stores_vmem_bits_univ h_S8x128 rfl)

/-- Compute the coefficients of the block and store their pieces. -/
def coefsS (A : Args) (lens : IVec S8x128 32) : PP F PUnit := do
  let v70 ← rd A.arg2 (Rect.unit (s := S8x2x128) ![0, 0, 0] S8x1x128.size inb_S8x2x128_S8x1x128_0_0_0) h_S8x1x128
  let v74 ← rd A.arg2 (Rect.unit (s := S8x2x128) ![0, 1, 0] S8x1x128.size inb_S8x2x128_S8x1x128_0_1_0) h_S8x1x128
  let v78 ← rd A.arg3 (Rect.unit (s := S3x8x128) ![0, 0, 0] S1x8x128.size inb_S3x8x128_S1x8x128_0_0_0) h_S1x8x128
  let v82 ← rd A.arg3 (Rect.unit (s := S3x8x128) ![1, 0, 0] S1x8x128.size inb_S3x8x128_S1x8x128_1_0_0) h_S1x8x128
  let v86 ← rd A.arg3 (Rect.unit (s := S3x8x128) ![2, 0, 0] S1x8x128.size inb_S3x8x128_S1x8x128_2_0_0) h_S1x8x128
  let v90 ← rd A.arg4 (Rect.unit (s := S8x128) ![0, 0] S8x128.size inb_S8x128_S8x128_0_0) h_S8x128
  loopTo (fun (j : Fin 6) (_ : PUnit) =>
    storeCoef A j (coefOf (liveOf lens v90) (relOf v70) (relOf v74) (conOf v78) (conOf v82) (conOf v86) v90 j)) 6 (Nat.le_refl _) ⟨⟩

/-! ### The opacities -/

/-- The opacities of one tile's Gaussians at its pixels. -/
def alphaOf (coef : FVec F S24x128 .f32) (pix : FVec F S24x256 .f32) : FVec F S128x256 .f32 :=
  minimumf (broadcast S128x256 (Scalar.ofBits .f32 0x3F7D70A4#32))
    (exp2 (matmul dot_S128x24_S24x256_S128x256_1_0_0_1_n_n none (transpose S128x24 [1, 0] coef transposes_S24x128_p1_0_S128x24) pix
      (constant S128x256 .f32 0x00000000#32)))

/-- Half `h` of the opacities' scratch. -/
abbrev half (A : Args) (h : Fin 2) : Memref sig .tc .vmem S1152x128 .f32 :=
  (A.arg15.slice (rHalf h) (fun _ => rfl)).squeeze S1152x128 squeezes_S1x1152x128_S1152x128

/-- Compute the opacities of tile `b` and store each half of them. -/
def alphaS (A : Args) (pix : FVec F S24x256 .f32) (b : Fin 8) : PP F PUnit := do
  let c ← rd A.arg14 (rTile b) h_S24x128
  wr (half A 0) (rEvery b)
    (shapeCast S128x128 (extractStridedSlice S128x128 ![0, 0] (alphaOf c pix) slices_S128x256_o0_0_S128x128) shapeCasts_S128x128_S128x128)
    h_S128x128 (View.stores_vmem_bits_univ h_S128x128 rfl)
  wr (half A 1) (rEvery b)
    (shapeCast S128x128 (extractStridedSlice S128x128 ![0, 128] (alphaOf c pix) slices_S128x256_o0_128_S128x128) shapeCasts_S128x128_S128x128)
    h_S128x128 (View.stores_vmem_bits_univ h_S128x128 rfl)

/-! ### The weights -/

/-- What is left of the light, and the greatest weight, after a Gaussian of weight `w`. -/
def scanNext (w : FVec F S8x128 .f32) (s : FVec F S8x128 .f32 × FVec F S8x128 .f32) : FVec F S8x128 .f32 × FVec F S8x128 .f32 :=
  ⟨subf s.1 w, maximumf s.2 w⟩
/-- The weight of a Gaussian of opacities `a` behind which `t` of the light is left. -/
def weight (a : FVec F S1x8x128 .f32) (t : FVec F S8x128 .f32) : FVec F S8x128 .f32 :=
  mulf (shapeCast S8x128 a shapeCasts_S1x8x128_S8x128) t

/-- One Gaussian of half `h`: its opacities become weights. -/
def scanStep (A : Args) (h : Fin 2) (k : Fin 128) (s : FVec F S8x128 .f32 × FVec F S8x128 .f32) :
    PP F (FVec F S8x128 .f32 × FVec F S8x128 .f32) := do
  let a ← rd A.arg15 (rGauss h k) h_S1x8x128
  wr A.arg15 (rGauss h k) (shapeCast S1x8x128 (weight a s.1) shapeCasts_S8x128_S1x8x128) h_S1x8x128
    (View.stores_vmem_bits_univ h_S1x8x128 rfl)
  pure (scanNext (weight a s.1) s)

/-- Before any Gaussian: all of the light, and no weight. -/
def scan0 : FVec F S8x128 .f32 × FVec F S8x128 .f32 :=
  ⟨broadcast S8x128 (Scalar.ofBits .f32 0x3F800000#32), broadcast S8x128 (Scalar.ofBits .f32 0x00000000#32)⟩

/-- The weights of half `h`, their scale and its inverse. -/
def scanS (A : Args) (h : Fin 2) : PP F PUnit := do
  let s ← loopTo (scanStep A h) 128 (Nat.le_refl _) scan0
  wr A.arg16 (rScale h) (shapeCast S1x8x128 (scaleOf s.2) shapeCasts_S8x128_S1x8x128) h_S1x8x128
    (View.stores_vmem_bits_univ h_S1x8x128 rfl)
  wr A.arg17 (rScale h) (shapeCast S1x8x128 (invOf s.2) shapeCasts_S8x128_S1x8x128) h_S1x8x128
    (View.stores_vmem_bits_univ h_S1x8x128 rfl)

/-! ### The codes and the products -/

/-- Three rows of ones, and zeros below: what the bias is multiplied by. -/
def onesOf : FVec F S64x256 .bf16 :=
  truncf .bf16 (select (cmpi .slt (iota .tc S64x256 32 [0] iota_S64x256_d0_w32) (broadcast S64x256 3#32))
    (broadcast S64x256 (Scalar.ofBits .f32 0x3F800000#32)) (broadcast S64x256 (Scalar.ofBits .f32 0x00000000#32))) bitsLt_bf16_f32

/-- The codes of one half's weights. -/
def wCode (w : FVec F S128x128 .f32) (inv : FVec F S1x1x128 .f32) : FVec F S128x128 .fp8e4m3 :=
  code (mulf w (broadcastTo S128x128 (shapeCast S1x128 inv shapeCasts_S1x1x128_S1x128) broadcasts_S1x128_S128x128))

/-- The feature map of a tile. -/
def featOf (w0 w1 : FVec F S128x128 .f32) (i0 i1 : FVec F S1x1x128 .f32) (fe : FVec F S1x64x128 .fp8e4m3)
    (s0 s1 : FVec F S1x1x128 .f32) (fsc : FVec F S64x128 .f32) : FVec F S64x256 .f32 :=
  mulf (mulf (matmul dot_S64x128_S128x256_S64x256_1_0_0_1_n_n none (shapeCast S64x128 fe shapeCasts_S1x64x128_S64x128)
      (concatenate S128x256 1 [⟨S128x128, wCode w0 i0⟩, ⟨S128x128, wCode w1 i1⟩] concatenates_S128x128_S128x128_S128x256_d1)
      (constant S64x256 .f32 0x00000000#32))
    (broadcastTo S64x256 (concatenate S1x256 1 [⟨S1x128, shapeCast S1x128 s0 shapeCasts_S1x1x128_S1x128⟩,
      ⟨S1x128, shapeCast S1x128 s1 shapeCasts_S1x1x128_S1x128⟩] concatenates_S1x128_S1x128_S1x256_d1) broadcasts_S1x256_S64x256))
    (concatenate S64x256 1 [⟨S64x128, fsc⟩, ⟨S64x128, fsc⟩] concatenates_S64x128_S64x128_S64x256_d1)

/-- The greatest absolute value of each pixel's features. -/
def amaxOf (x : FVec F S64x256 .f32) : FVec F S1x256 .f32 :=
  shapeCast S1x256 (multiReduction .maximumf [0] S256 (absf x) 0xFF800000#32 reduces_S64x256_S256 (.inl rfl) rfl) shapeCasts_S256_S1x256

/-- The feature codes of a tile, -/
def fCode (x : FVec F S64x256 .f32) : FVec F S64x256 .fp8e4m3 :=
  code (mulf x (broadcastTo S64x256 (invOf (amaxOf x)) broadcasts_S1x256_S64x256))

/-- what they stand for, -/
def deqOf (x : FVec F S64x256 .f32) : FVec F S64x256 .bf16 :=
  mulf (extf .bf16 (fCode x) bitsLt_fp8e4m3_bf16)
    (broadcastTo S64x256 (truncf .bf16 (scaleOf (amaxOf x)) bitsLt_bf16_f32) broadcasts_S1x256_S64x256)

/-- and their product with the decoder. -/
def yOf (x : FVec F S64x256 .f32) (aug : FVec F S256x384 .bf16) : FVec F S256x384 .bf16 :=
  truncf .bf16 (matmul dot_S256x256_S256x384_S256x384_1_0_0_1_n_n none
    (transpose S256x256 [1, 0] (concatenate S256x256 0 [⟨S64x256, deqOf x⟩, ⟨S64x256, deqOf x⟩, ⟨S64x256, deqOf x⟩, ⟨S64x256, onesOf⟩]
      concatenates_S64x256_S64x256_S64x256_S64x256_S256x256_d0) transposes_S256x256_p1_0_S256x256)
    aug (constant S256x384 .f32 0x00000000#32)) bitsLt_bf16_f32

/-- One tile: its codes, their scales, its result. -/
def tileS (A : Args) (b : Fin 8) : PP F PUnit := do
  let w0 ← rd (half A 0) (rEvery b) h_S128x128
  let i0 ← rd A.arg17 (rScaleRow 0 b) h_S1x1x128
  let w1 ← rd (half A 1) (rEvery b) h_S128x128
  let i1 ← rd A.arg17 (rScaleRow 1 b) h_S1x1x128
  let fe ← rd A.arg5 (rFeat b) h_S1x64x128
  let s0 ← rd A.arg16 (rScaleRow 0 b) h_S1x1x128
  let s1 ← rd A.arg16 (rScaleRow 1 b) h_S1x1x128
  let fsc ← rd A.arg18 (Rect.unit (s := S64x128) ![0, 0] S64x128.size inb_S64x128_S64x128_0_0) h_S64x128
  wr A.arg12 (rCodes b) (shapeCast S1x64x256 (fCode (featOf w0 w1 i0 i1 fe s0 s1 fsc)) shapeCasts_S64x256_S1x64x256)
    h_S1x64x256 (View.stores_vmem h_S1x64x256 (A.harg12.storeExact_slice rfl _ (packed_rCodes b)) (fun _ => rfl))
  wr A.arg13 (rFs b) (scaleOf (amaxOf (featOf w0 w1 i0 i1 fe s0 s1 fsc))) h_S1x256 (View.stores_vmem_bits_univ h_S1x256 rfl)
  let aug ← rd A.arg19 (Rect.unit (s := S256x384) ![0, 0] S256x384.size inb_S256x384_S256x384_0_0) h_S256x384
  wr A.arg11 (rY b) (shapeCast S1x256x384 (yOf (featOf w0 w1 i0 i1 fe s0 s1 fsc) aug) shapeCasts_S256x384_S1x256x384)
    h_S1x256x384 (View.stores_vmem h_S1x256x384 (A.harg11.storeExact_slice rfl _ (packed_rY b)) (fun _ => rfl))

/-! ### The body -/

/-- What every grid point does. -/
def body (A : Args) : PP F PUnit := do
  let lens ← lensS A
  coefsS A lens
  let pix ← rd A.arg6 (Rect.unit (s := S24x256) ![0, 0] S24x256.size inb_S24x256_S24x256_0_0) h_S24x256
  loopTo (fun b (_ : PUnit) => alphaS A pix b) 8 (Nat.le_refl _) ⟨⟩
  loopTo (fun h (_ : PUnit) => scanS A h) 2 (Nat.le_refl _) ⟨⟩
  loopTo (fun b (_ : PUnit) => tileS A b) 8 (Nat.le_refl _) ⟨⟩

/-- The condition under which a grid point writes the scratch that the others read. -/
abbrev isFirst (i : grid0.Coords) : Prop :=
  Scalar.cmpi .ne (Scalar.extui (Scalar.cmpi .eq (BitVec.ofNat 32 (i 0).val) 0#32)) 0#32 = 1#1

/-- The first grid point's body is the program above after its first part. -/
theorem splat_pos (A : Args) (h : isFirst A.i) : splat (F := F) A = (initBody A >>= fun _ => body A) := by
  unfold splat cc0_splat k0_part96
  simp only [k0_part2, dif_pos h]
  chain_rfl

/-- Every other grid point's body is the program above. -/
theorem splat_neg (A : Args) (h : ¬ isFirst A.i) : splat (F := F) A = body A := by
  unfold splat cc0_splat k0_part96
  simp only [k0_part2, dif_neg h]
  chain_rfl

end Cert.Kernel.Hand

end
-- ==== Proof.KernelKit.lean ====
module

public import proofs.«01_k».proof.Proof.Gen.Kernel.Launch
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! # The pipeline of the kernel

What the proofs about the kernel share of its launch: at which points a window is fetched and written back, the staging
memrefs, the contents of the arrays when the region is entered, each window's block, the table. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]
/-! ## The pipeline: fetches, write-backs and the staging memrefs -/

/-- Window 0 is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 1 (fun _ => rfl) (by decide)) (P := 1) (by decide) t).mpr (Nat.mod_one _) : ∀ t : Fin grid0.N, Pipeline.Window.fetchOf grid0 false cc0_transform_1 t = true)
/-- Window 2 is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 is fetched at the first point only, at any contents of the tables (its index map reads none). -/
theorem fetch0_4 (a : (pcfg0 (F := F)).Adm) : ∀ t : Fin (cfg0 a).N, ((cfg0 a).win 4).fetch t = true ↔ t.val % 375 = 0 :=
  (fun t => Pipeline.Window.fetchOf_const cc0_transform_4 (fun _ _ => rfl) (n := 375) (by decide) t : ∀ t : Fin grid0.N, Pipeline.Window.fetchOf grid0 false cc0_transform_4 t = true ↔ t.val % 375 = 0)
/-- Window 5 is fetched at the first point only, at any contents of the tables (its index map reads none). -/
theorem fetch0_5 (a : (pcfg0 (F := F)).Adm) : ∀ t : Fin (cfg0 a).N, ((cfg0 a).win 5).fetch t = true ↔ t.val % 375 = 0 :=
  (fun t => Pipeline.Window.fetchOf_const cc0_transform_5 (fun _ _ => rfl) (n := 375) (by decide) t : ∀ t : Fin grid0.N, Pipeline.Window.fetchOf grid0 false cc0_transform_5 t = true ↔ t.val % 375 = 0)
/-- Window 6 is fetched at the first point only, at any contents of the tables (its index map reads none). -/
theorem fetch0_6 (a : (pcfg0 (F := F)).Adm) : ∀ t : Fin (cfg0 a).N, ((cfg0 a).win 6).fetch t = true ↔ t.val % 375 = 0 :=
  (fun t => Pipeline.Window.fetchOf_const cc0_transform_6 (fun _ _ => rfl) (n := 375) (by decide) t : ∀ t : Fin grid0.N, Pipeline.Window.fetchOf grid0 false cc0_transform_6 t = true ↔ t.val % 375 = 0)
/-- Window 7 is fetched at the first point only, at any contents of the tables (its index map reads none). -/
theorem fetch0_7 (a : (pcfg0 (F := F)).Adm) : ∀ t : Fin (cfg0 a).N, ((cfg0 a).win 7).fetch t = true ↔ t.val % 375 = 0 :=
  (fun t => Pipeline.Window.fetchOf_const cc0_transform_7 (fun _ _ => rfl) (n := 375) (by decide) t : ∀ t : Fin grid0.N, Pipeline.Window.fetchOf grid0 false cc0_transform_7 t = true ↔ t.val % 375 = 0)
/-- Window 8 is fetched at the first point only, at any contents of the tables (its index map reads none). -/
theorem fetch0_8 (a : (pcfg0 (F := F)).Adm) : ∀ t : Fin (cfg0 a).N, ((cfg0 a).win 8).fetch t = true ↔ t.val % 375 = 0 :=
  (fun t => Pipeline.Window.fetchOf_const cc0_transform_8 (fun _ _ => rfl) (n := 375) (by decide) t : ∀ t : Fin grid0.N, Pipeline.Window.fetchOf grid0 false cc0_transform_8 t = true ↔ t.val % 375 = 0)
/-- Window 9 is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)
/-- Window 10 is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_splat (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` . -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation before the region writes: the region finds it as launched. -/
theorem V_of_unwritten (c : Dev nD) (b : Ref sig .tc)
    (h : (hostOps0 (F := F)).Forall fun op => Proc.devRef (τ := τ) .tc b ∉ op.writes) : V m c b = m ((c : Thread nD τ).loc b) :=
  StableHlo.after_of_forall_not_mem (b := Proc.devRef .tc b) _ _ (List.forall_iff_forall_mem.mp h)
/-- The arguments are such buffers. -/
theorem unwritten (b : Ref sig .tc) (h : b = main_arg0 ∨ b = main_arg1 ∨ b = main_arg2 ∨ b = main_arg3 ∨ b = main_arg4 ∨ b = main_arg5
      ∨ b = main_arg6 ∨ b = main_arg7 ∨ b = main_arg8) :
    (hostOps0 (F := F)).Forall fun op => Proc.devRef (τ := τ) .tc b ∉ op.writes := by
  simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_⟩
  all_goals
    rcases h with rfl | rfl | rfl | rfl | rfl | rfl | rfl | rfl | rfl <;> exact StableHlo.devRef_ne_of_ne (by decide)
theorem V_main_arg0 (c : Dev nD) : V m c main_arg0 = m ((c : Thread nD τ).loc main_arg0) := V_of_unwritten m c _ (unwritten _ (by simp))
theorem V_main_arg1 (c : Dev nD) : V m c main_arg1 = m ((c : Thread nD τ).loc main_arg1) := V_of_unwritten m c _ (unwritten _ (by simp))
theorem V_main_arg2 (c : Dev nD) : V m c main_arg2 = m ((c : Thread nD τ).loc main_arg2) := V_of_unwritten m c _ (unwritten _ (by simp))
theorem V_main_arg3 (c : Dev nD) : V m c main_arg3 = m ((c : Thread nD τ).loc main_arg3) := V_of_unwritten m c _ (unwritten _ (by simp))
theorem V_main_arg4 (c : Dev nD) : V m c main_arg4 = m ((c : Thread nD τ).loc main_arg4) := V_of_unwritten m c _ (unwritten _ (by simp))
theorem V_main_arg5 (c : Dev nD) : V m c main_arg5 = m ((c : Thread nD τ).loc main_arg5) := V_of_unwritten m c _ (unwritten _ (by simp))
theorem V_main_arg6 (c : Dev nD) : V m c main_arg6 = m ((c : Thread nD τ).loc main_arg6) := V_of_unwritten m c _ (unwritten _ (by simp))
theorem V_main_arg7 (c : Dev nD) : V m c main_arg7 = m ((c : Thread nD τ).loc main_arg7) := V_of_unwritten m c _ (unwritten _ (by simp))
theorem V_main_arg8 (c : Dev nD) : V m c main_arg8 = m ((c : Thread nD τ).loc main_arg8) := V_of_unwritten m c _ (unwritten _ (by simp))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3000 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for any proof data whose
    array is `V`'s and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.Runs.lean ====
module

public import Idealize.ShloMosaic.Lib.Pipeline.FrameBody
public import proofs.«01_k».proof.Proof.Loops

@[expose] public section

noncomputable section

/-! # Runs of a program over a family of memrefs

A program that only loads and stores, over a family of memrefs each held at known contents: `Runs p s a s'` says that
from the contents `s` it returns `a` and leaves the contents `s'`. Contents are functions, a load is a composition, a
store is `put`; a counted loop runs by its rounds. -/

namespace Cert.Loops

open Idealize.ShloMosaic Idealize.SL Idealize.SL.RA Idealize.SL.BI
open scoped Idealize.SL.BI
open Idealize.SL.BI.BIBase Idealize.SL.BI.Laws Idealize.SL.ProofMode Idealize.SL.Sem

/-- The memrefs of the kernel's body: the table, the nine operands, the three results, the six scratch buffers. -/
inductive Slot
  | m1 | m2 | m3 | m4 | m5 | m6 | m7 | m8 | m9 | m10 | m11 | m12 | m13 | m14 | m15 | m16 | m17 | m18 | m19
  deriving DecidableEq

instance : Fintype Slot := ⟨{.m1, .m2, .m3, .m4, .m5, .m6, .m7, .m8, .m9, .m10, .m11, .m12, .m13, .m14, .m15, .m16, .m17, .m18, .m19}, fun j => by cases j <;> decide⟩

/-- The memrefs the body only reads. -/
def Slot.input : Slot → Bool
  | .m1 | .m2 | .m3 | .m4 | .m5 | .m6 | .m7 | .m8 | .m9 | .m10 => true
  | _ => false

/-- All of them conjoined, one by one. -/
theorem bigSep_slot {P : Type} [URA P] (Φ : Slot → sProp P) :
    bigSep Finset.univ Φ = iprop(Φ .m1 ∗ Φ .m2 ∗ Φ .m3 ∗ Φ .m4 ∗ Φ .m5 ∗ Φ .m6 ∗ Φ .m7 ∗ Φ .m8 ∗ Φ .m9 ∗ Φ .m10 ∗ Φ .m11 ∗ Φ .m12 ∗ Φ .m13 ∗ Φ .m14 ∗ Φ .m15 ∗ Φ .m16 ∗ Φ .m17 ∗ Φ .m18 ∗ Φ .m19) :=
  bigSep_univ_eq_bigSepL [Slot.m1, .m2, .m3, .m4, .m5, .m6, .m7, .m8, .m9, .m10, .m11, .m12, .m13, .m14, .m15, .m16, .m17, .m18, .m19] (by decide) (by decide) Φ

/-! ## Contents after a store -/

/-- The function `X` with the values `w` at the places `e`. -/
def put {α β γ : Type} (e : α → β) (X : β → γ) (w : α → γ) : β → γ := by
  classical exact fun y => if h : ∃ a, e a = y then w h.choose else X y

theorem put_at {α β γ : Type} {e : α → β} (he : Function.Injective e) (X : β → γ) (w : α → γ) (a : α) :
    put e X w (e a) = w a := by
  have h : ∃ a', e a' = e a := ⟨a, rfl⟩
  unfold put
  rw [dif_pos h]; exact congrArg w (he h.choose_spec)

theorem put_off {α β γ : Type} {e : α → β} (X : β → γ) (w : α → γ) {y : β} (h : ∀ a, e a ≠ y) : put e X w y = X y := by
  unfold put; rw [dif_neg]; rintro ⟨a, ha⟩; exact h a ha

variable {nD : Nat} {τ : Topo} {sig : RefSig} {Val : EltTy → Type}
variable {Λ : Labels}

/-- A view read after a store through another view of the same buffer, whose elements lie in the first at the places `e`. -/
theorem read_write_slice {κ : Kind} {sp : Space} {s : Shape} {el : EltTy} (v : View sig κ sp s el) (r : Rect s)
    (f : v.ty.Contents Val) (w : r.shape.Idx → Val el) :
    v.read Val ((v.slice r).write Val f w Finset.univ) = put r.emb (v.read Val f) w := by
  funext y
  by_cases h : ∃ a, r.emb a = y
  · obtain ⟨a, rfl⟩ := h
    rw [put_at r.emb.injective, View.read_slice_write_emb r f w (Finset.mem_univ a)]
  · rw [put_off _ _ (fun a ha => h ⟨a, ha⟩), View.read_slice_write_of_not_mem]
    simpa using fun a ha => h ⟨a, ha⟩

/-- The places of a rectangle of a squeezed slice in the whole. -/
def within {s s' : Shape} (R : Rect s) (h : s'.numel = R.shape.numel) (r : Rect s') : r.shape.Idx → s.Idx :=
  fun x => R.emb (Shape.reshapeEquiv h (r.emb x))

theorem within_injective {s s' : Shape} (R : Rect s) (h : s'.numel = R.shape.numel) (r : Rect s') :
    Function.Injective (within R h r) :=
  R.emb.injective.comp ((Shape.reshapeEquiv h).injective.comp r.emb.injective)

theorem read_write_within {κ : Kind} {sp : Space} {s s' : Shape} {el : EltTy} (v : View sig κ sp s el) (R : Rect s)
    (h : s'.numel = R.shape.numel) (r : Rect s') (f : v.ty.Contents Val) (w : r.shape.Idx → Val el) :
    v.read Val ((((v.slice R).reshape s' h).slice r).write Val f w Finset.univ) = put (within R h r) (v.read Val f) w := by
  have hemb : ∀ a, v.emb (within R h r a) = (((v.slice R).reshape s' h).slice r).emb a := fun a => rfl
  funext y
  by_cases hy : ∃ a, within R h r a = y
  · obtain ⟨a, rfl⟩ := hy
    rw [put_at (within_injective R h r), View.read_apply, hemb, View.write_emb_of_mem _ _ (Finset.mem_univ a), cast_cast, cast_eq]
  · rw [put_off _ _ (fun a ha => hy ⟨a, ha⟩), View.read_apply, View.read_apply, View.write_of_not_mem]
    intro hm
    obtain ⟨a, -, ha⟩ := Finset.mem_map.mp hm
    exact hy ⟨a, v.emb.injective ha⟩

/-! ## The logic -/

local notation "𝕄" => MT nD τ sig Unit Val ℕ (UR sig nD τ) ℕ

variable {ι : Type} [Fintype ι] [DecidableEq ι] {sp : ι → CoreSpace} {sh : ι → Shape} {el : ι → EltTy}

/-- The contents of a family of memrefs. -/
abbrev St (Val : EltTy → Type) (sh : ι → Shape) (el : ι → EltTy) : Type := ∀ j, (sh j).Idx → Val (el j)

variable (defs : Defs nD τ sig Val Λ) (c : Thread nD τ)
variable (M : ∀ j, Memref sig c.2.kind (sp j) (sh j) (el j)) (q : ι → PosShare TreeShare)

/-- The memrefs held, each at its contents. -/
def Held (s : St Val sh el) : sProp 𝕄 := bigSep Finset.univ fun j => owns c (M j) (q j) (s j)

/-- From the contents `s` the program `p` returns `a` and leaves the contents `s'`. -/
def Runs {α : Type} (p : Prog (TpuEff nD τ sig Val Λ c.2) α) (s : St Val sh el) (a : α) (s' : St Val sh el) : Prop :=
  ∀ Q : α → sProp 𝕄,
    iprop(Held c M q s ∗ (Held c M q s' -∗ Q a)) ⊢ wp frame (wpE defs Variants.none c none) Set.univ p Q

variable {defs c M q} {α β : Type}

theorem Runs.ret (a : α) (s : St Val sh el) : Runs defs c M q (Pure.pure a) s a s := by
  intro Q
  refine BIBase.Entails.trans ?_ (le_wp_ret _ _ _ a Q)
  iintro ⟨H, K⟩
  iapply K; iexact H

theorem Runs.bind {p : Prog (TpuEff nD τ sig Val Λ c.2) α} {k : α → Prog (TpuEff nD τ sig Val Λ c.2) β} {s s' s'' : St Val sh el} {a : α} {b : β}
    (h : Runs defs c M q p s a s') (h' : Runs defs c M q (k a) s' b s'') : Runs defs c M q (p >>= k) s b s'' := by
  intro Q
  rw [wp_bind]
  refine BIBase.Entails.trans ?_ (h _)
  iintro ⟨H, K⟩
  isplitl [H]; · iexact H
  iintro H
  iapply (h' Q)
  isplitl [H]; · iexact H
  iexact K

theorem held_take (s : St Val sh el) (j : ι) :
    (Held c M q s : sProp 𝕄) = iprop(owns c (M j) (q j) (s j) ∗ bigSep (Finset.univ.erase j) fun i => owns c (M i) (q i) (s i)) :=
  bigSep_erase (Finset.mem_univ j)

theorem held_put (s : St Val sh el) (j : ι) (x : (sh j).Idx → Val (el j)) :
    (iprop(owns c (M j) (q j) x ∗ bigSep (Finset.univ.erase j) fun i => owns c (M i) (q i) (s i)) : sProp 𝕄)
      = Held c M q (Function.update s j x) := by
  rw [held_take _ j, Function.update_self]
  congr 1
  refine bigSep_congr fun i hi => ?_
  rw [Function.update_of_ne (Finset.ne_of_mem_erase hi)]

/-- A load: the contents at the rectangle's places. -/
theorem Runs.load (s : St Val sh el) (j : ι) (r : LoadRect (sh j)) (h : (M j).view.LoadsAt r) :
    Runs defs c M q (Prog.lift (.load (M j) r h)) s (fun x => s j (r.idx x)) s := by
  intro Q
  rw [held_take s j]
  unfold owns
  iintro ⟨⟨⟨%f, %hf, H⟩, R⟩, K⟩
  have hS : (M j).view.setOn r.set ⊆ (M j).view.set := View.setOn_subset_set _ _
  iapply (wp_load Variants.none c none Set.univ (Q := Q) (q := q j) (f := f) hS) $$ H
  iintro H
  have e : (M j).view.readAt Val r f = fun x => s j (r.idx x) := by rw [← hf]; rfl
  rw [e]
  iapply (le_wp_ret _ _ _ _ Q)
  iapply K
  isplitl [H]
  · iexists f; isplitr; · ipureintro; exact hf
    iexact H
  · iexact R

/-- A store: the contents put at the rectangle's places. -/
theorem Runs.store (s : St Val sh el) (j : ι) (hq : q j = fullShare) (r : Rect (sh j)) (w : r.shape.Idx → Val (el j))
    (hx : ((M j).access r).Stores Finset.univ) (hm : (Finset.univ : Finset r.shape.Idx) = Finset.univ ∨ ∀ a, r.stride a = 1) :
    Runs defs c M q (Prog.lift (.store (M j) r w Finset.univ hx hm)) s ⟨⟩ (Function.update s j (put r.emb (s j) w)) := by
  intro Q
  rw [← held_put, held_take s j, hq]
  unfold owns
  iintro ⟨⟨⟨%f, %hf, H⟩, R⟩, K⟩
  have hS : ((M j).access r).setOn Finset.univ ⊆ (M j).view.set := Memref.setOn_access_subset _ _ _
  iapply (wp_store Variants.none c none Set.univ (Q := Q) (f := f) (hx := hx) (hm := hm) hS) $$ H
  iintro H
  iapply (le_wp_ret _ _ _ _ Q)
  iapply K
  isplitl [H]
  · iexists ((M j).access r).write Val f w Finset.univ; isplitr
    · ipureintro; rw [read_write_slice, hf]
    iexact H
  · iexact R

/-- A load of a rectangle of a squeezed slice. -/
theorem Runs.loadWithin (s : St Val sh el) (j : ι) (R : Rect (sh j)) (hR : ∀ a, R.stride a = 1) {s' : Shape} (hs : R.shape.Squeezes s')
    (r : Rect s') (h : (((M j).slice R hR).squeeze s' hs).view.LoadsAt r.toLoadRect) :
    Runs defs c M q (Prog.lift (.load (((M j).slice R hR).squeeze s' hs) r.toLoadRect h)) s (fun x => s j (within R hs.numel_eq r x)) s := by
  intro Q
  rw [held_take s j]
  unfold owns
  iintro ⟨⟨⟨%f, %hf, H⟩, Rest⟩, K⟩
  have hS : ((((M j).slice R hR).squeeze s' hs).access r).set ⊆ (M j).view.set := by
    refine (View.set_slice_subset _ _).trans ?_
    exact (View.set_reshape ((M j).view.slice R) hs.numel_eq).subset.trans (View.set_slice_subset _ _)
  iapply (wp_load_rect Variants.none c none Set.univ (Q := Q) (q := q j) (f := f) (m := ((M j).slice R hR).squeeze s' hs) (r := r) hS) $$ H
  iintro H
  have e : ((((M j).slice R hR).squeeze s' hs).access r).read Val f = fun x => s j (within R hs.numel_eq r x) := by rw [← hf]; rfl
  rw [e]
  iapply (le_wp_ret _ _ _ _ Q)
  iapply K
  isplitl [H]
  · iexists f; isplitr; · ipureintro; exact hf
    iexact H
  · iexact Rest

/-- A store to a rectangle of a squeezed slice. -/
theorem Runs.storeWithin (s : St Val sh el) (j : ι) (hq : q j = fullShare) (R : Rect (sh j)) (hR : ∀ a, R.stride a = 1) {s' : Shape}
    (hs : R.shape.Squeezes s') (r : Rect s') (w : r.shape.Idx → Val (el j))
    (hx : ((((M j).slice R hR).squeeze s' hs).access r).Stores Finset.univ)
    (hm : (Finset.univ : Finset r.shape.Idx) = Finset.univ ∨ ∀ a, r.stride a = 1) :
    Runs defs c M q (Prog.lift (.store (((M j).slice R hR).squeeze s' hs) r w Finset.univ hx hm)) s ⟨⟩
      (Function.update s j (put (within R hs.numel_eq r) (s j) w)) := by
  intro Q
  rw [← held_put, held_take s j, hq]
  unfold owns
  iintro ⟨⟨⟨%f, %hf, H⟩, Rest⟩, K⟩
  have hS : ((((M j).slice R hR).squeeze s' hs).access r).setOn Finset.univ ⊆ (M j).view.set := by
    refine (Memref.setOn_access_subset _ _ _).trans ?_
    exact (View.set_reshape ((M j).view.slice R) hs.numel_eq).subset.trans (View.set_slice_subset _ _)
  iapply (wp_store Variants.none c none Set.univ (Q := Q) (f := f) (hx := hx) (hm := hm) (m := ((M j).slice R hR).squeeze s' hs) (r := r) hS) $$ H
  iintro H
  iapply (le_wp_ret _ _ _ _ Q)
  iapply K
  isplitl [H]
  · iexists ((((M j).slice R hR).squeeze s' hs).access r).write Val f w Finset.univ; isplitr
    · ipureintro
      exact (read_write_within (M j).view R hs.numel_eq r f w).trans (by rw [hf])
    iexact H
  · iexact Rest

/-! ## Programs by what they leave -/

/-- From the contents `s` the program returns some `a` and leaves some `s'` of which `Φ a s'` holds. -/
def Spec (defs : Defs nD τ sig Val Λ) (c : Thread nD τ) (M : ∀ j, Memref sig c.2.kind (sp j) (sh j) (el j)) (q : ι → PosShare TreeShare)
    (p : Prog (TpuEff nD τ sig Val Λ c.2) α) (s : St Val sh el) (Φ : α → St Val sh el → Prop) : Prop :=
  ∃ a s', Runs defs c M q p s a s' ∧ Φ a s'

variable {s : St Val sh el} {Φ : α → St Val sh el → Prop}

theorem Spec.mono {p : Prog (TpuEff nD τ sig Val Λ c.2) α} {Ψ : α → St Val sh el → Prop} (h : Spec defs c M q p s Φ) (hΨ : ∀ a s', Φ a s' → Ψ a s') :
    Spec defs c M q p s Ψ :=
  let ⟨a, s', hr, hp⟩ := h; ⟨a, s', hr, hΨ a s' hp⟩

theorem Spec.ret {a : α} (h : Φ a s) : Spec defs c M q (Pure.pure a) s Φ := ⟨a, s, Runs.ret a s, h⟩

theorem Spec.bind {p : Prog (TpuEff nD τ sig Val Λ c.2) α} {k : α → Prog (TpuEff nD τ sig Val Λ c.2) β} {Ψ : β → St Val sh el → Prop}
    (h : Spec defs c M q p s Φ) (h' : ∀ a s', Φ a s' → Spec defs c M q (k a) s' Ψ) : Spec defs c M q (p >>= k) s Ψ :=
  let ⟨a, s', hr, hp⟩ := h
  let ⟨b, s'', hr', hp'⟩ := h' a s' hp
  ⟨b, s'', hr.bind hr', hp'⟩

/-- A program run exactly, then the rest. -/
theorem Runs.then {p : Prog (TpuEff nD τ sig Val Λ c.2) α} {k : α → Prog (TpuEff nD τ sig Val Λ c.2) β} {Ψ : β → St Val sh el → Prop}
    {a : α} {s' : St Val sh el} (h : Runs defs c M q p s a s') (h' : Spec defs c M q (k a) s' Ψ) : Spec defs c M q (p >>= k) s Ψ :=
  let ⟨b, s'', hr', hp'⟩ := h'
  ⟨b, s'', h.bind hr', hp'⟩

/-- A counted loop keeps an invariant. -/
theorem Spec.loop {σ : Type} {N : Nat} {f : Fin N → σ → Prog (TpuEff nD τ sig Val Λ c.2) σ} (I : Nat → σ → St Val sh el → Prop)
    (hstep : ∀ (k : Fin N) x s, I k.val x s → Spec defs c M q (f k x) s (fun x' s' => I (k.val + 1) x' s')) :
    ∀ (n : Nat) (hn : n ≤ N) (x : σ) (s : St Val sh el), I (N - n) x s → Spec defs c M q (loopTo f n hn x) s (I N)
  | 0, _, x, s, h => Spec.ret h
  | n + 1, hn, x, s, h => by
    refine Spec.bind (hstep ⟨N - (n + 1), by omega⟩ x s h) fun x' s' h' => ?_
    refine Spec.loop I hstep n (by omega) x' s' ?_
    have e : N - (n + 1) + 1 = N - n := by omega
    rwa [← e]

/-- The whole loop. -/
theorem Spec.loopAll {σ : Type} {N : Nat} {f : Fin N → σ → Prog (TpuEff nD τ sig Val Λ c.2) σ} (I : Nat → σ → St Val sh el → Prop)
    (hstep : ∀ (k : Fin N) x s, I k.val x s → Spec defs c M q (f k x) s (fun x' s' => I (k.val + 1) x' s')) {x : σ} (h : I 0 x s) :
    Spec defs c M q (loopTo f N (Nat.le_refl _) x) s (I N) :=
  Spec.loop I hstep N (Nat.le_refl _) x s (by rwa [Nat.sub_self])

/-- What a specification gives of the weakest precondition. -/
theorem Spec.wp {p : Prog (TpuEff nD τ sig Val Λ c.2) α} (h : Spec defs c M q p s Φ) (Q : α → sProp 𝕄) :
    iprop(Held c M q s ∗ (∀ a s', ⌜Φ a s'⌝ -∗ Held c M q s' -∗ Q a)) ⊢ wp frame (wpE defs Variants.none c none) Set.univ p Q := by
  obtain ⟨a, s', hr, hp⟩ := h
  iintro ⟨H, K⟩
  iapply (hr Q)
  isplitl [H]; · iexact H
  iintro H
  iapply K $$ %a %s' %hp H

end Cert.Loops
-- ==== Proof.KernelRun.lean ====
module

public import proofs.«01_k».proof.Proof.KernelBody
public import proofs.«01_k».proof.Proof.KernelKit
public import proofs.«01_k».proof.Proof.Runs

@[expose] public section

set_option maxRecDepth 16384

noncomputable section

/-! # The body over its memrefs

The memrefs of the body as a family, the rules for its reads and writes, and that the body writes to none of its operands. -/

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Loops

variable {F : FTy → Type} [BitOps F]

/-- Where each memref lies, -/
abbrev spOf : Slot → CoreSpace
  | .m1 => .smem
  | .m2 => .vmem
  | .m3 => .vmem
  | .m4 => .vmem
  | .m5 => .vmem
  | .m6 => .vmem
  | .m7 => .vmem
  | .m8 => .vmem
  | .m9 => .vmem
  | .m10 => .vmem
  | .m11 => .vmem
  | .m12 => .vmem
  | .m13 => .vmem
  | .m14 => .vmem
  | .m15 => .vmem
  | .m16 => .vmem
  | .m17 => .vmem
  | .m18 => .vmem
  | .m19 => .vmem
/-- its shape -/
abbrev shOf : Slot → Shape
  | .m1 => S3000
  | .m2 => S8x2x128
  | .m3 => S3x8x128
  | .m4 => S8x128
  | .m5 => S8x64x128
  | .m6 => S24x256
  | .m7 => S1x64
  | .m8 => S64x384
  | .m9 => S1x384
  | .m10 => S1x384
  | .m11 => S8x256x384
  | .m12 => S8x64x256
  | .m13 => S8x256
  | .m14 => S192x128
  | .m15 => S2x1152x128
  | .m16 => S2x8x128
  | .m17 => S2x8x128
  | .m18 => S64x128
  | .m19 => S256x384
/-- and its elements. -/
abbrev elOf : Slot → EltTy
  | .m1 => .i32
  | .m2 => .f32
  | .m3 => .f32
  | .m4 => .f32
  | .m5 => .fp8e4m3
  | .m6 => .f32
  | .m7 => .f32
  | .m8 => .fp8e4m3
  | .m9 => .f32
  | .m10 => .f32
  | .m11 => .bf16
  | .m12 => .fp8e4m3
  | .m13 => .f32
  | .m14 => .f32
  | .m15 => .f32
  | .m16 => .f32
  | .m17 => .f32
  | .m18 => .f32
  | .m19 => .bf16
/-- The body's memrefs. -/
abbrev memOf (A : Args) : ∀ j, Memref sig .tc (spOf j) (shOf j) (elOf j)
  | .m1 => A.arg1
  | .m2 => A.arg2
  | .m3 => A.arg3
  | .m4 => A.arg4
  | .m5 => A.arg5
  | .m6 => A.arg6
  | .m7 => A.arg7
  | .m8 => A.arg8
  | .m9 => A.arg9
  | .m10 => A.arg10
  | .m11 => A.arg11
  | .m12 => A.arg12
  | .m13 => A.arg13
  | .m14 => A.arg14
  | .m15 => A.arg15
  | .m16 => A.arg16
  | .m17 => A.arg17
  | .m18 => A.arg18
  | .m19 => A.arg19
/-- The table is held at half a share, the others whole. -/
abbrev shareOf : Slot → PosShare TreeShare
  | .m1 => fullShare.right
  | _ => fullShare

/-- The contents of the body's memrefs. -/
abbrev Cts (F : FTy → Type) : Type := St (Elt F) shOf elOf

/-- What a program of the body returns and leaves, on core `c`. -/
abbrev SP (A : Args) (c : Dev nD) {α : Type} (p : PP F α) (s : Cts F) (Φ : α → Cts F → Prop) : Prop :=
  Spec (defs₀ (F := F)) (c : Thread nD τ) (memOf A) shareOf p s Φ
/-- The same exactly. -/
abbrev RN (A : Args) (c : Dev nD) {α : Type} (p : PP F α) (s : Cts F) (a : α) (s' : Cts F) : Prop :=
  Runs (defs₀ (F := F)) (c : Thread nD τ) (memOf A) shareOf p s a s'

section Rules

variable {A : Args} {c : Dev nD} {s : Cts F} {sh : Shape} {el : EltTy} {α : Type}

/-- Reading a rectangle of memref `j`. -/
theorem rn_rd (j : Slot) (hsp : spOf j = .vmem) (m : Memref sig .tc .vmem (shOf j) (elOf j)) (hm : HEq m (memOf A j)) (r : Rect (shOf j))
    (h : 0 < r.shape.numel) : RN A c (rd m r h) s (fun x => s j (r.emb x)) s := by
  revert m r
  cases j <;> first | exact absurd hsp (by decide) | skip
  all_goals
    intro m hm r h; obtain rfl := eq_of_heq hm
    unfold rd; exact Runs.load (defs := defs₀ (F := F)) (c := (c : Thread nD τ)) (q := shareOf) (M := memOf A) s _ r.toLoadRect (View.loadsAt_vmem h)

/-- Writing a rectangle of memref `j`, held whole. -/
theorem rn_wr (j : Slot) (hin : j.input = false) (hsp : spOf j = .vmem) (m : Memref sig .tc .vmem (shOf j) (elOf j)) (hm : HEq m (memOf A j)) (r : Rect (shOf j))
    (w : r.shape.Idx → Elt F (elOf j)) (h : 0 < r.shape.numel) (hs : (m.access r).Stores Finset.univ) :
    RN A c (wr m r w h hs) s ⟨⟩ (Function.update s j (put r.emb (s j) w)) := by
  unfold wr
  refine Runs.bind (rn_rd j hsp m hm r h) ?_
  revert m r
  cases j <;> first | exact absurd hsp (by decide) | exact absurd hin (by decide) | skip
  all_goals
    intro m hm r w h hs; obtain rfl := eq_of_heq hm
    exact Runs.store (defs := defs₀ (F := F)) (c := (c : Thread nD τ)) (q := shareOf) (M := memOf A) s _ rfl r w hs (.inl rfl)

/-- Reading a half of the opacities. -/
theorem rn_rd_half (h : Fin 2) (r : Rect S1152x128) (hr : 0 < r.shape.numel) :
    RN A c (rd (half A h) r hr) s (fun x => s .m15 (within (rHalf h) squeezes_S1x1152x128_S1152x128.numel_eq r x)) s := by
  unfold rd half
  exact Runs.loadWithin (defs := defs₀ (F := F)) (c := (c : Thread nD τ)) (q := shareOf) (M := memOf A) s .m15 (rHalf h) (fun _ => rfl) squeezes_S1x1152x128_S1152x128 r (View.loadsAt_vmem hr)

/-- Writing one. -/
theorem rn_wr_half (h : Fin 2) (r : Rect S1152x128) (w : r.shape.Idx → Elt F .f32) (hr : 0 < r.shape.numel)
    (hs : ((half A h).access r).Stores Finset.univ) :
    RN A c (wr (half A h) r w hr hs) s ⟨⟩
      (Function.update s .m15 (put (within (rHalf h) squeezes_S1x1152x128_S1152x128.numel_eq r) (s .m15) w)) := by
  unfold wr
  refine Runs.bind (rn_rd_half h r hr) ?_
  exact Runs.storeWithin (defs := defs₀ (F := F)) (c := (c : Thread nD τ)) (q := shareOf) (M := memOf A) s .m15 rfl (rHalf h) (fun _ => rfl) squeezes_S1x1152x128_S1152x128 r w hs (.inl rfl)

/-- Reading a word of the table. -/
theorem rn_word (r : Rect S3000) (h1 : r.shape.numel = 1) :
    RN A c (smemLoad A.arg1 r h1 rfl : PP F (Elt F .i32)) s (s .m1 (r.emb (Shape.Idx.first (h1.symm ▸ Nat.one_pos)))) s := by
  have h := Runs.load (defs := defs₀ (F := F)) (c := (c : Thread nD τ)) (q := shareOf) (M := memOf A) s .m1 r.toLoadRect (View.loadsAt_rect (View.loads_smem_one rfl h1))
  have h' := h.bind (k := fun f => Pure.pure (f (Shape.Idx.first (h1.symm ▸ Nat.one_pos)))) (Runs.ret _ s)
  exact h'

end Rules

/-! ## The operands are kept -/

/-- The operands hold the same. -/
def Keep (s s' : Cts F) : Prop := ∀ j, j.input = true → s' j = s j

/-- From any contents the program runs and leaves the operands. -/
def Keeps (A : Args) (c : Dev nD) {α : Type} (p : PP F α) : Prop := ∀ s, SP A c p s fun _ s' => Keep s s'

variable {A : Args} {c : Dev nD} {α β : Type}

theorem Keeps.of_runs {p : PP F α} (h : ∀ s, ∃ a s', RN A c p s a s' ∧ Keep s s') : Keeps A c p := h

theorem Keeps.ret (a : α) : Keeps (F := F) A c (Pure.pure a) := fun s => ⟨a, s, Runs.ret a s, fun _ _ => rfl⟩

theorem Keeps.bind {p : PP F α} {k : α → PP F β} (h : Keeps A c p) (h' : ∀ a, Keeps A c (k a)) : Keeps A c (p >>= k) := fun s =>
  Spec.bind (h s) fun a s' hs => (h' a s').mono fun b s'' hs' j hj => (hs' j hj).trans (hs j hj)

theorem Keeps.loop {σ : Type} {N : Nat} {f : Fin N → σ → PP F σ} (h : ∀ k x, Keeps A c (f k x)) (x : σ) :
    Keeps A c (loopTo f N (Nat.le_refl _) x) := fun s =>
  Spec.loopAll (fun _ _ s' => Keep s s') (fun k x s' hs => (h k x s').mono fun b s'' hs' j hj => (hs' j hj).trans (hs j hj)) (fun _ _ => rfl)

theorem Keeps.rd (j : Slot) (hsp : spOf j = .vmem) (m : Memref sig .tc .vmem (shOf j) (elOf j)) (hm : HEq m (memOf A j)) (r : Rect (shOf j))
    (h : 0 < r.shape.numel) : Keeps (F := F) A c (rd m r h) := fun s => ⟨_, s, rn_rd j hsp m hm r h, fun _ _ => rfl⟩

theorem keep_update (s : Cts F) (j : Slot) (hj : j.input = false) (x : (shOf j).Idx → Elt F (elOf j)) : Keep s (Function.update s j x) := by
  intro i hi
  refine Function.update_of_ne ?_ _ _
  rintro rfl; rw [hj] at hi; cases hi

theorem Keeps.wr (j : Slot) (hj : j.input = false) (hsp : spOf j = .vmem) (m : Memref sig .tc .vmem (shOf j) (elOf j)) (hm : HEq m (memOf A j))
    (r : Rect (shOf j)) (w : r.shape.Idx → Elt F (elOf j)) (h : 0 < r.shape.numel) (hs : (m.access r).Stores Finset.univ) :
    Keeps A c (wr m r w h hs) := fun s => ⟨_, _, rn_wr j hj hsp m hm r w h hs, keep_update s j hj _⟩

theorem Keeps.rd_half (h : Fin 2) (r : Rect S1152x128) (hr : 0 < r.shape.numel) : Keeps (F := F) A c (Hand.rd (half A h) r hr) :=
  fun s => ⟨_, s, rn_rd_half h r hr, fun _ _ => rfl⟩

theorem Keeps.wr_half (h : Fin 2) (r : Rect S1152x128) (w : r.shape.Idx → Elt F .f32) (hr : 0 < r.shape.numel)
    (hs : ((half A h).access r).Stores Finset.univ) : Keeps A c (Hand.wr (half A h) r w hr hs) :=
  fun s => ⟨_, _, rn_wr_half h r w hr hs, keep_update s .m15 rfl _⟩

theorem keeps_init : Keeps (F := F) A c (initBody A) := by
  unfold initBody
  refine (Keeps.wr .m14 rfl rfl _ .rfl _ _ _ _).bind fun _ => ?_
  refine (Keeps.rd .m7 rfl _ .rfl _ _).bind fun _ => ?_
  refine (Keeps.wr .m18 rfl rfl _ .rfl _ _ _ _).bind fun _ => ?_
  refine (Keeps.rd .m8 rfl _ .rfl _ _).bind fun _ => ?_
  refine (Keeps.rd .m9 rfl _ .rfl _ _).bind fun _ => ?_
  refine (Keeps.wr .m19 rfl rfl _ .rfl _ _ _ _).bind fun _ => ?_
  refine (Keeps.wr .m19 rfl rfl _ .rfl _ _ _ _).bind fun _ => ?_
  refine (Keeps.wr .m19 rfl rfl _ .rfl _ _ _ _).bind fun _ => ?_
  refine (Keeps.wr .m19 rfl rfl _ .rfl _ _ _ _).bind fun _ => ?_
  refine (Keeps.rd .m10 rfl _ .rfl _ _).bind fun _ => ?_
  exact Keeps.wr .m19 rfl rfl _ .rfl _ _ _ _

theorem keeps_lens : Keeps (F := F) A c (lensS A) :=
  Keeps.loop (fun b x => Keeps.bind (fun s => ⟨_, s, rn_word _ _, fun _ _ => rfl⟩) fun _ => Keeps.ret _) _

theorem keeps_storeCoef (j : Fin 6) (x : FVec F S8x128 .f32) : Keeps A c (storeCoef A j x) := by
  unfold storeCoef
  refine (Keeps.wr .m14 rfl rfl _ .rfl _ _ _ _).bind fun _ => ?_
  refine (Keeps.wr .m14 rfl rfl _ .rfl _ _ _ _).bind fun _ => ?_
  exact Keeps.wr .m14 rfl rfl _ .rfl _ _ _ _

theorem keeps_coefs (lens : IVec S8x128 32) : Keeps (F := F) A c (coefsS A lens) := by
  unfold coefsS
  refine (Keeps.rd .m2 rfl _ .rfl _ _).bind fun _ => ?_
  refine (Keeps.rd .m2 rfl _ .rfl _ _).bind fun _ => ?_
  refine (Keeps.rd .m3 rfl _ .rfl _ _).bind fun _ => ?_
  refine (Keeps.rd .m3 rfl _ .rfl _ _).bind fun _ => ?_
  refine (Keeps.rd .m3 rfl _ .rfl _ _).bind fun _ => ?_
  refine (Keeps.rd .m4 rfl _ .rfl _ _).bind fun _ => ?_
  exact Keeps.loop (fun j _ => keeps_storeCoef j _) _

theorem keeps_alpha (pix : FVec F S24x256 .f32) (b : Fin 8) : Keeps A c (alphaS A pix b) := by
  unfold alphaS
  refine (Keeps.rd .m14 rfl _ .rfl _ _).bind fun _ => ?_
  exact (Keeps.wr_half 0 _ _ _ _).bind fun _ => Keeps.wr_half 1 _ _ _ _

theorem keeps_scan (h : Fin 2) : Keeps (F := F) A c (scanS A h) := by
  unfold scanS
  refine Keeps.bind (Keeps.loop (fun k x => ?_) _) fun _ => ?_
  · unfold scanStep
    refine (Keeps.rd .m15 rfl _ .rfl _ _).bind fun _ => ?_
    exact (Keeps.wr .m15 rfl rfl _ .rfl _ _ _ _).bind fun _ => Keeps.ret _
  · exact (Keeps.wr .m16 rfl rfl _ .rfl _ _ _ _).bind fun _ => Keeps.wr .m17 rfl rfl _ .rfl _ _ _ _

theorem keeps_tile (b : Fin 8) : Keeps (F := F) A c (tileS A b) := by
  unfold tileS
  refine (Keeps.rd_half 0 _ _).bind fun _ => ?_
  refine (Keeps.rd .m17 rfl _ .rfl _ _).bind fun _ => ?_
  refine (Keeps.rd_half 1 _ _).bind fun _ => ?_
  refine (Keeps.rd .m17 rfl _ .rfl _ _).bind fun _ => ?_
  refine (Keeps.rd .m5 rfl _ .rfl _ _).bind fun _ => ?_
  refine (Keeps.rd .m16 rfl _ .rfl _ _).bind fun _ => ?_
  refine (Keeps.rd .m16 rfl _ .rfl _ _).bind fun _ => ?_
  refine (Keeps.rd .m18 rfl _ .rfl _ _).bind fun _ => ?_
  refine (Keeps.wr .m12 rfl rfl _ .rfl _ _ _ _).bind fun _ => ?_
  refine (Keeps.wr .m13 rfl rfl _ .rfl _ _ _ _).bind fun _ => ?_
  refine (Keeps.rd .m19 rfl _ .rfl _ _).bind fun _ => ?_
  exact Keeps.wr .m11 rfl rfl _ .rfl _ _ _ _

theorem keeps_body : Keeps (F := F) A c (body A) := by
  unfold body
  refine keeps_lens.bind fun _ => (keeps_coefs _).bind fun _ => ?_
  refine (Keeps.rd .m6 rfl _ .rfl _ _).bind fun _ => ?_
  refine (Keeps.loop (fun b _ => keeps_alpha _ b) _).bind fun _ => ?_
  exact (Keeps.loop (fun h _ => keeps_scan h) _).bind fun _ => Keeps.loop (fun b _ => keeps_tile b) _

/-- The body runs from any contents and leaves the operands as they are. -/
theorem keeps_splat : Keeps (F := F) A c (splat A) := by
  by_cases h : isFirst A.i
  · rw [splat_pos A h]; exact keeps_init.bind fun _ => keeps_body
  · rw [splat_neg A h]; exact keeps_body

end Cert.Kernel.Hand

end
-- ==== Proof.KernelFrame.lean ====
module

public import proofs.«01_k».proof.Proof.KernelRun

@[expose] public section

set_option maxRecDepth 16384

noncomputable section

/-! # The frame

Every execution of the program ends, with the arguments as they were and every semaphore at zero: the body runs at every
grid point whatever the scratch and the results' buffers hold, and leaves its operands as they are. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen Cert.Loops

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The arguments the body has at point `t`: the table, the windows' current staging memrefs, the scratch. -/
abbrev argsAt (a : (pcfg0 (F := F)).Adm) (t : Fin (cfg0 a).N) : Args :=
  ⟨grid0.coords t, Memref.whole main_arg3, Memref.isWhole_whole _,
   spec0_0.stage ((cfg0 a).slots t 0), hstage0_0 (((cfg0 a).slots t 0).cast nbuf0_0),
   spec0_1.stage ((cfg0 a).slots t 1), hstage0_1 (((cfg0 a).slots t 1).cast nbuf0_1),
   spec0_2.stage ((cfg0 a).slots t 2), hstage0_2 (((cfg0 a).slots t 2).cast nbuf0_2),
   spec0_3.stage ((cfg0 a).slots t 3), hstage0_3 (((cfg0 a).slots t 3).cast nbuf0_3),
   spec0_4.stage ((cfg0 a).slots t 4), hstage0_4 (((cfg0 a).slots t 4).cast nbuf0_4),
   spec0_5.stage ((cfg0 a).slots t 5), hstage0_5 (((cfg0 a).slots t 5).cast nbuf0_5),
   spec0_6.stage ((cfg0 a).slots t 6), hstage0_6 (((cfg0 a).slots t 6).cast nbuf0_6),
   spec0_7.stage ((cfg0 a).slots t 7), hstage0_7 (((cfg0 a).slots t 7).cast nbuf0_7),
   spec0_8.stage ((cfg0 a).slots t 8), hstage0_8 (((cfg0 a).slots t 8).cast nbuf0_8),
   spec0_9.stage ((cfg0 a).slots t 9), hstage0_9 (((cfg0 a).slots t 9).cast nbuf0_9),
   spec0_10.stage ((cfg0 a).slots t 10), hstage0_10 (((cfg0 a).slots t 10).cast nbuf0_10),
   spec0_11.stage ((cfg0 a).slots t 11), hstage0_11 (((cfg0 a).slots t 11).cast nbuf0_11),
   Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _⟩

/-- The body at point `t` is the body at those arguments. -/
theorem bodyAt0_eq (a : (pcfg0 (F := F)).Adm) (t : Fin (cfg0 a).N) : bodyAt0 a t = splat (argsAt a t) := rfl

/-- Contents of the body's memrefs, one by one. -/
def mkCts (x1 : S3000.Idx → Elt F .i32) (x2 : S8x2x128.Idx → Elt F .f32) (x3 : S3x8x128.Idx → Elt F .f32) (x4 : S8x128.Idx → Elt F .f32) (x5 : S8x64x128.Idx → Elt F .fp8e4m3) (x6 : S24x256.Idx → Elt F .f32) (x7 : S1x64.Idx → Elt F .f32) (x8 : S64x384.Idx → Elt F .fp8e4m3) (x9 : S1x384.Idx → Elt F .f32) (x10 : S1x384.Idx → Elt F .f32) (x11 : S8x256x384.Idx → Elt F .bf16) (x12 : S8x64x256.Idx → Elt F .fp8e4m3) (x13 : S8x256.Idx → Elt F .f32) (x14 : S192x128.Idx → Elt F .f32) (x15 : S2x1152x128.Idx → Elt F .f32) (x16 : S2x8x128.Idx → Elt F .f32) (x17 : S2x8x128.Idx → Elt F .f32) (x18 : S64x128.Idx → Elt F .f32) (x19 : S256x384.Idx → Elt F .bf16) : Cts F
  | .m1 => x1
  | .m2 => x2
  | .m3 => x3
  | .m4 => x4
  | .m5 => x5
  | .m6 => x6
  | .m7 => x7
  | .m8 => x8
  | .m9 => x9
  | .m10 => x10
  | .m11 => x11
  | .m12 => x12
  | .m13 => x13
  | .m14 => x14
  | .m15 => x15
  | .m16 => x16
  | .m17 => x17
  | .m18 => x18
  | .m19 => x19

/-- What is held of the body's memrefs at the contents `s`. -/
abbrev HeldAt (A : Args) (c : Dev nD) (s : Cts F) : sProp 𝕄 :=
  Held (sp := spOf) (sh := shOf) (el := elOf) (c := (c : Thread nD τ)) (memOf A) shareOf s

/-- What is held of the body's memrefs, one by one. -/
theorem held_eq (A : Args) (c : Dev nD) (s : Cts F) :
    HeldAt A c s
      = iprop(owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare (s .m11) ∗ owns (c : Thread nD τ) A.arg12 fullShare (s .m12) ∗ owns (c : Thread nD τ) A.arg13 fullShare (s .m13) ∗ owns (c : Thread nD τ) A.arg14 fullShare (s .m14) ∗ owns (c : Thread nD τ) A.arg15 fullShare (s .m15) ∗ owns (c : Thread nD τ) A.arg16 fullShare (s .m16) ∗ owns (c : Thread nD τ) A.arg17 fullShare (s .m17) ∗ owns (c : Thread nD τ) A.arg18 fullShare (s .m18) ∗ owns (c : Thread nD τ) A.arg19 fullShare (s .m19)) :=
  bigSep_slot _

/-- The same, where the operands are at the contents `s` has of them. -/
theorem held_keep (A : Args) (c : Dev nD) (s s' : Cts F) (hk : Keep s s') :
    HeldAt A c s'
      ⊢ iprop(owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare (s' .m11) ∗ owns (c : Thread nD τ) A.arg12 fullShare (s' .m12) ∗ owns (c : Thread nD τ) A.arg13 fullShare (s' .m13) ∗ owns (c : Thread nD τ) A.arg14 fullShare (s' .m14) ∗ owns (c : Thread nD τ) A.arg15 fullShare (s' .m15) ∗ owns (c : Thread nD τ) A.arg16 fullShare (s' .m16) ∗ owns (c : Thread nD τ) A.arg17 fullShare (s' .m17) ∗ owns (c : Thread nD τ) A.arg18 fullShare (s' .m18) ∗ owns (c : Thread nD τ) A.arg19 fullShare (s' .m19)) := by
  rw [held_eq, hk .m1 rfl, hk .m2 rfl, hk .m3 rfl, hk .m4 rfl, hk .m5 rfl, hk .m6 rfl, hk .m7 rfl, hk .m8 rfl, hk .m9 rfl, hk .m10 rfl]

/-- The body at any contents, one by one: the operands come back as they were, the rest at some contents. -/
theorem wp_splat (A : Args) (c : Dev nD) (s : Cts F) (Q : sProp 𝕄) :
    iprop((owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare (s .m11) ∗ owns (c : Thread nD τ) A.arg12 fullShare (s .m12) ∗ owns (c : Thread nD τ) A.arg13 fullShare (s .m13) ∗ owns (c : Thread nD τ) A.arg14 fullShare (s .m14) ∗ owns (c : Thread nD τ) A.arg15 fullShare (s .m15) ∗ owns (c : Thread nD τ) A.arg16 fullShare (s .m16) ∗ owns (c : Thread nD τ) A.arg17 fullShare (s .m17) ∗ owns (c : Thread nD τ) A.arg18 fullShare (s .m18) ∗ owns (c : Thread nD τ) A.arg19 fullShare (s .m19))
      ∗ (∀ s' : Cts F, (owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare (s' .m11) ∗ owns (c : Thread nD τ) A.arg12 fullShare (s' .m12) ∗ owns (c : Thread nD τ) A.arg13 fullShare (s' .m13) ∗ owns (c : Thread nD τ) A.arg14 fullShare (s' .m14) ∗ owns (c : Thread nD τ) A.arg15 fullShare (s' .m15) ∗ owns (c : Thread nD τ) A.arg16 fullShare (s' .m16) ∗ owns (c : Thread nD τ) A.arg17 fullShare (s' .m17) ∗ owns (c : Thread nD τ) A.arg18 fullShare (s' .m18) ∗ owns (c : Thread nD τ) A.arg19 fullShare (s' .m19)) -∗ Q))
      ⊢ wp frame (wpE (defs₀ (F := F)) Variants.none c none) Set.univ (splat A) (fun _ => Q) := by
  rw [← held_eq]
  iintro ⟨H, K⟩
  iapply (Spec.wp (keeps_splat (A := A) (c := c) s) (fun _ => Q))
  isplitl [H]; · iexact H
  iintro %a %s' %hk H
  iapply K
  iapply (held_keep A c s s' hk)
  iexact H

/-- The scratch the kernel has, each buffer at some contents, and the generator at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- The table, held at half a share, as a memref. -/
theorem PhiT0_owns (c : Dev nD) : (Pipeline.ΦT pre0 (tbl m) c : sProp 𝕄) = owns (c : Thread nD τ) (Memref.whole main_arg3) fullShare.right (tbl m 0) := by
  rw [PhiT0_eq]; exact (owns_whole _ _ _ _).symm

/-- The results, of whose contents nothing is said. -/
def forget : Fin 12 → Bool := fun w => decide (9 ≤ w.val)

/-- The proof data: the arrays as the region finds them; each operand's buffer at its block; the results' not named; the
    scratch, the generator and the table between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => Classical.arbitrary _
    | ⟨10, _⟩ => Classical.arbitrary _
    | ⟨11, _⟩ => Classical.arbitrary _
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (argsAt (adm m hO) t).arg2 fullShare ((dats m hO 0 c).before 0 t d))
    ∗ (∃ d, owns (c : Thread nD τ) (argsAt (adm m hO) t).arg3 fullShare ((dats m hO 0 c).before 1 t d))
    ∗ (∃ d, owns (c : Thread nD τ) (argsAt (adm m hO) t).arg4 fullShare ((dats m hO 0 c).before 2 t d))
    ∗ (∃ d, owns (c : Thread nD τ) (argsAt (adm m hO) t).arg5 fullShare ((dats m hO 0 c).before 3 t d))
    ∗ (∃ d, owns (c : Thread nD τ) (argsAt (adm m hO) t).arg6 fullShare ((dats m hO 0 c).before 4 t d))
    ∗ (∃ d, owns (c : Thread nD τ) (argsAt (adm m hO) t).arg7 fullShare ((dats m hO 0 c).before 5 t d))
    ∗ (∃ d, owns (c : Thread nD τ) (argsAt (adm m hO) t).arg8 fullShare ((dats m hO 0 c).before 6 t d))
    ∗ (∃ d, owns (c : Thread nD τ) (argsAt (adm m hO) t).arg9 fullShare ((dats m hO 0 c).before 7 t d))
    ∗ (∃ d, owns (c : Thread nD τ) (argsAt (adm m hO) t).arg10 fullShare ((dats m hO 0 c).before 8 t d))
    ∗ (∃ d, owns (c : Thread nD τ) (argsAt (adm m hO) t).arg11 fullShare d)
    ∗ (∃ d, owns (c : Thread nD τ) (argsAt (adm m hO) t).arg12 fullShare d)
    ∗ (∃ d, owns (c : Thread nD τ) (argsAt (adm m hO) t).arg13 fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (argsAt (adm m hO) t).arg2 fullShare ((dats m hO 0 c).after 0 t)
    ∗ owns (c : Thread nD τ) (argsAt (adm m hO) t).arg3 fullShare ((dats m hO 0 c).after 1 t)
    ∗ owns (c : Thread nD τ) (argsAt (adm m hO) t).arg4 fullShare ((dats m hO 0 c).after 2 t)
    ∗ owns (c : Thread nD τ) (argsAt (adm m hO) t).arg5 fullShare ((dats m hO 0 c).after 3 t)
    ∗ owns (c : Thread nD τ) (argsAt (adm m hO) t).arg6 fullShare ((dats m hO 0 c).after 4 t)
    ∗ owns (c : Thread nD τ) (argsAt (adm m hO) t).arg7 fullShare ((dats m hO 0 c).after 5 t)
    ∗ owns (c : Thread nD τ) (argsAt (adm m hO) t).arg8 fullShare ((dats m hO 0 c).after 6 t)
    ∗ owns (c : Thread nD τ) (argsAt (adm m hO) t).arg9 fullShare ((dats m hO 0 c).after 7 t)
    ∗ owns (c : Thread nD τ) (argsAt (adm m hO) t).arg10 fullShare ((dats m hO 0 c).after 8 t)
    ∗ (∃ d, owns (c : Thread nD τ) (argsAt (adm m hO) t).arg11 fullShare d)
    ∗ (∃ d, owns (c : Thread nD τ) (argsAt (adm m hO) t).arg12 fullShare d)
    ∗ (∃ d, owns (c : Thread nD τ) (argsAt (adm m hO) t).arg13 fullShare d))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  rw [bodyAt0_eq]
  unfold bodyPre bodyPost
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiA0_eq, PhiT0_owns]
  iintro ⟨⟨⟨⟨⟨%x14, S0⟩, ⟨%x15, S1⟩, ⟨%x16, S2⟩, ⟨%x17, S3⟩, ⟨%x18, S4⟩, ⟨%x19, S5⟩⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%x11, H9⟩, ⟨%x12, H10⟩, ⟨%x13, H11⟩⟩
  iapply (wp_splat (argsAt (adm m hO) t) c (mkCts (tbl m 0) (iblk m hO c 0 t) (iblk m hO c 1 t) (iblk m hO c 2 t) (iblk m hO c 3 t) (iblk m hO c 4 t) (iblk m hO c 5 t) (iblk m hO c 6 t) (iblk m hO c 7 t) (iblk m hO c 8 t) x11 x12 x13 x14 x15 x16 x17 x18 x19) _)
  isplitl [HT H0 H1 H2 H3 H4 H5 H6 H7 H8 H9 H10 H11 S0 S1 S2 S3 S4 S5]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    iexact S5
  iintro %s' Hall
  icases Hall with ⟨HT, H0, H1, H2, H3, H4, H5, H6, H7, H8, H9, H10, H11, S0, S1, S2, S3, S4, S5⟩
  isplitl [HT S0 S1 S2 S3 S4 S5 Hg]
  · isplitl [S0 S1 S2 S3 S4 S5 Hg]
    · isplitl [S0 S1 S2 S3 S4 S5]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : BodyObligation (dats (F := F) m hO 0 c) (defs₀ (F := F)) Variants.none () Set.univ forget := fun t => by
  rw [bigSep_W0, bigSep_W0, defs₀_row m hO]
  exact triple_restated (sound_body m hO c t) rfl .rfl fun _ => .rfl

set_option backward.isDefEq.respectTransparency.types false in
/-- The launch: what the arrays hold at the end, and every semaphore at zero. -/
theorem run_main (hO : Ok m) : θ_run defs (onTc (τ := τ) (main (F := F))) (s₀ m ρ) (fun r =>
    RDat.FramePost (cfgM m hO) (fun c => (dats m hO 0 c).toRForget forget) (V m) r ∧ r.2.sem = fun _ => 0) :=
  Pipeline.θ_run_frameP_forget (Q' := _) pcfgs (fun _ => adm m hO) (dats m hO) (0 : Fin 1) launch0 defs₀ Variants.none forget m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame: every execution ends, the arguments unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (RDat.FramePost.arr_in h.1 c 2 rfl).trans ((A_eq m hO c 2).trans (V_main_arg2 m c)),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c),
      ((h.1 c).2 main_arg7 (by decide : main_arg7 ∈ Pipeline.restRefs sig spec0)).trans (V_main_arg7 m c),
      ((h.1 c).2 main_arg8 (by decide : main_arg8 ∈ Pipeline.restRefs sig spec0)).trans (V_main_arg8 m c)⟩, h.2⟩) (run_main m ρ hO)

end Cert.Kernel.Hand

end
-- ==== Proof.KernelIdealBody.lean ====
module

public import proofs.«01_k».proof.Proof.Gen.KernelIdeal.Skeleton
public import proofs.«01_k».proof.Proof.Loops
import Idealize.ShloMosaic.Lib.Pipeline.Regions

@[expose] public section

set_option maxRecDepth 16384

noncomputable section

namespace Cert.KernelIdeal.Hand

open Idealize.ShloMosaic Idealize.ShloMosaic.TcCoe
open Idealize.SL.Sem
open Cert.KernelIdeal Cert.KernelIdeal.Gen

open Cert.Loops

variable {F : FTy → Type} [FloatOps F] [Named F]

/-! ## The kernel body as a program with loops

The printed body is one straight line of some five thousand statements. Here the same program is written with the
loops of its source: one loop over the eight tiles of a block for the powers and opacities, one over the 128
Gaussians of a list for each half of the pixels, one over the eight tiles for the codes and the two products. That
it is the printed body is `splat_pos` / `splat_neg`, by definitional unfolding. -/

/-- A number with the low 16 bits of its pattern cleared: at the ideal instance, the number. -/
def trunc16 {S : Shape} (x : FVec F S .f32) : FVec F S .f32 := extf .f32 (truncf .bf16 x)
/-- The constant log2 e. -/
def cLog2e : F .f32 := Named.named κ "log2e" 0x3FB8AA3B#32
/-- The power of a Gaussian that adds nothing: at the ideal instance, minus infinity. -/
def cNever : F .f32 := Named.named κ "neg_inf" 0xF149F2CA#32

/-- The body's grid point and memrefs. -/
structure Args where
  i : grid0.Coords
  arg1 : Memref sig .tc .smem S3000 .i32
  harg1 : arg1.IsWhole
  arg2 : Memref sig .tc .vmem S8x2x128 .f32
  harg2 : arg2.IsWhole
  arg3 : Memref sig .tc .vmem S3x8x128 .f32
  harg3 : arg3.IsWhole
  arg4 : Memref sig .tc .vmem S8x128 .f32
  harg4 : arg4.IsWhole
  arg5 : Memref sig .tc .vmem S8x64x128 .fp8e4m3
  harg5 : arg5.IsWhole
  arg6 : Memref sig .tc .vmem S24x256 .f32
  harg6 : arg6.IsWhole
  arg7 : Memref sig .tc .vmem S1x64 .f32
  harg7 : arg7.IsWhole
  arg8 : Memref sig .tc .vmem S64x384 .fp8e4m3
  harg8 : arg8.IsWhole
  arg9 : Memref sig .tc .vmem S1x384 .f32
  harg9 : arg9.IsWhole
  arg10 : Memref sig .tc .vmem S1x384 .f32
  harg10 : arg10.IsWhole
  arg11 : Memref sig .tc .vmem S8x256x384 .bf16
  harg11 : arg11.IsWhole
  arg12 : Memref sig .tc .vmem S8x64x256 .fp8e4m3
  harg12 : arg12.IsWhole
  arg13 : Memref sig .tc .vmem S8x256 .f32
  harg13 : arg13.IsWhole
  arg14 : Memref sig .tc .vmem S192x128 .f32
  harg14 : arg14.IsWhole
  arg15 : Memref sig .tc .vmem S2x1152x128 .f32
  harg15 : arg15.IsWhole
  arg16 : Memref sig .tc .vmem S2x8x128 .f32
  harg16 : arg16.IsWhole
  arg17 : Memref sig .tc .vmem S2x8x128 .f32
  harg17 : arg17.IsWhole
  arg18 : Memref sig .tc .vmem S64x128 .f32
  harg18 : arg18.IsWhole
  arg19 : Memref sig .tc .vmem S256x384 .bf16
  harg19 : arg19.IsWhole

/-- The printed body, at a bundle of arguments. -/
def splat (A : Args) : Prog (TpuEff nD τ sig (Elt F) Λ₀ .tc) PUnit :=
  cc0_splat A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19

/-! ### Accesses -/

/-- Programs of the body. -/
abbrev PP (F : FTy → Type) : Type → Type 1 := Prog (TpuEff nD τ sig (Elt F) Λ₀ .tc)

variable {s : Shape} {e : EltTy}

/-- Read a rectangle. -/
def rd (a : Memref sig .tc .vmem s e) (r : Rect s) (h : 0 < r.shape.numel) : PP F (r.shape.Idx → Elt F e) :=
  Prog.lift (.load a r.toLoadRect (View.loadsAt_vmem h))

/-- Read a rectangle, then store to it (what was read is not used). -/
def wr (a : Memref sig .tc .vmem s e) (r : Rect s) (w : r.shape.Idx → Elt F e) (h : 0 < r.shape.numel)
    (hs : (a.access r).Stores Finset.univ) : PP F PUnit :=
  rd a r h >>= fun _ => Prog.lift (.store a r w Finset.univ hs (.inl rfl))

/-! ### The rectangles that depend on a loop variable -/

/-- Row `p` of a block of 24 rows, in each of the eight blocks. -/
abbrev rCoef (p : Nat) (h : p < 24) : Rect S192x128 :=
  ⟨⟨![p, 0], S8x128.size, ![24, 1], by
    intro a; right; match a with
    | 0 => show p + 24 * (8 - 1) < 192; omega
    | 1 => show 0 + 1 * (128 - 1) < 128; omega⟩, spos_24_1⟩
/-- The block of 24 rows of tile `b`. -/
abbrev rTile (b : Fin 8) : Rect S192x128 :=
  Rect.unit (s := S192x128) ![24 * b.val, 0] S24x128.size (by
    intro a; match a with
    | 0 => show 24 * b.val + 24 ≤ 192; omega
    | 1 => exact Nat.le_refl _)
/-- Half `h` of the opacities, -/
abbrev rHalf (h : Fin 2) : Rect S2x1152x128 :=
  Rect.unit (s := S2x1152x128) ![h.val, 0, 0] S1x1152x128.size (by
    intro a; match a with
    | 0 => show h.val + 1 ≤ 2; omega
    | 1 => exact Nat.le_refl _
    | 2 => exact Nat.le_refl _)
/-- and in it the rows of tile `b`: every ninth. -/
abbrev rEvery (b : Fin 8) : Rect S1152x128 :=
  ⟨⟨![b.val, 0], S128x128.size, ![9, 1], by
    intro a; right; match a with
    | 0 => show b.val + 9 * (128 - 1) < 1152; omega
    | 1 => show 0 + 1 * (128 - 1) < 128; omega⟩, spos_9_1⟩
/-- The eight rows of Gaussian `k` in half `h`. -/
abbrev rGauss (h : Fin 2) (k : Fin 128) : Rect S2x1152x128 :=
  Rect.unit (s := S2x1152x128) ![h.val, 9 * k.val, 0] S1x8x128.size (by
    intro a; match a with
    | 0 => show h.val + 1 ≤ 2; omega
    | 1 => show 9 * k.val + 8 ≤ 1152; omega
    | 2 => exact Nat.le_refl _)
/-- Half `h` of the scales, -/
abbrev rScale (h : Fin 2) : Rect S2x8x128 :=
  Rect.unit (s := S2x8x128) ![h.val, 0, 0] S1x8x128.size (by
    intro a; match a with
    | 0 => show h.val + 1 ≤ 2; omega
    | 1 => exact Nat.le_refl _
    | 2 => exact Nat.le_refl _)
/-- and in it the row of tile `b`. -/
abbrev rScaleRow (h : Fin 2) (b : Fin 8) : Rect S2x8x128 :=
  Rect.unit (s := S2x8x128) ![h.val, b.val, 0] S1x1x128.size (by
    intro a; match a with
    | 0 => show h.val + 1 ≤ 2; omega
    | 1 => show b.val + 1 ≤ 8; omega
    | 2 => exact Nat.le_refl _)
/-- Tile `b` of the features, -/
abbrev rFeat (b : Fin 8) : Rect S8x64x128 :=
  Rect.unit (s := S8x64x128) ![b.val, 0, 0] S1x64x128.size (by
    intro a; match a with
    | 0 => show b.val + 1 ≤ 8; omega
    | 1 => exact Nat.le_refl _
    | 2 => exact Nat.le_refl _)
/-- of the feature codes, -/
abbrev rCodes (b : Fin 8) : Rect S8x64x256 :=
  Rect.unit (s := S8x64x256) ![b.val, 0, 0] S1x64x256.size (by
    intro a; match a with
    | 0 => show b.val + 1 ≤ 8; omega
    | 1 => exact Nat.le_refl _
    | 2 => exact Nat.le_refl _)
/-- of their scales -/
abbrev rFs (b : Fin 8) : Rect S8x256 :=
  Rect.unit (s := S8x256) ![b.val, 0] S1x256.size (by
    intro a; match a with
    | 0 => show b.val + 1 ≤ 8; omega
    | 1 => exact Nat.le_refl _)
/-- and of the result. -/
abbrev rY (b : Fin 8) : Rect S8x256x384 :=
  Rect.unit (s := S8x256x384) ![b.val, 0, 0] S1x256x384.size (by
    intro a; match a with
    | 0 => show b.val + 1 ≤ 8; omega
    | 1 => exact Nat.le_refl _
    | 2 => exact Nat.le_refl _)

theorem packed_rCodes : ∀ b : Fin 8, (rCodes b).PackedRows (EltTy.packing .fp8e4m3)
  | 0 => packedfp8e4m3_S8x64x256_S1x64x256_0_0_0 | 1 => packedfp8e4m3_S8x64x256_S1x64x256_1_0_0
  | 2 => packedfp8e4m3_S8x64x256_S1x64x256_2_0_0 | 3 => packedfp8e4m3_S8x64x256_S1x64x256_3_0_0
  | 4 => packedfp8e4m3_S8x64x256_S1x64x256_4_0_0 | 5 => packedfp8e4m3_S8x64x256_S1x64x256_5_0_0
  | 6 => packedfp8e4m3_S8x64x256_S1x64x256_6_0_0 | 7 => packedfp8e4m3_S8x64x256_S1x64x256_7_0_0

theorem packed_rY : ∀ b : Fin 8, (rY b).PackedRows (EltTy.packing .bf16)
  | 0 => packedbf16_S8x256x384_S1x256x384_0_0_0 | 1 => packedbf16_S8x256x384_S1x256x384_1_0_0
  | 2 => packedbf16_S8x256x384_S1x256x384_2_0_0 | 3 => packedbf16_S8x256x384_S1x256x384_3_0_0
  | 4 => packedbf16_S8x256x384_S1x256x384_4_0_0 | 5 => packedbf16_S8x256x384_S1x256x384_5_0_0
  | 6 => packedbf16_S8x256x384_S1x256x384_6_0_0 | 7 => packedbf16_S8x256x384_S1x256x384_7_0_0

/-! ### The values the body computes -/

/-- The first piece of a number: its leading bits; -/
def piece0 {S : Shape} (x : FVec F S .f32) : FVec F S .f32 := trunc16 x
/-- the second: the leading bits of what the first leaves; -/
def piece1 {S : Shape} (x : FVec F S .f32) : FVec F S .f32 := trunc16 (subf x (trunc16 x))
/-- the third: what the two leave. -/
def piece2 {S : Shape} (x : FVec F S .f32) : FVec F S .f32 := subf (subf x (trunc16 x)) (trunc16 (subf x (trunc16 x)))

/-- The power of two below a value's ratio to the largest code, and the flag that the value is zero. -/
def expo {S : Shape} (x : FVec F S .f32) : FVec F S .f32 :=
  floor (mulf (log (mulf x (broadcast S (Scalar.ofBits .f32 0x3B124925#32)))) (broadcast S cLog2e))
def isZero {S : Shape} (x : FVec F S .f32) : IVec S 1 :=
  cmpf .oeq (mulf x (broadcast S (Scalar.ofBits .f32 0x3B124925#32))) (broadcast S (Scalar.ofBits .f32 0x00000000#32))
/-- The scale of the codes of values of greatest absolute value `x`: a power of two; -/
def scaleOf {S : Shape} (x : FVec F S .f32) : FVec F S .f32 :=
  select (isZero x) (broadcast S (Scalar.ofBits .f32 0x3F800000#32))
    (exp2 (addf (expo x) (broadcast S (Scalar.ofBits .f32 0x3F800000#32))))
/-- and its inverse. -/
def invOf {S : Shape} (x : FVec F S .f32) : FVec F S .f32 :=
  select (isZero x) (broadcast S (Scalar.ofBits .f32 0x3F800000#32))
    (exp2 (subf (broadcast S (Scalar.ofBits .f32 0xBF800000#32)) (expo x)))
/-- Codes: clipped to the largest code and rounded to it. -/
def code {S : Shape} (x : FVec F S .f32) : FVec F S .fp8e4m3 :=
  truncf .fp8e4m3 (minimumf (broadcast S (Scalar.ofBits .f32 0x43E00000#32))
    (maximumf (broadcast S (Scalar.ofBits .f32 0xC3E00000#32)) x)) bitsLt_fp8e4m3_f32

/-- The feature scales, one row of 128 columns a scale. -/
def fscOf (v : FVec F S1x64 .f32) : FVec F S64x128 .f32 :=
  shapeCast S64x128 (transpose S64x128 [1, 0] (broadcastTo S128x64 (shapeCast S1x64 (shapeCast S1x64 v shapeCasts_S1x64_S1x64)
    shapeCasts_S1x64_S1x64) broadcasts_S1x64_S128x64) transposes_S128x64_p1_0_S64x128) shapeCasts_S64x128_S64x128

/-- The decoder's codes times their scales. -/
def decOf (w : FVec F S64x384 .fp8e4m3) (d : FVec F S1x384 .f32) : FVec F S64x384 .f32 :=
  mulf (extf .f32 (shapeCast S64x384 w shapeCasts_S64x384_S64x384) bitsLt_fp8e4m3_f32) (broadcastTo S64x384 (shapeCast S1x384 d shapeCasts_S1x384_S1x384) broadcasts_S1x384_S64x384)

/-- A block of 64 rows of the decoder, as it is stored. -/
def augRow (x : FVec F S64x384 .f32) : FVec F S64x384 .bf16 :=
  shapeCast S64x384 (truncf .bf16 x bitsLt_bf16_f32) shapeCasts_S64x384_S64x384

/-- A row of bias, in 64 rows. -/
def biasRow (x : FVec F S1x384 .f32) : FVec F S64x384 .f32 :=
  broadcastTo S64x384 (shapeCast S1x384 x shapeCasts_S1x384_S1x384) broadcasts_S1x384_S64x384
/-- The three pieces of the bias in the first three of 64 rows, zero below. -/
def biasOf (b : FVec F S1x384 .f32) : FVec F S64x384 .f32 :=
  select (cmpi .eq (iota .tc S64x384 32 [0] iota_S64x384_d0_w32) (broadcast S64x384 0#32)) (biasRow (piece0 b))
    (select (cmpi .eq (iota .tc S64x384 32 [0] iota_S64x384_d0_w32) (broadcast S64x384 1#32)) (biasRow (piece1 b))
      (select (cmpi .eq (iota .tc S64x384 32 [0] iota_S64x384_d0_w32) (broadcast S64x384 2#32)) (biasRow (piece2 b))
        (broadcast S64x384 (Scalar.ofBits .f32 0x00000000#32))))

/-- What the first grid point writes. -/
def initBody (A : Args) : PP F PUnit := do
  wr A.arg14 (Rect.unit (s := S192x128) ![0, 0] S192x128.size inb_S192x128_S192x128_0_0)
    (shapeCast S192x128 (broadcast S192x128 (Scalar.ofBits .f32 0x00000000#32)) shapeCasts_S192x128_S192x128)
    h_S192x128 (View.stores_vmem_bits_univ h_S192x128 rfl)
  let v3152 ← rd A.arg7 (Rect.unit (s := S1x64) ![0, 0] S1x64.size inb_S1x64_S1x64_0_0) h_S1x64
  wr A.arg18 (Rect.unit (s := S64x128) ![0, 0] S64x128.size inb_S64x128_S64x128_0_0) (fscOf v3152)
    h_S64x128 (View.stores_vmem_bits_univ h_S64x128 rfl)
  let v3160 ← rd A.arg8 (Rect.unit (s := S64x384) ![0, 0] S64x384.size inb_S64x384_S64x384_0_0) h_S64x384
  let v3162 ← rd A.arg9 (Rect.unit (s := S1x384) ![0, 0] S1x384.size inb_S1x384_S1x384_0_0) h_S1x384
  wr A.arg19 (Rect.unit (s := S256x384) ![0, 0] S256x384.size inb_S256x384_S256x384_0_0)
    (shapeCast S256x384 (broadcast S256x384 (Scalar.ofBits .bf16 0x0000#16)) shapeCasts_S256x384_S256x384)
    h_S256x384 (View.stores_vmem h_S256x384 (A.harg19.storeExact_slice rfl _ packedbf16_S256x384_S256x384_0_0) (fun _ => rfl))
  wr A.arg19 (Rect.unit (s := S256x384) ![0, 0] S64x384.size inb_S256x384_S64x384_0_0) (augRow (piece0 (decOf v3160 v3162)))
    h_S64x384 (View.stores_vmem h_S64x384 (A.harg19.storeExact_slice rfl _ packedbf16_S256x384_S64x384_0_0) (fun _ => rfl))
  wr A.arg19 (Rect.unit (s := S256x384) ![64, 0] S64x384.size inb_S256x384_S64x384_64_0) (augRow (piece1 (decOf v3160 v3162)))
    h_S64x384 (View.stores_vmem h_S64x384 (A.harg19.storeExact_slice rfl _ packedbf16_S256x384_S64x384_64_0) (fun _ => rfl))
  wr A.arg19 (Rect.unit (s := S256x384) ![128, 0] S64x384.size inb_S256x384_S64x384_128_0) (augRow (piece2 (decOf v3160 v3162)))
    h_S64x384 (View.stores_vmem h_S64x384 (A.harg19.storeExact_slice rfl _ packedbf16_S256x384_S64x384_128_0) (fun _ => rfl))
  let v3193 ← rd A.arg10 (Rect.unit (s := S1x384) ![0, 0] S1x384.size inb_S1x384_S1x384_0_0) h_S1x384
  wr A.arg19 (Rect.unit (s := S256x384) ![192, 0] S64x384.size inb_S256x384_S64x384_192_0)
    (augRow (biasOf (shapeCast S1x384 v3193 shapeCasts_S1x384_S1x384)))
    h_S64x384 (View.stores_vmem h_S64x384 (A.harg19.storeExact_slice rfl _ packedbf16_S256x384_S64x384_192_0) (fun _ => rfl))

/-! ### The lists' lengths -/

/-- One word of the table, as a row of the lengths. -/
def lenRow (b : Fin 8) (w : BitVec 32) (lens : IVec S8x128 32) : IVec S8x128 32 :=
  select (cmpi .eq (iota .tc S8x128 32 [0] iota_S8x128_d0_w32) (broadcast S8x128 (BitVec.ofNat 32 b.val)))
    (broadcast S8x128 w) lens

/-- The eight words of the block, one a row. -/
def lensS (A : Args) : PP F (IVec S8x128 32) :=
  loopTo (fun (b : Fin 8) lens => do
    let w : Elt F .i32 ← smemLoad A.arg1 (Rect.unit (s := S3000) (k0_off1 A.i (BitVec.ofNat 32 b.val)) S1.size (k0_off1_inb A.i b)) numel1_S1 rfl
    pure (lenRow b w lens)) 8 (Nat.le_refl _) (broadcast S8x128 0#32)

/-! ### The coefficients of the powers -/

/-- A centre's coordinate from the middle of the tile. -/
def relOf (v : FVec F S8x1x128 .f32) : FVec F S8x128 .f32 :=
  subf (shapeCast S8x128 v shapeCasts_S8x1x128_S8x128) (broadcast S8x128 (Scalar.ofBits .f32 0x41000000#32))
/-- An entry of the conic times log2 e. -/
def conOf (v : FVec F S1x8x128 .f32) : FVec F S8x128 .f32 :=
  mulf (shapeCast S8x128 v shapeCasts_S1x8x128_S8x128) (broadcast S8x128 cLog2e)
/-- The Gaussians that add something. -/
def liveOf (lens : IVec S8x128 32) (op : FVec F S8x128 .f32) : IVec S8x128 1 :=
  andi (cmpi .slt (iota .tc S8x128 32 [1] iota_S8x128_d1_w32) lens)
    (cmpf .ogt op (broadcast S8x128 (Scalar.ofBits .f32 0x00000000#32)))
def gx (u v ca cb : FVec F S8x128 .f32) : FVec F S8x128 .f32 := addf (mulf ca u) (mulf cb v)
def gy (u v cb cc : FVec F S8x128 .f32) : FVec F S8x128 .f32 := addf (mulf cc v) (mulf cb u)
def constOf (u v ca cb cc op : FVec F S8x128 .f32) : FVec F S8x128 .f32 :=
  subf (mulf (log op) (broadcast S8x128 cLog2e))
    (mulf (broadcast S8x128 (Scalar.ofBits .f32 0x3F000000#32)) (addf (mulf (gx u v ca cb) u) (mulf (gy u v cb cc) v)))
/-- A coefficient of a Gaussian that adds something; zero of one that does not. -/
def liveOr0 (live : IVec S8x128 1) (x : FVec F S8x128 .f32) : FVec F S8x128 .f32 :=
  select live x (broadcast S8x128 (Scalar.ofBits .f32 0x00000000#32))
/-- The six coefficients. -/
def coefOf (live : IVec S8x128 1) (u v ca cb cc op : FVec F S8x128 .f32) : Fin 6 → FVec F S8x128 .f32
  | 0 => liveOr0 live (mulf (broadcast S8x128 (Scalar.ofBits .f32 0xBF000000#32)) ca)
  | 1 => liveOr0 live (subf (broadcast S8x128 (Scalar.ofBits .f32 0x00000000#32)) cb)
  | 2 => liveOr0 live (mulf (broadcast S8x128 (Scalar.ofBits .f32 0xBF000000#32)) cc)
  | 3 => liveOr0 live (gx u v ca cb)
  | 4 => liveOr0 live (gy u v cb cc)
  | 5 => select live (constOf u v ca cb cc op) (broadcast S8x128 cNever)

/-- Store the three pieces of coefficient `j`. -/
def storeCoef (A : Args) (j : Fin 6) (c : FVec F S8x128 .f32) : PP F PUnit := do
  wr A.arg14 (rCoef (3 * j.val) (by omega)) (shapeCast S8x128 (piece0 c) shapeCasts_S8x128_S8x128) h_S8x128
    (View.stores_vmem_bits_univ h_S8x128 rfl)
  wr A.arg14 (rCoef (3 * j.val + 1) (by omega)) (shapeCast S8x128 (piece1 c) shapeCasts_S8x128_S8x128) h_S8x128
    (View.stores_vmem_bits_univ h_S8x128 rfl)
  wr A.arg14 (rCoef (3 * j.val + 2) (by omega)) (shapeCast S8x128 (piece2 c) shapeCasts_S8x128_S8x128) h_S8x128
    (View.stores_vmem_bits_univ h_S8x128 rfl)

/-- Compute the coefficients of the block and store their pieces. -/
def coefsS (A : Args) (lens : IVec S8x128 32) : PP F PUnit := do
  let v70 ← rd A.arg2 (Rect.unit (s := S8x2x128) ![0, 0, 0] S8x1x128.size inb_S8x2x128_S8x1x128_0_0_0) h_S8x1x128
  let v74 ← rd A.arg2 (Rect.unit (s := S8x2x128) ![0, 1, 0] S8x1x128.size inb_S8x2x128_S8x1x128_0_1_0) h_S8x1x128
  let v78 ← rd A.arg3 (Rect.unit (s := S3x8x128) ![0, 0, 0] S1x8x128.size inb_S3x8x128_S1x8x128_0_0_0) h_S1x8x128
  let v82 ← rd A.arg3 (Rect.unit (s := S3x8x128) ![1, 0, 0] S1x8x128.size inb_S3x8x128_S1x8x128_1_0_0) h_S1x8x128
  let v86 ← rd A.arg3 (Rect.unit (s := S3x8x128) ![2, 0, 0] S1x8x128.size inb_S3x8x128_S1x8x128_2_0_0) h_S1x8x128
  let v90 ← rd A.arg4 (Rect.unit (s := S8x128) ![0, 0] S8x128.size inb_S8x128_S8x128_0_0) h_S8x128
  loopTo (fun (j : Fin 6) (_ : PUnit) =>
    storeCoef A j (coefOf (liveOf lens v90) (relOf v70) (relOf v74) (conOf v78) (conOf v82) (conOf v86) v90 j)) 6 (Nat.le_refl _) ⟨⟩

/-! ### The opacities -/

/-- The opacities of one tile's Gaussians at its pixels. -/
def alphaOf (coef : FVec F S24x128 .f32) (pix : FVec F S24x256 .f32) : FVec F S128x256 .f32 :=
  minimumf (broadcast S128x256 (Scalar.ofBits .f32 0x3F7D70A4#32))
    (exp2 (matmul dot_S128x24_S24x256_S128x256_1_0_0_1_n_n none (transpose S128x24 [1, 0] coef transposes_S24x128_p1_0_S128x24) pix
      (constant S128x256 .f32 0x00000000#32)))

/-- Half `h` of the opacities' scratch. -/
abbrev half (A : Args) (h : Fin 2) : Memref sig .tc .vmem S1152x128 .f32 :=
  (A.arg15.slice (rHalf h) (fun _ => rfl)).squeeze S1152x128 squeezes_S1x1152x128_S1152x128

/-- Compute the opacities of tile `b` and store each half of them. -/
def alphaS (A : Args) (pix : FVec F S24x256 .f32) (b : Fin 8) : PP F PUnit := do
  let c ← rd A.arg14 (rTile b) h_S24x128
  wr (half A 0) (rEvery b)
    (shapeCast S128x128 (extractStridedSlice S128x128 ![0, 0] (alphaOf c pix) slices_S128x256_o0_0_S128x128) shapeCasts_S128x128_S128x128)
    h_S128x128 (View.stores_vmem_bits_univ h_S128x128 rfl)
  wr (half A 1) (rEvery b)
    (shapeCast S128x128 (extractStridedSlice S128x128 ![0, 128] (alphaOf c pix) slices_S128x256_o0_128_S128x128) shapeCasts_S128x128_S128x128)
    h_S128x128 (View.stores_vmem_bits_univ h_S128x128 rfl)

/-! ### The weights -/

/-- What is left of the light, and the greatest weight, after a Gaussian of weight `w`. -/
def scanNext (w : FVec F S8x128 .f32) (s : FVec F S8x128 .f32 × FVec F S8x128 .f32) : FVec F S8x128 .f32 × FVec F S8x128 .f32 :=
  ⟨subf s.1 w, maximumf s.2 w⟩
/-- The weight of a Gaussian of opacities `a` behind which `t` of the light is left. -/
def weight (a : FVec F S1x8x128 .f32) (t : FVec F S8x128 .f32) : FVec F S8x128 .f32 :=
  mulf (shapeCast S8x128 a shapeCasts_S1x8x128_S8x128) t

/-- One Gaussian of half `h`: its opacities become weights. -/
def scanStep (A : Args) (h : Fin 2) (k : Fin 128) (s : FVec F S8x128 .f32 × FVec F S8x128 .f32) :
    PP F (FVec F S8x128 .f32 × FVec F S8x128 .f32) := do
  let a ← rd A.arg15 (rGauss h k) h_S1x8x128
  wr A.arg15 (rGauss h k) (shapeCast S1x8x128 (weight a s.1) shapeCasts_S8x128_S1x8x128) h_S1x8x128
    (View.stores_vmem_bits_univ h_S1x8x128 rfl)
  pure (scanNext (weight a s.1) s)

/-- Before any Gaussian: all of the light, and no weight. -/
def scan0 : FVec F S8x128 .f32 × FVec F S8x128 .f32 :=
  ⟨broadcast S8x128 (Scalar.ofBits .f32 0x3F800000#32), broadcast S8x128 (Scalar.ofBits .f32 0x00000000#32)⟩

/-- The weights of half `h`, their scale and its inverse. -/
def scanS (A : Args) (h : Fin 2) : PP F PUnit := do
  let s ← loopTo (scanStep A h) 128 (Nat.le_refl _) scan0
  wr A.arg16 (rScale h) (shapeCast S1x8x128 (scaleOf s.2) shapeCasts_S8x128_S1x8x128) h_S1x8x128
    (View.stores_vmem_bits_univ h_S1x8x128 rfl)
  wr A.arg17 (rScale h) (shapeCast S1x8x128 (invOf s.2) shapeCasts_S8x128_S1x8x128) h_S1x8x128
    (View.stores_vmem_bits_univ h_S1x8x128 rfl)

/-! ### The codes and the products -/

/-- Three rows of ones, and zeros below: what the bias is multiplied by. -/
def onesOf : FVec F S64x256 .bf16 :=
  truncf .bf16 (select (cmpi .slt (iota .tc S64x256 32 [0] iota_S64x256_d0_w32) (broadcast S64x256 3#32))
    (broadcast S64x256 (Scalar.ofBits .f32 0x3F800000#32)) (broadcast S64x256 (Scalar.ofBits .f32 0x00000000#32))) bitsLt_bf16_f32

/-- The codes of one half's weights. -/
def wCode (w : FVec F S128x128 .f32) (inv : FVec F S1x1x128 .f32) : FVec F S128x128 .fp8e4m3 :=
  code (mulf w (broadcastTo S128x128 (shapeCast S1x128 inv shapeCasts_S1x1x128_S1x128) broadcasts_S1x128_S128x128))

/-- The feature map of a tile. -/
def featOf (w0 w1 : FVec F S128x128 .f32) (i0 i1 : FVec F S1x1x128 .f32) (fe : FVec F S1x64x128 .fp8e4m3)
    (s0 s1 : FVec F S1x1x128 .f32) (fsc : FVec F S64x128 .f32) : FVec F S64x256 .f32 :=
  mulf (mulf (matmul dot_S64x128_S128x256_S64x256_1_0_0_1_n_n none (shapeCast S64x128 fe shapeCasts_S1x64x128_S64x128)
      (concatenate S128x256 1 [⟨S128x128, wCode w0 i0⟩, ⟨S128x128, wCode w1 i1⟩] concatenates_S128x128_S128x128_S128x256_d1)
      (constant S64x256 .f32 0x00000000#32))
    (broadcastTo S64x256 (concatenate S1x256 1 [⟨S1x128, shapeCast S1x128 s0 shapeCasts_S1x1x128_S1x128⟩,
      ⟨S1x128, shapeCast S1x128 s1 shapeCasts_S1x1x128_S1x128⟩] concatenates_S1x128_S1x128_S1x256_d1) broadcasts_S1x256_S64x256))
    (concatenate S64x256 1 [⟨S64x128, fsc⟩, ⟨S64x128, fsc⟩] concatenates_S64x128_S64x128_S64x256_d1)

/-- The greatest absolute value of each pixel's features. -/
def amaxOf (x : FVec F S64x256 .f32) : FVec F S1x256 .f32 :=
  shapeCast S1x256 (multiReduction .maximumf [0] S256 (absf x) 0xFF800000#32 reduces_S64x256_S256 (.inl rfl) rfl) shapeCasts_S256_S1x256

/-- The feature codes of a tile, -/
def fCode (x : FVec F S64x256 .f32) : FVec F S64x256 .fp8e4m3 :=
  code (mulf x (broadcastTo S64x256 (invOf (amaxOf x)) broadcasts_S1x256_S64x256))

/-- what they stand for, -/
def deqOf (x : FVec F S64x256 .f32) : FVec F S64x256 .bf16 :=
  mulf (extf .bf16 (fCode x) bitsLt_fp8e4m3_bf16)
    (broadcastTo S64x256 (truncf .bf16 (scaleOf (amaxOf x)) bitsLt_bf16_f32) broadcasts_S1x256_S64x256)

/-- and their product with the decoder. -/
def yOf (x : FVec F S64x256 .f32) (aug : FVec F S256x384 .bf16) : FVec F S256x384 .bf16 :=
  truncf .bf16 (matmul dot_S256x256_S256x384_S256x384_1_0_0_1_n_n none
    (transpose S256x256 [1, 0] (concatenate S256x256 0 [⟨S64x256, deqOf x⟩, ⟨S64x256, deqOf x⟩, ⟨S64x256, deqOf x⟩, ⟨S64x256, onesOf⟩]
      concatenates_S64x256_S64x256_S64x256_S64x256_S256x256_d0) transposes_S256x256_p1_0_S256x256)
    aug (constant S256x384 .f32 0x00000000#32)) bitsLt_bf16_f32

/-- One tile: its codes, their scales, its result. -/
def tileS (A : Args) (b : Fin 8) : PP F PUnit := do
  let w0 ← rd (half A 0) (rEvery b) h_S128x128
  let i0 ← rd A.arg17 (rScaleRow 0 b) h_S1x1x128
  let w1 ← rd (half A 1) (rEvery b) h_S128x128
  let i1 ← rd A.arg17 (rScaleRow 1 b) h_S1x1x128
  let fe ← rd A.arg5 (rFeat b) h_S1x64x128
  let s0 ← rd A.arg16 (rScaleRow 0 b) h_S1x1x128
  let s1 ← rd A.arg16 (rScaleRow 1 b) h_S1x1x128
  let fsc ← rd A.arg18 (Rect.unit (s := S64x128) ![0, 0] S64x128.size inb_S64x128_S64x128_0_0) h_S64x128
  wr A.arg12 (rCodes b) (shapeCast S1x64x256 (fCode (featOf w0 w1 i0 i1 fe s0 s1 fsc)) shapeCasts_S64x256_S1x64x256)
    h_S1x64x256 (View.stores_vmem h_S1x64x256 (A.harg12.storeExact_slice rfl _ (packed_rCodes b)) (fun _ => rfl))
  wr A.arg13 (rFs b) (scaleOf (amaxOf (featOf w0 w1 i0 i1 fe s0 s1 fsc))) h_S1x256 (View.stores_vmem_bits_univ h_S1x256 rfl)
  let aug ← rd A.arg19 (Rect.unit (s := S256x384) ![0, 0] S256x384.size inb_S256x384_S256x384_0_0) h_S256x384
  wr A.arg11 (rY b) (shapeCast S1x256x384 (yOf (featOf w0 w1 i0 i1 fe s0 s1 fsc) aug) shapeCasts_S256x384_S1x256x384)
    h_S1x256x384 (View.stores_vmem h_S1x256x384 (A.harg11.storeExact_slice rfl _ (packed_rY b)) (fun _ => rfl))

/-! ### The body -/

/-- What every grid point does. -/
def body (A : Args) : PP F PUnit := do
  let lens ← lensS A
  coefsS A lens
  let pix ← rd A.arg6 (Rect.unit (s := S24x256) ![0, 0] S24x256.size inb_S24x256_S24x256_0_0) h_S24x256
  loopTo (fun b (_ : PUnit) => alphaS A pix b) 8 (Nat.le_refl _) ⟨⟩
  loopTo (fun h (_ : PUnit) => scanS A h) 2 (Nat.le_refl _) ⟨⟩
  loopTo (fun b (_ : PUnit) => tileS A b) 8 (Nat.le_refl _) ⟨⟩

/-- The condition under which a grid point writes the scratch that the others read. -/
abbrev isFirst (i : grid0.Coords) : Prop :=
  Scalar.cmpi .ne (Scalar.extui (Scalar.cmpi .eq (BitVec.ofNat 32 (i 0).val) 0#32)) 0#32 = 1#1

/-- The first grid point's body is the program above after its first part. -/
theorem splat_pos (A : Args) (h : isFirst A.i) : splat (F := F) A = (initBody A >>= fun _ => body A) := by
  unfold splat cc0_splat k0_part96
  simp only [k0_part2, dif_pos h]
  chain_rfl

/-- Every other grid point's body is the program above. -/
theorem splat_neg (A : Args) (h : ¬ isFirst A.i) : splat (F := F) A = body A := by
  unfold splat cc0_splat k0_part96
  simp only [k0_part2, dif_neg h]
  chain_rfl

end Cert.KernelIdeal.Hand

end
-- ==== Proof.KernelIdealKit.lean ====
module

public import proofs.«01_k».proof.Proof.Gen.KernelIdeal.Launch
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! # The pipeline of the kernel

What the proofs about the kernel share of its launch: at which points a window is fetched and written back, the staging
memrefs, the contents of the arrays when the region is entered, each window's block, the table. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
/-! ## The pipeline: fetches, write-backs and the staging memrefs -/

/-- Window 0 is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 1 (fun _ => rfl) (by decide)) (P := 1) (by decide) t).mpr (Nat.mod_one _) : ∀ t : Fin grid0.N, Pipeline.Window.fetchOf grid0 false cc0_transform_1 t = true)
/-- Window 2 is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 is fetched at the first point only, at any contents of the tables (its index map reads none). -/
theorem fetch0_4 (a : (pcfg0 (F := F)).Adm) : ∀ t : Fin (cfg0 a).N, ((cfg0 a).win 4).fetch t = true ↔ t.val % 375 = 0 :=
  (fun t => Pipeline.Window.fetchOf_const cc0_transform_4 (fun _ _ => rfl) (n := 375) (by decide) t : ∀ t : Fin grid0.N, Pipeline.Window.fetchOf grid0 false cc0_transform_4 t = true ↔ t.val % 375 = 0)
/-- Window 5 is fetched at the first point only, at any contents of the tables (its index map reads none). -/
theorem fetch0_5 (a : (pcfg0 (F := F)).Adm) : ∀ t : Fin (cfg0 a).N, ((cfg0 a).win 5).fetch t = true ↔ t.val % 375 = 0 :=
  (fun t => Pipeline.Window.fetchOf_const cc0_transform_5 (fun _ _ => rfl) (n := 375) (by decide) t : ∀ t : Fin grid0.N, Pipeline.Window.fetchOf grid0 false cc0_transform_5 t = true ↔ t.val % 375 = 0)
/-- Window 6 is fetched at the first point only, at any contents of the tables (its index map reads none). -/
theorem fetch0_6 (a : (pcfg0 (F := F)).Adm) : ∀ t : Fin (cfg0 a).N, ((cfg0 a).win 6).fetch t = true ↔ t.val % 375 = 0 :=
  (fun t => Pipeline.Window.fetchOf_const cc0_transform_6 (fun _ _ => rfl) (n := 375) (by decide) t : ∀ t : Fin grid0.N, Pipeline.Window.fetchOf grid0 false cc0_transform_6 t = true ↔ t.val % 375 = 0)
/-- Window 7 is fetched at the first point only, at any contents of the tables (its index map reads none). -/
theorem fetch0_7 (a : (pcfg0 (F := F)).Adm) : ∀ t : Fin (cfg0 a).N, ((cfg0 a).win 7).fetch t = true ↔ t.val % 375 = 0 :=
  (fun t => Pipeline.Window.fetchOf_const cc0_transform_7 (fun _ _ => rfl) (n := 375) (by decide) t : ∀ t : Fin grid0.N, Pipeline.Window.fetchOf grid0 false cc0_transform_7 t = true ↔ t.val % 375 = 0)
/-- Window 8 is fetched at the first point only, at any contents of the tables (its index map reads none). -/
theorem fetch0_8 (a : (pcfg0 (F := F)).Adm) : ∀ t : Fin (cfg0 a).N, ((cfg0 a).win 8).fetch t = true ↔ t.val % 375 = 0 :=
  (fun t => Pipeline.Window.fetchOf_const cc0_transform_8 (fun _ _ => rfl) (n := 375) (by decide) t : ∀ t : Fin grid0.N, Pipeline.Window.fetchOf grid0 false cc0_transform_8 t = true ↔ t.val % 375 = 0)
/-- Window 9 is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)
/-- Window 10 is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_splat (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` . -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation before the region writes: the region finds it as launched. -/
theorem V_of_unwritten (c : Dev nD) (b : Ref sig .tc)
    (h : (hostOps0 (F := F)).Forall fun op => Proc.devRef (τ := τ) .tc b ∉ op.writes) : V m c b = m ((c : Thread nD τ).loc b) :=
  StableHlo.after_of_forall_not_mem (b := Proc.devRef .tc b) _ _ (List.forall_iff_forall_mem.mp h)
/-- The arguments are such buffers. -/
theorem unwritten (b : Ref sig .tc) (h : b = main_arg0 ∨ b = main_arg1 ∨ b = main_arg2 ∨ b = main_arg3 ∨ b = main_arg4 ∨ b = main_arg5
      ∨ b = main_arg6 ∨ b = main_arg7 ∨ b = main_arg8) :
    (hostOps0 (F := F)).Forall fun op => Proc.devRef (τ := τ) .tc b ∉ op.writes := by
  simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_⟩
  all_goals
    rcases h with rfl | rfl | rfl | rfl | rfl | rfl | rfl | rfl | rfl <;> exact StableHlo.devRef_ne_of_ne (by decide)
theorem V_main_arg0 (c : Dev nD) : V m c main_arg0 = m ((c : Thread nD τ).loc main_arg0) := V_of_unwritten m c _ (unwritten _ (by simp))
theorem V_main_arg1 (c : Dev nD) : V m c main_arg1 = m ((c : Thread nD τ).loc main_arg1) := V_of_unwritten m c _ (unwritten _ (by simp))
theorem V_main_arg2 (c : Dev nD) : V m c main_arg2 = m ((c : Thread nD τ).loc main_arg2) := V_of_unwritten m c _ (unwritten _ (by simp))
theorem V_main_arg3 (c : Dev nD) : V m c main_arg3 = m ((c : Thread nD τ).loc main_arg3) := V_of_unwritten m c _ (unwritten _ (by simp))
theorem V_main_arg4 (c : Dev nD) : V m c main_arg4 = m ((c : Thread nD τ).loc main_arg4) := V_of_unwritten m c _ (unwritten _ (by simp))
theorem V_main_arg5 (c : Dev nD) : V m c main_arg5 = m ((c : Thread nD τ).loc main_arg5) := V_of_unwritten m c _ (unwritten _ (by simp))
theorem V_main_arg6 (c : Dev nD) : V m c main_arg6 = m ((c : Thread nD τ).loc main_arg6) := V_of_unwritten m c _ (unwritten _ (by simp))
theorem V_main_arg7 (c : Dev nD) : V m c main_arg7 = m ((c : Thread nD τ).loc main_arg7) := V_of_unwritten m c _ (unwritten _ (by simp))
theorem V_main_arg8 (c : Dev nD) : V m c main_arg8 = m ((c : Thread nD τ).loc main_arg8) := V_of_unwritten m c _ (unwritten _ (by simp))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3000 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for any proof data whose
    array is `V`'s and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KernelIdealRun.lean ====
module

public import proofs.«01_k».proof.Proof.KernelIdealBody
public import proofs.«01_k».proof.Proof.KernelIdealKit
public import proofs.«01_k».proof.Proof.Runs

@[expose] public section

set_option maxRecDepth 16384

noncomputable section

/-! # The body over its memrefs

The memrefs of the body as a family, the rules for its reads and writes, and that the body writes to none of its operands. -/

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Loops

variable {F : FTy → Type} [FloatOps F] [Named F]

/-- Where each memref lies, -/
abbrev spOf : Slot → CoreSpace
  | .m1 => .smem
  | .m2 => .vmem
  | .m3 => .vmem
  | .m4 => .vmem
  | .m5 => .vmem
  | .m6 => .vmem
  | .m7 => .vmem
  | .m8 => .vmem
  | .m9 => .vmem
  | .m10 => .vmem
  | .m11 => .vmem
  | .m12 => .vmem
  | .m13 => .vmem
  | .m14 => .vmem
  | .m15 => .vmem
  | .m16 => .vmem
  | .m17 => .vmem
  | .m18 => .vmem
  | .m19 => .vmem
/-- its shape -/
abbrev shOf : Slot → Shape
  | .m1 => S3000
  | .m2 => S8x2x128
  | .m3 => S3x8x128
  | .m4 => S8x128
  | .m5 => S8x64x128
  | .m6 => S24x256
  | .m7 => S1x64
  | .m8 => S64x384
  | .m9 => S1x384
  | .m10 => S1x384
  | .m11 => S8x256x384
  | .m12 => S8x64x256
  | .m13 => S8x256
  | .m14 => S192x128
  | .m15 => S2x1152x128
  | .m16 => S2x8x128
  | .m17 => S2x8x128
  | .m18 => S64x128
  | .m19 => S256x384
/-- and its elements. -/
abbrev elOf : Slot → EltTy
  | .m1 => .i32
  | .m2 => .f32
  | .m3 => .f32
  | .m4 => .f32
  | .m5 => .fp8e4m3
  | .m6 => .f32
  | .m7 => .f32
  | .m8 => .fp8e4m3
  | .m9 => .f32
  | .m10 => .f32
  | .m11 => .bf16
  | .m12 => .fp8e4m3
  | .m13 => .f32
  | .m14 => .f32
  | .m15 => .f32
  | .m16 => .f32
  | .m17 => .f32
  | .m18 => .f32
  | .m19 => .bf16
/-- The body's memrefs. -/
abbrev memOf (A : Args) : ∀ j, Memref sig .tc (spOf j) (shOf j) (elOf j)
  | .m1 => A.arg1
  | .m2 => A.arg2
  | .m3 => A.arg3
  | .m4 => A.arg4
  | .m5 => A.arg5
  | .m6 => A.arg6
  | .m7 => A.arg7
  | .m8 => A.arg8
  | .m9 => A.arg9
  | .m10 => A.arg10
  | .m11 => A.arg11
  | .m12 => A.arg12
  | .m13 => A.arg13
  | .m14 => A.arg14
  | .m15 => A.arg15
  | .m16 => A.arg16
  | .m17 => A.arg17
  | .m18 => A.arg18
  | .m19 => A.arg19
/-- The table is held at half a share, the others whole. -/
abbrev shareOf : Slot → PosShare TreeShare
  | .m1 => fullShare.right
  | _ => fullShare

/-- The contents of the body's memrefs. -/
abbrev Cts (F : FTy → Type) : Type := St (Elt F) shOf elOf

/-- What a program of the body returns and leaves, on core `c`. -/
abbrev SP (A : Args) (c : Dev nD) {α : Type} (p : PP F α) (s : Cts F) (Φ : α → Cts F → Prop) : Prop :=
  Spec (defs₀ (F := F)) (c : Thread nD τ) (memOf A) shareOf p s Φ
/-- The same exactly. -/
abbrev RN (A : Args) (c : Dev nD) {α : Type} (p : PP F α) (s : Cts F) (a : α) (s' : Cts F) : Prop :=
  Runs (defs₀ (F := F)) (c : Thread nD τ) (memOf A) shareOf p s a s'

section Rules

variable {A : Args} {c : Dev nD} {s : Cts F} {sh : Shape} {el : EltTy} {α : Type}

/-- Reading a rectangle of memref `j`. -/
theorem rn_rd (j : Slot) (hsp : spOf j = .vmem) (m : Memref sig .tc .vmem (shOf j) (elOf j)) (hm : HEq m (memOf A j)) (r : Rect (shOf j))
    (h : 0 < r.shape.numel) : RN A c (rd m r h) s (fun x => s j (r.emb x)) s := by
  revert m r
  cases j <;> first | exact absurd hsp (by decide) | skip
  all_goals
    intro m hm r h; obtain rfl := eq_of_heq hm
    unfold rd; exact Runs.load (defs := defs₀ (F := F)) (c := (c : Thread nD τ)) (q := shareOf) (M := memOf A) s _ r.toLoadRect (View.loadsAt_vmem h)

/-- Writing a rectangle of memref `j`, held whole. -/
theorem rn_wr (j : Slot) (hin : j.input = false) (hsp : spOf j = .vmem) (m : Memref sig .tc .vmem (shOf j) (elOf j)) (hm : HEq m (memOf A j)) (r : Rect (shOf j))
    (w : r.shape.Idx → Elt F (elOf j)) (h : 0 < r.shape.numel) (hs : (m.access r).Stores Finset.univ) :
    RN A c (wr m r w h hs) s ⟨⟩ (Function.update s j (put r.emb (s j) w)) := by
  unfold wr
  refine Runs.bind (rn_rd j hsp m hm r h) ?_
  revert m r
  cases j <;> first | exact absurd hsp (by decide) | exact absurd hin (by decide) | skip
  all_goals
    intro m hm r w h hs; obtain rfl := eq_of_heq hm
    exact Runs.store (defs := defs₀ (F := F)) (c := (c : Thread nD τ)) (q := shareOf) (M := memOf A) s _ rfl r w hs (.inl rfl)

/-- Reading a half of the opacities. -/
theorem rn_rd_half (h : Fin 2) (r : Rect S1152x128) (hr : 0 < r.shape.numel) :
    RN A c (rd (half A h) r hr) s (fun x => s .m15 (within (rHalf h) squeezes_S1x1152x128_S1152x128.numel_eq r x)) s := by
  unfold rd half
  exact Runs.loadWithin (defs := defs₀ (F := F)) (c := (c : Thread nD τ)) (q := shareOf) (M := memOf A) s .m15 (rHalf h) (fun _ => rfl) squeezes_S1x1152x128_S1152x128 r (View.loadsAt_vmem hr)

/-- Writing one. -/
theorem rn_wr_half (h : Fin 2) (r : Rect S1152x128) (w : r.shape.Idx → Elt F .f32) (hr : 0 < r.shape.numel)
    (hs : ((half A h).access r).Stores Finset.univ) :
    RN A c (wr (half A h) r w hr hs) s ⟨⟩
      (Function.update s .m15 (put (within (rHalf h) squeezes_S1x1152x128_S1152x128.numel_eq r) (s .m15) w)) := by
  unfold wr
  refine Runs.bind (rn_rd_half h r hr) ?_
  exact Runs.storeWithin (defs := defs₀ (F := F)) (c := (c : Thread nD τ)) (q := shareOf) (M := memOf A) s .m15 rfl (rHalf h) (fun _ => rfl) squeezes_S1x1152x128_S1152x128 r w hs (.inl rfl)

/-- Reading a word of the table. -/
theorem rn_word (r : Rect S3000) (h1 : r.shape.numel = 1) :
    RN A c (smemLoad A.arg1 r h1 rfl : PP F (Elt F .i32)) s (s .m1 (r.emb (Shape.Idx.first (h1.symm ▸ Nat.one_pos)))) s := by
  have h := Runs.load (defs := defs₀ (F := F)) (c := (c : Thread nD τ)) (q := shareOf) (M := memOf A) s .m1 r.toLoadRect (View.loadsAt_rect (View.loads_smem_one rfl h1))
  have h' := h.bind (k := fun f => Pure.pure (f (Shape.Idx.first (h1.symm ▸ Nat.one_pos)))) (Runs.ret _ s)
  exact h'

end Rules

/-! ## The operands are kept -/

/-- The operands hold the same. -/
def Keep (s s' : Cts F) : Prop := ∀ j, j.input = true → s' j = s j

/-- From any contents the program runs and leaves the operands. -/
def Keeps (A : Args) (c : Dev nD) {α : Type} (p : PP F α) : Prop := ∀ s, SP A c p s fun _ s' => Keep s s'

variable {A : Args} {c : Dev nD} {α β : Type}

theorem Keeps.of_runs {p : PP F α} (h : ∀ s, ∃ a s', RN A c p s a s' ∧ Keep s s') : Keeps A c p := h

theorem Keeps.ret (a : α) : Keeps (F := F) A c (Pure.pure a) := fun s => ⟨a, s, Runs.ret a s, fun _ _ => rfl⟩

theorem Keeps.bind {p : PP F α} {k : α → PP F β} (h : Keeps A c p) (h' : ∀ a, Keeps A c (k a)) : Keeps A c (p >>= k) := fun s =>
  Spec.bind (h s) fun a s' hs => (h' a s').mono fun b s'' hs' j hj => (hs' j hj).trans (hs j hj)

theorem Keeps.loop {σ : Type} {N : Nat} {f : Fin N → σ → PP F σ} (h : ∀ k x, Keeps A c (f k x)) (x : σ) :
    Keeps A c (loopTo f N (Nat.le_refl _) x) := fun s =>
  Spec.loopAll (fun _ _ s' => Keep s s') (fun k x s' hs => (h k x s').mono fun b s'' hs' j hj => (hs' j hj).trans (hs j hj)) (fun _ _ => rfl)

theorem Keeps.rd (j : Slot) (hsp : spOf j = .vmem) (m : Memref sig .tc .vmem (shOf j) (elOf j)) (hm : HEq m (memOf A j)) (r : Rect (shOf j))
    (h : 0 < r.shape.numel) : Keeps (F := F) A c (rd m r h) := fun s => ⟨_, s, rn_rd j hsp m hm r h, fun _ _ => rfl⟩

theorem keep_update (s : Cts F) (j : Slot) (hj : j.input = false) (x : (shOf j).Idx → Elt F (elOf j)) : Keep s (Function.update s j x) := by
  intro i hi
  refine Function.update_of_ne ?_ _ _
  rintro rfl; rw [hj] at hi; cases hi

theorem Keeps.wr (j : Slot) (hj : j.input = false) (hsp : spOf j = .vmem) (m : Memref sig .tc .vmem (shOf j) (elOf j)) (hm : HEq m (memOf A j))
    (r : Rect (shOf j)) (w : r.shape.Idx → Elt F (elOf j)) (h : 0 < r.shape.numel) (hs : (m.access r).Stores Finset.univ) :
    Keeps A c (wr m r w h hs) := fun s => ⟨_, _, rn_wr j hj hsp m hm r w h hs, keep_update s j hj _⟩

theorem Keeps.rd_half (h : Fin 2) (r : Rect S1152x128) (hr : 0 < r.shape.numel) : Keeps (F := F) A c (Hand.rd (half A h) r hr) :=
  fun s => ⟨_, s, rn_rd_half h r hr, fun _ _ => rfl⟩

theorem Keeps.wr_half (h : Fin 2) (r : Rect S1152x128) (w : r.shape.Idx → Elt F .f32) (hr : 0 < r.shape.numel)
    (hs : ((half A h).access r).Stores Finset.univ) : Keeps A c (Hand.wr (half A h) r w hr hs) :=
  fun s => ⟨_, _, rn_wr_half h r w hr hs, keep_update s .m15 rfl _⟩

theorem keeps_init : Keeps (F := F) A c (initBody A) := by
  unfold initBody
  refine (Keeps.wr .m14 rfl rfl _ .rfl _ _ _ _).bind fun _ => ?_
  refine (Keeps.rd .m7 rfl _ .rfl _ _).bind fun _ => ?_
  refine (Keeps.wr .m18 rfl rfl _ .rfl _ _ _ _).bind fun _ => ?_
  refine (Keeps.rd .m8 rfl _ .rfl _ _).bind fun _ => ?_
  refine (Keeps.rd .m9 rfl _ .rfl _ _).bind fun _ => ?_
  refine (Keeps.wr .m19 rfl rfl _ .rfl _ _ _ _).bind fun _ => ?_
  refine (Keeps.wr .m19 rfl rfl _ .rfl _ _ _ _).bind fun _ => ?_
  refine (Keeps.wr .m19 rfl rfl _ .rfl _ _ _ _).bind fun _ => ?_
  refine (Keeps.wr .m19 rfl rfl _ .rfl _ _ _ _).bind fun _ => ?_
  refine (Keeps.rd .m10 rfl _ .rfl _ _).bind fun _ => ?_
  exact Keeps.wr .m19 rfl rfl _ .rfl _ _ _ _

theorem keeps_lens : Keeps (F := F) A c (lensS A) :=
  Keeps.loop (fun b x => Keeps.bind (fun s => ⟨_, s, rn_word _ _, fun _ _ => rfl⟩) fun _ => Keeps.ret _) _

theorem keeps_storeCoef (j : Fin 6) (x : FVec F S8x128 .f32) : Keeps A c (storeCoef A j x) := by
  unfold storeCoef
  refine (Keeps.wr .m14 rfl rfl _ .rfl _ _ _ _).bind fun _ => ?_
  refine (Keeps.wr .m14 rfl rfl _ .rfl _ _ _ _).bind fun _ => ?_
  exact Keeps.wr .m14 rfl rfl _ .rfl _ _ _ _

theorem keeps_coefs (lens : IVec S8x128 32) : Keeps (F := F) A c (coefsS A lens) := by
  unfold coefsS
  refine (Keeps.rd .m2 rfl _ .rfl _ _).bind fun _ => ?_
  refine (Keeps.rd .m2 rfl _ .rfl _ _).bind fun _ => ?_
  refine (Keeps.rd .m3 rfl _ .rfl _ _).bind fun _ => ?_
  refine (Keeps.rd .m3 rfl _ .rfl _ _).bind fun _ => ?_
  refine (Keeps.rd .m3 rfl _ .rfl _ _).bind fun _ => ?_
  refine (Keeps.rd .m4 rfl _ .rfl _ _).bind fun _ => ?_
  exact Keeps.loop (fun j _ => keeps_storeCoef j _) _

theorem keeps_alpha (pix : FVec F S24x256 .f32) (b : Fin 8) : Keeps A c (alphaS A pix b) := by
  unfold alphaS
  refine (Keeps.rd .m14 rfl _ .rfl _ _).bind fun _ => ?_
  exact (Keeps.wr_half 0 _ _ _ _).bind fun _ => Keeps.wr_half 1 _ _ _ _

theorem keeps_scan (h : Fin 2) : Keeps (F := F) A c (scanS A h) := by
  unfold scanS
  refine Keeps.bind (Keeps.loop (fun k x => ?_) _) fun _ => ?_
  · unfold scanStep
    refine (Keeps.rd .m15 rfl _ .rfl _ _).bind fun _ => ?_
    exact (Keeps.wr .m15 rfl rfl _ .rfl _ _ _ _).bind fun _ => Keeps.ret _
  · exact (Keeps.wr .m16 rfl rfl _ .rfl _ _ _ _).bind fun _ => Keeps.wr .m17 rfl rfl _ .rfl _ _ _ _

theorem keeps_tile (b : Fin 8) : Keeps (F := F) A c (tileS A b) := by
  unfold tileS
  refine (Keeps.rd_half 0 _ _).bind fun _ => ?_
  refine (Keeps.rd .m17 rfl _ .rfl _ _).bind fun _ => ?_
  refine (Keeps.rd_half 1 _ _).bind fun _ => ?_
  refine (Keeps.rd .m17 rfl _ .rfl _ _).bind fun _ => ?_
  refine (Keeps.rd .m5 rfl _ .rfl _ _).bind fun _ => ?_
  refine (Keeps.rd .m16 rfl _ .rfl _ _).bind fun _ => ?_
  refine (Keeps.rd .m16 rfl _ .rfl _ _).bind fun _ => ?_
  refine (Keeps.rd .m18 rfl _ .rfl _ _).bind fun _ => ?_
  refine (Keeps.wr .m12 rfl rfl _ .rfl _ _ _ _).bind fun _ => ?_
  refine (Keeps.wr .m13 rfl rfl _ .rfl _ _ _ _).bind fun _ => ?_
  refine (Keeps.rd .m19 rfl _ .rfl _ _).bind fun _ => ?_
  exact Keeps.wr .m11 rfl rfl _ .rfl _ _ _ _

theorem keeps_body : Keeps (F := F) A c (body A) := by
  unfold body
  refine keeps_lens.bind fun _ => (keeps_coefs _).bind fun _ => ?_
  refine (Keeps.rd .m6 rfl _ .rfl _ _).bind fun _ => ?_
  refine (Keeps.loop (fun b _ => keeps_alpha _ b) _).bind fun _ => ?_
  exact (Keeps.loop (fun h _ => keeps_scan h) _).bind fun _ => Keeps.loop (fun b _ => keeps_tile b) _

/-- The body runs from any contents and leaves the operands as they are. -/
theorem keeps_splat : Keeps (F := F) A c (splat A) := by
  by_cases h : isFirst A.i
  · rw [splat_pos A h]; exact keeps_init.bind fun _ => keeps_body
  · rw [splat_neg A h]; exact keeps_body

end Cert.KernelIdeal.Hand

end
-- ==== Proof.KernelIdealFrame.lean ====
module

public import proofs.«01_k».proof.Proof.KernelIdealRun

@[expose] public section

set_option maxRecDepth 16384

noncomputable section

/-! # The frame

Every execution of the program ends, with the arguments as they were and every semaphore at zero: the body runs at every
grid point whatever the scratch and the results' buffers hold, and leaves its operands as they are. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen Cert.Loops

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments the body has at point `t`: the table, the windows' current staging memrefs, the scratch. -/
abbrev argsAt (a : (pcfg0 (F := F)).Adm) (t : Fin (cfg0 a).N) : Args :=
  ⟨grid0.coords t, Memref.whole main_arg3, Memref.isWhole_whole _,
   spec0_0.stage ((cfg0 a).slots t 0), hstage0_0 (((cfg0 a).slots t 0).cast nbuf0_0),
   spec0_1.stage ((cfg0 a).slots t 1), hstage0_1 (((cfg0 a).slots t 1).cast nbuf0_1),
   spec0_2.stage ((cfg0 a).slots t 2), hstage0_2 (((cfg0 a).slots t 2).cast nbuf0_2),
   spec0_3.stage ((cfg0 a).slots t 3), hstage0_3 (((cfg0 a).slots t 3).cast nbuf0_3),
   spec0_4.stage ((cfg0 a).slots t 4), hstage0_4 (((cfg0 a).slots t 4).cast nbuf0_4),
   spec0_5.stage ((cfg0 a).slots t 5), hstage0_5 (((cfg0 a).slots t 5).cast nbuf0_5),
   spec0_6.stage ((cfg0 a).slots t 6), hstage0_6 (((cfg0 a).slots t 6).cast nbuf0_6),
   spec0_7.stage ((cfg0 a).slots t 7), hstage0_7 (((cfg0 a).slots t 7).cast nbuf0_7),
   spec0_8.stage ((cfg0 a).slots t 8), hstage0_8 (((cfg0 a).slots t 8).cast nbuf0_8),
   spec0_9.stage ((cfg0 a).slots t 9), hstage0_9 (((cfg0 a).slots t 9).cast nbuf0_9),
   spec0_10.stage ((cfg0 a).slots t 10), hstage0_10 (((cfg0 a).slots t 10).cast nbuf0_10),
   spec0_11.stage ((cfg0 a).slots t 11), hstage0_11 (((cfg0 a).slots t 11).cast nbuf0_11),
   Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _⟩

/-- The body at point `t` is the body at those arguments. -/
theorem bodyAt0_eq (a : (pcfg0 (F := F)).Adm) (t : Fin (cfg0 a).N) : bodyAt0 a t = splat (argsAt a t) := rfl

/-- Contents of the body's memrefs, one by one. -/
def mkCts (x1 : S3000.Idx → Elt F .i32) (x2 : S8x2x128.Idx → Elt F .f32) (x3 : S3x8x128.Idx → Elt F .f32) (x4 : S8x128.Idx → Elt F .f32) (x5 : S8x64x128.Idx → Elt F .fp8e4m3) (x6 : S24x256.Idx → Elt F .f32) (x7 : S1x64.Idx → Elt F .f32) (x8 : S64x384.Idx → Elt F .fp8e4m3) (x9 : S1x384.Idx → Elt F .f32) (x10 : S1x384.Idx → Elt F .f32) (x11 : S8x256x384.Idx → Elt F .bf16) (x12 : S8x64x256.Idx → Elt F .fp8e4m3) (x13 : S8x256.Idx → Elt F .f32) (x14 : S192x128.Idx → Elt F .f32) (x15 : S2x1152x128.Idx → Elt F .f32) (x16 : S2x8x128.Idx → Elt F .f32) (x17 : S2x8x128.Idx → Elt F .f32) (x18 : S64x128.Idx → Elt F .f32) (x19 : S256x384.Idx → Elt F .bf16) : Cts F
  | .m1 => x1
  | .m2 => x2
  | .m3 => x3
  | .m4 => x4
  | .m5 => x5
  | .m6 => x6
  | .m7 => x7
  | .m8 => x8
  | .m9 => x9
  | .m10 => x10
  | .m11 => x11
  | .m12 => x12
  | .m13 => x13
  | .m14 => x14
  | .m15 => x15
  | .m16 => x16
  | .m17 => x17
  | .m18 => x18
  | .m19 => x19

/-- What is held of the body's memrefs at the contents `s`. -/
abbrev HeldAt (A : Args) (c : Dev nD) (s : Cts F) : sProp 𝕄 :=
  Held (sp := spOf) (sh := shOf) (el := elOf) (c := (c : Thread nD τ)) (memOf A) shareOf s

/-- What is held of the body's memrefs, one by one. -/
theorem held_eq (A : Args) (c : Dev nD) (s : Cts F) :
    HeldAt A c s
      = iprop(owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare (s .m11) ∗ owns (c : Thread nD τ) A.arg12 fullShare (s .m12) ∗ owns (c : Thread nD τ) A.arg13 fullShare (s .m13) ∗ owns (c : Thread nD τ) A.arg14 fullShare (s .m14) ∗ owns (c : Thread nD τ) A.arg15 fullShare (s .m15) ∗ owns (c : Thread nD τ) A.arg16 fullShare (s .m16) ∗ owns (c : Thread nD τ) A.arg17 fullShare (s .m17) ∗ owns (c : Thread nD τ) A.arg18 fullShare (s .m18) ∗ owns (c : Thread nD τ) A.arg19 fullShare (s .m19)) :=
  bigSep_slot _

/-- The same, where the operands are at the contents `s` has of them. -/
theorem held_keep (A : Args) (c : Dev nD) (s s' : Cts F) (hk : Keep s s') :
    HeldAt A c s'
      ⊢ iprop(owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare (s' .m11) ∗ owns (c : Thread nD τ) A.arg12 fullShare (s' .m12) ∗ owns (c : Thread nD τ) A.arg13 fullShare (s' .m13) ∗ owns (c : Thread nD τ) A.arg14 fullShare (s' .m14) ∗ owns (c : Thread nD τ) A.arg15 fullShare (s' .m15) ∗ owns (c : Thread nD τ) A.arg16 fullShare (s' .m16) ∗ owns (c : Thread nD τ) A.arg17 fullShare (s' .m17) ∗ owns (c : Thread nD τ) A.arg18 fullShare (s' .m18) ∗ owns (c : Thread nD τ) A.arg19 fullShare (s' .m19)) := by
  rw [held_eq, hk .m1 rfl, hk .m2 rfl, hk .m3 rfl, hk .m4 rfl, hk .m5 rfl, hk .m6 rfl, hk .m7 rfl, hk .m8 rfl, hk .m9 rfl, hk .m10 rfl]

/-- The body at any contents, one by one: the operands come back as they were, the rest at some contents. -/
theorem wp_splat (A : Args) (c : Dev nD) (s : Cts F) (Q : sProp 𝕄) :
    iprop((owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare (s .m11) ∗ owns (c : Thread nD τ) A.arg12 fullShare (s .m12) ∗ owns (c : Thread nD τ) A.arg13 fullShare (s .m13) ∗ owns (c : Thread nD τ) A.arg14 fullShare (s .m14) ∗ owns (c : Thread nD τ) A.arg15 fullShare (s .m15) ∗ owns (c : Thread nD τ) A.arg16 fullShare (s .m16) ∗ owns (c : Thread nD τ) A.arg17 fullShare (s .m17) ∗ owns (c : Thread nD τ) A.arg18 fullShare (s .m18) ∗ owns (c : Thread nD τ) A.arg19 fullShare (s .m19))
      ∗ (∀ s' : Cts F, (owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare (s' .m11) ∗ owns (c : Thread nD τ) A.arg12 fullShare (s' .m12) ∗ owns (c : Thread nD τ) A.arg13 fullShare (s' .m13) ∗ owns (c : Thread nD τ) A.arg14 fullShare (s' .m14) ∗ owns (c : Thread nD τ) A.arg15 fullShare (s' .m15) ∗ owns (c : Thread nD τ) A.arg16 fullShare (s' .m16) ∗ owns (c : Thread nD τ) A.arg17 fullShare (s' .m17) ∗ owns (c : Thread nD τ) A.arg18 fullShare (s' .m18) ∗ owns (c : Thread nD τ) A.arg19 fullShare (s' .m19)) -∗ Q))
      ⊢ wp frame (wpE (defs₀ (F := F)) Variants.none c none) Set.univ (splat A) (fun _ => Q) := by
  rw [← held_eq]
  iintro ⟨H, K⟩
  iapply (Spec.wp (keeps_splat (A := A) (c := c) s) (fun _ => Q))
  isplitl [H]; · iexact H
  iintro %a %s' %hk H
  iapply K
  iapply (held_keep A c s s' hk)
  iexact H

/-- The scratch the kernel has, each buffer at some contents, and the generator at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- The table, held at half a share, as a memref. -/
theorem PhiT0_owns (c : Dev nD) : (Pipeline.ΦT pre0 (tbl m) c : sProp 𝕄) = owns (c : Thread nD τ) (Memref.whole main_arg3) fullShare.right (tbl m 0) := by
  rw [PhiT0_eq]; exact (owns_whole _ _ _ _).symm

/-- The results, of whose contents nothing is said. -/
def forget : Fin 12 → Bool := fun w => decide (9 ≤ w.val)

/-- The proof data: the arrays as the region finds them; each operand's buffer at its block; the results' not named; the
    scratch, the generator and the table between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => Classical.arbitrary _
    | ⟨10, _⟩ => Classical.arbitrary _
    | ⟨11, _⟩ => Classical.arbitrary _
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (argsAt (adm m hO) t).arg2 fullShare ((dats m hO 0 c).before 0 t d))
    ∗ (∃ d, owns (c : Thread nD τ) (argsAt (adm m hO) t).arg3 fullShare ((dats m hO 0 c).before 1 t d))
    ∗ (∃ d, owns (c : Thread nD τ) (argsAt (adm m hO) t).arg4 fullShare ((dats m hO 0 c).before 2 t d))
    ∗ (∃ d, owns (c : Thread nD τ) (argsAt (adm m hO) t).arg5 fullShare ((dats m hO 0 c).before 3 t d))
    ∗ (∃ d, owns (c : Thread nD τ) (argsAt (adm m hO) t).arg6 fullShare ((dats m hO 0 c).before 4 t d))
    ∗ (∃ d, owns (c : Thread nD τ) (argsAt (adm m hO) t).arg7 fullShare ((dats m hO 0 c).before 5 t d))
    ∗ (∃ d, owns (c : Thread nD τ) (argsAt (adm m hO) t).arg8 fullShare ((dats m hO 0 c).before 6 t d))
    ∗ (∃ d, owns (c : Thread nD τ) (argsAt (adm m hO) t).arg9 fullShare ((dats m hO 0 c).before 7 t d))
    ∗ (∃ d, owns (c : Thread nD τ) (argsAt (adm m hO) t).arg10 fullShare ((dats m hO 0 c).before 8 t d))
    ∗ (∃ d, owns (c : Thread nD τ) (argsAt (adm m hO) t).arg11 fullShare d)
    ∗ (∃ d, owns (c : Thread nD τ) (argsAt (adm m hO) t).arg12 fullShare d)
    ∗ (∃ d, owns (c : Thread nD τ) (argsAt (adm m hO) t).arg13 fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (argsAt (adm m hO) t).arg2 fullShare ((dats m hO 0 c).after 0 t)
    ∗ owns (c : Thread nD τ) (argsAt (adm m hO) t).arg3 fullShare ((dats m hO 0 c).after 1 t)
    ∗ owns (c : Thread nD τ) (argsAt (adm m hO) t).arg4 fullShare ((dats m hO 0 c).after 2 t)
    ∗ owns (c : Thread nD τ) (argsAt (adm m hO) t).arg5 fullShare ((dats m hO 0 c).after 3 t)
    ∗ owns (c : Thread nD τ) (argsAt (adm m hO) t).arg6 fullShare ((dats m hO 0 c).after 4 t)
    ∗ owns (c : Thread nD τ) (argsAt (adm m hO) t).arg7 fullShare ((dats m hO 0 c).after 5 t)
    ∗ owns (c : Thread nD τ) (argsAt (adm m hO) t).arg8 fullShare ((dats m hO 0 c).after 6 t)
    ∗ owns (c : Thread nD τ) (argsAt (adm m hO) t).arg9 fullShare ((dats m hO 0 c).after 7 t)
    ∗ owns (c : Thread nD τ) (argsAt (adm m hO) t).arg10 fullShare ((dats m hO 0 c).after 8 t)
    ∗ (∃ d, owns (c : Thread nD τ) (argsAt (adm m hO) t).arg11 fullShare d)
    ∗ (∃ d, owns (c : Thread nD τ) (argsAt (adm m hO) t).arg12 fullShare d)
    ∗ (∃ d, owns (c : Thread nD τ) (argsAt (adm m hO) t).arg13 fullShare d))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  rw [bodyAt0_eq]
  unfold bodyPre bodyPost
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiA0_eq, PhiT0_owns]
  iintro ⟨⟨⟨⟨⟨%x14, S0⟩, ⟨%x15, S1⟩, ⟨%x16, S2⟩, ⟨%x17, S3⟩, ⟨%x18, S4⟩, ⟨%x19, S5⟩⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%x11, H9⟩, ⟨%x12, H10⟩, ⟨%x13, H11⟩⟩
  iapply (wp_splat (argsAt (adm m hO) t) c (mkCts (tbl m 0) (iblk m hO c 0 t) (iblk m hO c 1 t) (iblk m hO c 2 t) (iblk m hO c 3 t) (iblk m hO c 4 t) (iblk m hO c 5 t) (iblk m hO c 6 t) (iblk m hO c 7 t) (iblk m hO c 8 t) x11 x12 x13 x14 x15 x16 x17 x18 x19) _)
  isplitl [HT H0 H1 H2 H3 H4 H5 H6 H7 H8 H9 H10 H11 S0 S1 S2 S3 S4 S5]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    iexact S5
  iintro %s' Hall
  icases Hall with ⟨HT, H0, H1, H2, H3, H4, H5, H6, H7, H8, H9, H10, H11, S0, S1, S2, S3, S4, S5⟩
  isplitl [HT S0 S1 S2 S3 S4 S5 Hg]
  · isplitl [S0 S1 S2 S3 S4 S5 Hg]
    · isplitl [S0 S1 S2 S3 S4 S5]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : BodyObligation (dats (F := F) m hO 0 c) (defs₀ (F := F)) Variants.none () Set.univ forget := fun t => by
  rw [bigSep_W0, bigSep_W0, defs₀_row m hO]
  exact triple_restated (sound_body m hO c t) rfl .rfl fun _ => .rfl

set_option backward.isDefEq.respectTransparency.types false in
/-- The launch: what the arrays hold at the end, and every semaphore at zero. -/
theorem run_main (hO : Ok m) : θ_run defs (onTc (τ := τ) (main (F := F))) (s₀ m ρ) (fun r =>
    RDat.FramePost (cfgM m hO) (fun c => (dats m hO 0 c).toRForget forget) (V m) r ∧ r.2.sem = fun _ => 0) :=
  Pipeline.θ_run_frameP_forget (Q' := _) pcfgs (fun _ => adm m hO) (dats m hO) (0 : Fin 1) launch0 defs₀ Variants.none forget m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame: every execution ends, the arguments unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (RDat.FramePost.arr_in h.1 c 2 rfl).trans ((A_eq m hO c 2).trans (V_main_arg2 m c)),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c),
      ((h.1 c).2 main_arg7 (by decide : main_arg7 ∈ Pipeline.restRefs sig spec0)).trans (V_main_arg7 m c),
      ((h.1 c).2 main_arg8 (by decide : main_arg8 ∈ Pipeline.restRefs sig spec0)).trans (V_main_arg8 m c)⟩, h.2⟩) (run_main m ρ hO)

end Cert.KernelIdeal.Hand

end
-- ==== Proof.KernelIdealLit.lean ====
/-
The kernel's table of the pixels' monomials, read at the ideal instance: rows 3 q, 3 q + 1, 3 q + 2 hold one monomial
of the pixel's coordinates (from the tile's centre) and the last six rows zero.
-/
module

public import proofs.«01_k».proof.KernelIdeal
public import Idealize.ShloMosaic.Lib.Pointwise.Tactic

@[expose] public section

set_option maxRecDepth 16384

namespace Cert.KernelIdeal.Val

open Idealize.ShloMosaic
open Cert.KernelIdeal

/-- The pixel's coordinates, doubled and from the tile's centre: the odd integers from -15 to 15. -/
def px2 (p : ℕ) : ℤ := 2 * ((p % 16 : ℕ) : ℤ) - 15
def py2 (p : ℕ) : ℤ := 2 * ((p / 16 : ℕ) : ℤ) - 15

/-- Four times the monomial of row `3 q` of the table, at pixel `p`. -/
def mono4 (q : ℕ) (p : ℕ) : ℤ :=
  match q with
  | 0 => px2 p * px2 p
  | 1 => px2 p * py2 p
  | 2 => py2 p * py2 p
  | 3 => 2 * px2 p
  | 4 => 2 * py2 p
  | 5 => 4
  | _ => 0

/-- The word is the single-precision number `n / 4`, `n` not zero: compared as integers. -/
def isQuarter (b : BitVec 32) (n : ℤ) : Bool :=
  let neg : Bool := (b.extractLsb' 31 1 == 1#1)
  let ex : ℕ := (b.extractLsb' 23 8).toNat
  let fr : ℕ := (b.extractLsb' 0 23).toNat
  (ex != 0) && (ex != 255) && decide (ex ≤ 150) && (neg == decide (n < 0)) && ((2 ^ 23 + fr) * 4 == n.natAbs * 2 ^ (150 - ex))

/-- A float whose bits pass the test is the number of quarters they stand for. -/
theorem ofBits_quarter (b : BitVec 32) (n : ℤ) (h : isQuarter b n = true) : Ideal.ofBits .f32 b = (((n : ℝ) / 4 : ℝ) : EReal) := by
  unfold isQuarter at h
  simp only [Bool.and_eq_true, bne_iff_ne, ne_eq, decide_eq_true_eq, beq_iff_eq] at h
  obtain ⟨⟨⟨⟨h0, h1⟩, h2⟩, h3⟩, h4⟩ := h
  unfold Ideal.ofBits Ideal.ieee
  dsimp only
  rw [if_neg (by norm_num; exact h1), if_neg h0]
  congr 1
  set ex : ℕ := (b.extractLsb' 23 8).toNat with hex
  set fr : ℕ := (b.extractLsb' 0 23).toNat with hfr
  have e1 : (ex : ℤ) - (2 ^ (8 - 1) - 1) - 23 = -((150 - ex : ℕ) : ℤ) := by push_cast [Nat.cast_sub h2]; ring
  have h5 : ((2 ^ 23 + fr : ℕ) : ℝ) * 4 = (n.natAbs : ℝ) * 2 ^ (150 - ex) := by exact_mod_cast h4
  have e2 : ((ex : ℤ) - (2 ^ (8 - 1) - 1) - (23 : ℕ)) = -((150 - ex : ℕ) : ℤ) := e1
  rw [e2, zpow_neg, zpow_natCast]
  have hp : (2 : ℝ) ^ (150 - ex) ≠ 0 := by positivity
  have hn : (if (b.extractLsb' (8 + 23) 1 == 1#1) = true then (-1 : ℝ) else 1) * (n.natAbs : ℝ) = n := by
    show (if (b.extractLsb' 31 1 == 1#1) = true then (-1 : ℝ) else 1) * (n.natAbs : ℝ) = n
    rw [h3]
    by_cases hn : n < 0
    · rw [if_pos (by simpa using hn)]
      have : ((n.natAbs : ℕ) : ℤ) = -n := by omega
      have h6 : ((n.natAbs : ℕ) : ℝ) = -(n : ℝ) := by rw [← Int.cast_natCast, this, Int.cast_neg]
      rw [h6]; ring
    · rw [if_neg (by simpa using hn)]
      have : ((n.natAbs : ℕ) : ℤ) = n := by omega
      have h6 : ((n.natAbs : ℕ) : ℝ) = (n : ℝ) := by rw [← Int.cast_natCast, this]
      rw [h6]; ring
  rw [← hn]
  generalize (if (b.extractLsb' (8 + 23) 1 == 1#1) = true then (-1 : ℝ) else 1) = sg
  have h7 : ((2 ^ 23 + fr : ℕ) : ℝ) = (n.natAbs : ℝ) * 2 ^ (150 - ex) / 4 := eq_div_of_mul_eq (by norm_num) h5
  rw [h7]
  field_simp

/-- The first eighteen rows of the pixel table are the monomials of the pixel's coordinates, each three times. -/
theorem lit_mono : ∀ (j : Fin 18) (p : Fin 256), isQuarter (lit0 ⟨256 * j.val + p.val, by omega⟩) (mono4 (j.val / 3) p.val) = true := by
  decide +kernel

/-- The last six rows of the pixel table are zero. -/
theorem lit_zero : ∀ (j : Fin 6) (p : Fin 256), lit0 ⟨256 * (j.val + 18) + p.val, by omega⟩ = 0#32 := by
  decide +kernel

end Cert.KernelIdeal.Val
-- ==== Proof.KernelIdealTrace.lean ====
/-
What one run of the kernel's body leaves, at the ideal instance.

`proof/Proof/KernelIdealBody.lean` states the body as a program over the values it computes. Here it is run: for each
part there is a specification saying exactly what the memrefs it writes hold afterwards, and the last theorem of the
file says what the body leaves in its three results, as functions of what the operands and the two kept scratch
buffers hold.
-/
module

public import proofs.«01_k».proof.Proof.KernelIdealRun
public import Idealize.ShloMosaic.Lib.Pointwise.Tactic
public import Idealize.ShloMosaic.Lib.Pointwise.Reshape
public import Idealize.ShloMosaic.Lib.Pointwise.Contract
public import Idealize.ShloMosaic.Lib.Pipeline.Value

@[expose] public section

set_option maxRecDepth 4096

noncomputable section

namespace Cert.KernelIdeal.Hand

open Cert.KernelIdeal Cert.KernelIdeal.Gen Cert.Loops
open Idealize.ShloMosaic Idealize.ShloMosaic.TcCoe
open Idealize.SL Idealize.SL.RA Idealize.SL.BI Idealize.SL.Sem

variable {A : Args} {c : Dev nD}

/-! ### Contents after a store -/

theorem put_eq {ι κ α : Type} {e : ι → κ} (he : Function.Injective e) {X : κ → α} {w : ι → α} {y : κ} (a : ι) (h : e a = y) :
    put e X w y = w a := by
  subst h; exact put_at he X w a

theorem put_ne {ι κ α : Type} {e : ι → κ} {X : κ → α} {w : ι → α} {y : κ} (h : ∀ a, e a ≠ y) : put e X w y = X y :=
  put_off _ _ h

theorem upd_same {s : Cts Ideal} (j : Slot) (x : (shOf j).Idx → Elt Ideal (elOf j)) : Function.update s j x j = x := Function.update_self ..
theorem upd_ne {s : Cts Ideal} {j k : Slot} (h : k ≠ j) (x : (shOf j).Idx → Elt Ideal (elOf j)) : Function.update s j x k = s k :=
  Function.update_of_ne h ..

/-! ### Where the rectangles lie -/

theorem emb_rCoef (p : Nat) (hp : p < 24) (a : (rCoef p hp).shape.Idx) :
    (rCoef p hp).emb a = ix2 ⟨24 * (a 0).val + p, by have : (a 0).val < 8 := (a 0).isLt; omega⟩ ⟨(a 1).val, (a 1).isLt⟩ := by
  funext k; apply Fin.ext
  match k with
  | 0 => show p + 24 * (a 0).val = 24 * (a 0).val + p; omega
  | 1 => show 0 + 1 * (a 1).val = (a 1).val; omega

theorem emb_rTile (b : Fin 8) (a : (rTile b).shape.Idx) :
    (rTile b).emb a = ix2 ⟨24 * b.val + (a 0).val, by have : (a 0).val < 24 := (a 0).isLt; omega⟩ ⟨(a 1).val, (a 1).isLt⟩ := by
  funext k; apply Fin.ext
  match k with
  | 0 => show 24 * b.val + 1 * (a 0).val = 24 * b.val + (a 0).val; omega
  | 1 => show 0 + 1 * (a 1).val = (a 1).val; omega

theorem within_every (h : Fin 2) (b : Fin 8) (a : (rEvery b).shape.Idx) :
    within (rHalf h) squeezes_S1x1152x128_S1152x128.numel_eq (rEvery b) a
      = ix3 h ⟨9 * (a 0).val + b.val, by have : (a 0).val < 128 := (a 0).isLt; omega⟩ ⟨(a 1).val, (a 1).isLt⟩ := by
  unfold within
  have e := Shape.reshapeEquiv_cons_one (n := 2) (d := ![1152, 128]) squeezes_S1x1152x128_S1152x128.numel_eq ((rEvery b).emb a)
  funext k; apply Fin.ext
  rw [Rect.emb_apply]
  have e' := congrArg Fin.val (congrFun e k)
  match k with
  | 0 =>
    have h0 : ((Shape.reshapeEquiv squeezes_S1x1152x128_S1152x128.numel_eq ((rEvery b).emb a)) 0).val = 0 := e'
    show h.val + 1 * ((Shape.reshapeEquiv squeezes_S1x1152x128_S1152x128.numel_eq ((rEvery b).emb a)) 0).val = h.val
    rw [h0]; omega
  | 1 =>
    have h0 : ((Shape.reshapeEquiv squeezes_S1x1152x128_S1152x128.numel_eq ((rEvery b).emb a)) 1).val = b.val + 9 * (a 0).val := e'
    show 0 + 1 * ((Shape.reshapeEquiv squeezes_S1x1152x128_S1152x128.numel_eq ((rEvery b).emb a)) 1).val = 9 * (a 0).val + b.val
    rw [h0]; omega
  | 2 =>
    have h0 : ((Shape.reshapeEquiv squeezes_S1x1152x128_S1152x128.numel_eq ((rEvery b).emb a)) 2).val = 0 + 1 * (a 1).val := e'
    show 0 + 1 * ((Shape.reshapeEquiv squeezes_S1x1152x128_S1152x128.numel_eq ((rEvery b).emb a)) 2).val = (a 1).val
    rw [h0]; omega

theorem emb_rGauss (h : Fin 2) (k : Fin 128) (a : (rGauss h k).shape.Idx) :
    (rGauss h k).emb a = ix3 h ⟨9 * k.val + (a 1).val, by have : (a 1).val < 8 := (a 1).isLt; omega⟩ ⟨(a 2).val, (a 2).isLt⟩ := by
  have h0 : (a 0).val < 1 := (a 0).isLt
  funext j; apply Fin.ext
  match j with
  | 0 => show h.val + 1 * (a 0).val = h.val; omega
  | 1 => show 9 * k.val + 1 * (a 1).val = 9 * k.val + (a 1).val; omega
  | 2 => show 0 + 1 * (a 2).val = (a 2).val; omega

theorem emb_rScale (h : Fin 2) (a : (rScale h).shape.Idx) :
    (rScale h).emb a = ix3 h ⟨(a 1).val, (a 1).isLt⟩ ⟨(a 2).val, (a 2).isLt⟩ := by
  have h0 : (a 0).val < 1 := (a 0).isLt
  funext j; apply Fin.ext
  match j with
  | 0 => show h.val + 1 * (a 0).val = h.val; omega
  | 1 => show 0 + 1 * (a 1).val = (a 1).val; omega
  | 2 => show 0 + 1 * (a 2).val = (a 2).val; omega

theorem emb_rScaleRow (h : Fin 2) (b : Fin 8) (a : (rScaleRow h b).shape.Idx) :
    (rScaleRow h b).emb a = ix3 h b ⟨(a 2).val, (a 2).isLt⟩ := by
  have h0 : (a 0).val < 1 := (a 0).isLt
  have h1 : (a 1).val < 1 := (a 1).isLt
  funext j; apply Fin.ext
  match j with
  | 0 => show h.val + 1 * (a 0).val = h.val; omega
  | 1 => show b.val + 1 * (a 1).val = b.val; omega
  | 2 => show 0 + 1 * (a 2).val = (a 2).val; omega

theorem emb_rFeat (b : Fin 8) (a : (rFeat b).shape.Idx) : (rFeat b).emb a = ix3 b ⟨(a 1).val, (a 1).isLt⟩ ⟨(a 2).val, (a 2).isLt⟩ := by
  have h0 : (a 0).val < 1 := (a 0).isLt
  funext j; apply Fin.ext
  match j with
  | 0 => show b.val + 1 * (a 0).val = b.val; omega
  | 1 => show 0 + 1 * (a 1).val = (a 1).val; omega
  | 2 => show 0 + 1 * (a 2).val = (a 2).val; omega

theorem emb_rCodes (b : Fin 8) (a : (rCodes b).shape.Idx) : (rCodes b).emb a = ix3 b ⟨(a 1).val, (a 1).isLt⟩ ⟨(a 2).val, (a 2).isLt⟩ := by
  have h0 : (a 0).val < 1 := (a 0).isLt
  funext j; apply Fin.ext
  match j with
  | 0 => show b.val + 1 * (a 0).val = b.val; omega
  | 1 => show 0 + 1 * (a 1).val = (a 1).val; omega
  | 2 => show 0 + 1 * (a 2).val = (a 2).val; omega

theorem emb_rY (b : Fin 8) (a : (rY b).shape.Idx) : (rY b).emb a = ix3 b ⟨(a 1).val, (a 1).isLt⟩ ⟨(a 2).val, (a 2).isLt⟩ := by
  have h0 : (a 0).val < 1 := (a 0).isLt
  funext j; apply Fin.ext
  match j with
  | 0 => show b.val + 1 * (a 0).val = b.val; omega
  | 1 => show 0 + 1 * (a 1).val = (a 1).val; omega
  | 2 => show 0 + 1 * (a 2).val = (a 2).val; omega

theorem emb_rFs (b : Fin 8) (a : (rFs b).shape.Idx) : (rFs b).emb a = ix2 b ⟨(a 1).val, (a 1).isLt⟩ := by
  have h0 : (a 0).val < 1 := (a 0).isLt
  funext j; apply Fin.ext
  match j with
  | 0 => show b.val + 1 * (a 0).val = b.val; omega
  | 1 => show 0 + 1 * (a 1).val = (a 1).val; omega

theorem emb_all2 {n m : Nat} (h : ∀ a, (![0, 0] : Fin 2 → Nat) a + (![n, m] : Fin 2 → Nat) a ≤ (⟨2, ![n, m]⟩ : Shape).size a)
    (a : (Rect.unit (s := (⟨2, ![n, m]⟩ : Shape)) ![0, 0] ![n, m] h).shape.Idx) :
    (Rect.unit (s := (⟨2, ![n, m]⟩ : Shape)) ![0, 0] ![n, m] h).emb a = a := by
  funext j; apply Fin.ext
  match j with
  | 0 => show 0 + 1 * (a 0).val = (a 0).val; omega
  | 1 => show 0 + 1 * (a 1).val = (a 1).val; omega

/-! ### The lists' lengths -/

theorem i_lt (i : grid0.Coords) : (i 0).val < 375 := (i 0).isLt

/-- Row `r` holds the length of list `8 i + r`. -/
def lensV (i : grid0.Coords) (s : Cts Ideal) : IVec S8x128 32 := fun y =>
  s .m1 (ix1 ⟨8 * (i 0).val + (y 0).val, by have := i_lt i; have : (y 0).val < 8 := (y 0).isLt; omega⟩)

theorem off1_val (i : grid0.Coords) (b : Fin 8) : k0_off1 i (BitVec.ofNat 32 b.val) 0 = 8 * (i 0).val + b.val := by
  have hi := i_lt i; have hb := b.isLt
  unfold k0_off1
  show (BitVec.ofNat 32 (i 0).val * 8#32 + BitVec.ofNat 32 b.val : BitVec 32).toNat = _
  rw [BitVec.toNat_add, BitVec.toNat_mul, BitVec.toNat_ofNat, BitVec.toNat_ofNat, BitVec.toNat_ofNat]
  omega

/-- What the body reads as the lengths of its eight tiles. -/
theorem sp_lens (s : Cts Ideal) : SP A c (lensS A) s fun v s' => s' = s ∧ v = lensV A.i s := by
  unfold lensS
  refine (Spec.loopAll (fun n v s' => s' = s ∧ ∀ y : S8x128.Idx, (y 0).val < n → v y = lensV A.i s y) ?_ ⟨rfl, fun y h => absurd h (Nat.not_lt_zero _)⟩).mono ?_
  · rintro b v s' ⟨rfl, hv⟩
    refine (rn_word _ numel1_S1).then (Spec.ret ⟨rfl, fun y hy => ?_⟩)
    have hy8 : (y 0).val < 8 := (y 0).isLt
    have hb8 := b.isLt
    have hc : cmpi .eq (iota .tc S8x128 32 [0] iota_S8x128_d0_w32) (broadcast S8x128 (BitVec.ofNat 32 b.val)) y
        = if (y 0).val = b.val then 1#1 else 0#1 := by
      have hw : iota .tc S8x128 32 [0] iota_S8x128_d0_w32 y = BitVec.ofNat 32 (y 0).val := by
        show BitVec.ofNat 32 (0 * S8x128.size 0 + (y 0).val) = _
        rw [Nat.zero_mul, Nat.zero_add]
      show IntOp.cmpi .eq (iota .tc S8x128 32 [0] iota_S8x128_d0_w32 y) (BitVec.ofNat 32 b.val) = _
      rw [hw]
      have : (BitVec.ofNat 32 (y 0).val = BitVec.ofNat 32 b.val) ↔ (y 0).val = b.val :=
        ⟨fun h => by have := congrArg BitVec.toNat h; simp only [BitVec.toNat_ofNat] at this; omega, fun h => by rw [h]⟩
      by_cases h : (y 0).val = b.val
      · rw [if_pos h, h]; simp [IntOp.cmpi]
      · rw [if_neg h]; show BitVec.ofBool (_ == _) = 0#1; rw [beq_eq_false_iff_ne.mpr (fun e => h (this.1 e))]; rfl
    show (if cmpi .eq (iota .tc S8x128 32 [0] iota_S8x128_d0_w32) (broadcast S8x128 (BitVec.ofNat 32 b.val)) y = 1 then _ else v y) = _
    rw [hc]
    by_cases hb : (y 0).val = b.val
    · rw [if_pos hb]
      refine (if_pos rfl).trans ?_
      show s' .m1 _ = s' .m1 _
      congr 1
      funext a; apply Fin.ext
      match a with
      | 0 =>
        show k0_off1 A.i (BitVec.ofNat 32 b.val) 0 + 1 * 0 = 8 * (A.i 0).val + (y 0).val
        rw [off1_val, hb]; omega
    · rw [if_neg hb]
      refine (if_neg (by decide)).trans ?_
      exact hv y (by omega)
  · rintro v s' ⟨rfl, hv⟩
    exact ⟨rfl, funext fun y => hv y (y 0).isLt⟩

/-! ### The coefficients -/

/-- The three pieces of a number. -/
def pieceN {S : Shape} (r : Fin 3) (x : FVec Ideal S .f32) : FVec Ideal S .f32 :=
  match r with
  | 0 => piece0 x
  | 1 => piece1 x
  | 2 => piece2 x

/-- A coordinate of the block's centres, an entry of its conics, its opacities. -/
def meanV (k : Fin 2) (s : Cts Ideal) : FVec Ideal S8x1x128 .f32 := fun y => s .m2 (ix3 ⟨(y 0).val, (y 0).isLt⟩ k ⟨(y 2).val, (y 2).isLt⟩)
def conV (k : Fin 3) (s : Cts Ideal) : FVec Ideal S1x8x128 .f32 := fun y => s .m3 (ix3 k ⟨(y 1).val, (y 1).isLt⟩ ⟨(y 2).val, (y 2).isLt⟩)
def opV (s : Cts Ideal) : FVec Ideal S8x128 .f32 := s .m4

/-- The coefficients of the block's Gaussians. -/
def coefV (i : grid0.Coords) (s : Cts Ideal) (q : Fin 6) : FVec Ideal S8x128 .f32 :=
  coefOf (liveOf (lensV i s) (opV s)) (relOf (meanV 0 s)) (relOf (meanV 1 s)) (conOf (conV 0 s)) (conOf (conV 1 s)) (conOf (conV 2 s)) (opV s) q

/-- Row `24 b + 3 q + r` of the coefficients' scratch. -/
abbrev rowOf (b : Fin 8) (q : Fin 6) (r : Fin 3) : Fin 192 := ⟨24 * b.val + 3 * q.val + r.val, by omega⟩

/-- Storing one coefficient as its three pieces fills its three rows of each tile. -/
theorem sp_storeCoef (j : Fin 6) (x : FVec Ideal S8x128 .f32) (s : Cts Ideal) :
    SP A c (storeCoef A j x) s fun _ s' => (∀ k, k ≠ .m14 → s' k = s k)
      ∧ (∀ (b : Fin 8) (r : Fin 3) (l : Fin 128), s' .m14 (ix2 (rowOf b j r) l) = pieceN r x (ix2 b l))
      ∧ ∀ (b : Fin 8) (q : Fin 6) (r : Fin 3) (l : Fin 128), q ≠ j → s' .m14 (ix2 (rowOf b q r) l) = s .m14 (ix2 (rowOf b q r) l) := by
  unfold storeCoef
  refine (rn_wr .m14 rfl rfl _ .rfl _ _ _ _).then ?_
  refine (rn_wr .m14 rfl rfl _ .rfl _ _ _ _).then ?_
  refine ⟨_, _, rn_wr .m14 rfl rfl _ .rfl _ _ _ _, ?_⟩
  simp only [upd_same, shapeCast_id]
  have off : ∀ (p : Nat) (hp : p < 24) (b : Fin 8) (q : Fin 6) (r : Fin 3) (l : Fin 128) (X w), p ≠ 3 * q.val + r.val →
      put (rCoef p hp).emb X w (ix2 (rowOf b q r) l) = (X (ix2 (rowOf b q r) l) : EReal) := by
    intro p hp b q r l X w hne
    refine put_ne fun a h => hne ?_
    rw [emb_rCoef] at h
    have h0 := congrArg (fun z : S192x128.Idx => (z 0).val) h
    have h1 : 24 * (a 0).val + p = 24 * b.val + 3 * q.val + r.val := h0
    omega
  have on : ∀ (b : Fin 8) (r : Fin 3) (l : Fin 128) (hp : 3 * j.val + r.val < 24) (X) (w : (rCoef (3 * j.val + r.val) hp).shape.Idx → EReal),
      put (rCoef (3 * j.val + r.val) hp).emb X w (ix2 (rowOf b j r) l) = (w (ix2 b l) : EReal) := by
    intro b r l hp X w
    refine put_eq (rCoef (3 * j.val + r.val) hp).emb.injective (ix2 b l) ?_
    rw [emb_rCoef]
    funext a; apply Fin.ext
    match a with
    | 0 => show 24 * b.val + (3 * j.val + r.val) = 24 * b.val + 3 * j.val + r.val; omega
    | 1 => rfl
  refine ⟨fun k hk => ?_, fun b r l => ?_, fun b q r l hq => ?_⟩
  · rw [upd_ne hk, upd_ne hk, upd_ne hk]
  · match r with
    | 0 => exact (off _ _ b j 0 l _ _ (by show 3 * j.val + 2 ≠ 3 * j.val + 0; omega)).trans ((off _ _ b j 0 l _ _ (by show 3 * j.val + 1 ≠ 3 * j.val + 0; omega)).trans (on b 0 l (by show 3 * j.val + 0 < 24; omega) _ _))
    | 1 => exact (off _ _ b j 1 l _ _ (by show 3 * j.val + 2 ≠ 3 * j.val + 1; omega)).trans (on b 1 l (by show 3 * j.val + 1 < 24; omega) _ _)
    | 2 => exact on b 2 l (by show 3 * j.val + 2 < 24; omega) _ _
  · have hne : q.val ≠ j.val := fun h => hq (Fin.ext h)
    rw [off _ _ b q r l _ _ (by omega), off _ _ b q r l _ _ (by omega), off _ _ b q r l _ _ (by omega)]

/-- After the six coefficients are stored, every tile's block of rows is known. -/
theorem sp_coefs (s : Cts Ideal) :
    SP A c (coefsS A (lensV A.i s)) s fun _ s' => (∀ k, k ≠ .m14 → s' k = s k)
      ∧ ∀ (b : Fin 8) (q : Fin 6) (r : Fin 3) (l : Fin 128), s' .m14 (ix2 (rowOf b q r) l) = pieceN r (coefV A.i s q) (ix2 b l) := by
  unfold coefsS
  refine (rn_rd .m2 rfl _ .rfl _ _).then ?_
  refine (rn_rd .m2 rfl _ .rfl _ _).then ?_
  refine (rn_rd .m3 rfl _ .rfl _ _).then ?_
  refine (rn_rd .m3 rfl _ .rfl _ _).then ?_
  refine (rn_rd .m3 rfl _ .rfl _ _).then ?_
  refine (rn_rd .m4 rfl _ .rfl _ _).then ?_
  have e0 : (fun x => s .m2 ((Rect.unit (s := S8x2x128) ![0, 0, 0] S8x1x128.size inb_S8x2x128_S8x1x128_0_0_0).emb x)) = meanV 0 s := by
    funext x
    have h1 : (x 1).val < 1 := (x 1).isLt
    refine congrArg (s .m2) (funext fun a => Fin.ext ?_)
    match a with
    | 0 => show 0 + 1 * (x 0).val = (x 0).val; omega
    | 1 => show 0 + 1 * (x 1).val = 0; omega
    | 2 => show 0 + 1 * (x 2).val = (x 2).val; omega
  have e1 : (fun x => s .m2 ((Rect.unit (s := S8x2x128) ![0, 1, 0] S8x1x128.size inb_S8x2x128_S8x1x128_0_1_0).emb x)) = meanV 1 s := by
    funext x
    have h1 : (x 1).val < 1 := (x 1).isLt
    refine congrArg (s .m2) (funext fun a => Fin.ext ?_)
    match a with
    | 0 => show 0 + 1 * (x 0).val = (x 0).val; omega
    | 1 => show 1 + 1 * (x 1).val = 1; omega
    | 2 => show 0 + 1 * (x 2).val = (x 2).val; omega
  have e2 : ∀ (k : Fin 3) (h : ∀ a, (![k.val, 0, 0] : Fin 3 → Nat) a + S1x8x128.size a ≤ S3x8x128.size a),
      (fun x => s .m3 ((Rect.unit (s := S3x8x128) ![k.val, 0, 0] S1x8x128.size h).emb x)) = conV k s := by
    intro k h; funext x
    have h1 : (x 0).val < 1 := (x 0).isLt
    refine congrArg (s .m3) (funext fun a => Fin.ext ?_)
    match a with
    | 0 => show k.val + 1 * (x 0).val = k.val; omega
    | 1 => show 0 + 1 * (x 1).val = (x 1).val; omega
    | 2 => show 0 + 1 * (x 2).val = (x 2).val; omega
  have e3 : (fun x => s .m4 ((Rect.unit (s := S8x128) ![0, 0] S8x128.size inb_S8x128_S8x128_0_0).emb x)) = opV s :=
    funext fun x => congrArg (s .m4) (emb_all2 _ x)
  rw [e0, e1, e3]
  rw [show (fun x => s .m3 ((Rect.unit (s := S3x8x128) ![0, 0, 0] S1x8x128.size inb_S3x8x128_S1x8x128_0_0_0).emb x)) = conV 0 s from e2 0 _,
    show (fun x => s .m3 ((Rect.unit (s := S3x8x128) ![1, 0, 0] S1x8x128.size inb_S3x8x128_S1x8x128_1_0_0).emb x)) = conV 1 s from e2 1 _,
    show (fun x => s .m3 ((Rect.unit (s := S3x8x128) ![2, 0, 0] S1x8x128.size inb_S3x8x128_S1x8x128_2_0_0).emb x)) = conV 2 s from e2 2 _]
  refine (Spec.loopAll (fun n _ s' => (∀ k, k ≠ .m14 → s' k = s k)
      ∧ ∀ (b : Fin 8) (q : Fin 6) (r : Fin 3) (l : Fin 128), q.val < n → s' .m14 (ix2 (rowOf b q r) l) = pieceN r (coefV A.i s q) (ix2 b l))
    ?_ ⟨fun _ _ => rfl, fun b q r l h => absurd h (Nat.not_lt_zero _)⟩).mono ?_
  · rintro j - s' ⟨hk, hv⟩
    refine (sp_storeCoef j _ s').mono ?_
    rintro - s'' ⟨hk', hon, hoff⟩
    refine ⟨fun k h => (hk' k h).trans (hk k h), fun b q r l hq => ?_⟩
    by_cases hj : q = j
    · subst hj; exact hon b r l
    · rw [hoff b q r l hj]
      exact hv b q r l (by have : q.val ≠ j.val := fun h => hj (Fin.ext h); omega)
  · rintro - s' ⟨hk, hv⟩
    exact ⟨hk, fun b q r l => hv b q r l q.isLt⟩

/-! ### The opacities -/

/-- A block of 24 rows of the coefficients' scratch. -/
def blkV (s : Cts Ideal) (b : Fin 8) : FVec Ideal S24x128 .f32 := fun x =>
  s .m14 (ix2 ⟨24 * b.val + (x 0).val, by have : (x 0).val < 24 := (x 0).isLt; omega⟩ ⟨(x 1).val, (x 1).isLt⟩)

/-- One tile's opacities go to their rows in the two halves of the opacity buffer. -/
theorem sp_alpha (b : Fin 8) (pix : FVec Ideal S24x256 .f32) (s : Cts Ideal) :
    SP A c (alphaS A pix b) s fun _ s' => (∀ k, k ≠ .m15 → s' k = s k)
      ∧ (∀ (h : Fin 2) (k l : Fin 128), s' .m15 (ix3 h ⟨9 * k.val + b.val, by omega⟩ l) = alphaOf (blkV s b) pix (ix2 k ⟨128 * h.val + l.val, by omega⟩))
      ∧ ∀ (h : Fin 2) (k l : Fin 128) (b' : Fin 8), b' ≠ b →
        s' .m15 (ix3 h ⟨9 * k.val + b'.val, by omega⟩ l) = s .m15 (ix3 h ⟨9 * k.val + b'.val, by omega⟩ l) := by
  unfold alphaS
  refine (rn_rd .m14 rfl _ .rfl _ _).then ?_
  refine (rn_wr_half 0 _ _ _ _).then ?_
  refine ⟨_, _, rn_wr_half 1 _ _ _ _, ?_⟩
  have eb : (fun x => s .m14 ((rTile b).emb x)) = blkV s b := funext fun x => congrArg (s .m14) (emb_rTile b x)
  rw [eb]
  simp only [upd_same, shapeCast_id]
  have off : ∀ (g h : Fin 2) (k l : Fin 128) (b' : Fin 8) (X w), ¬ (h = g ∧ b' = b) →
      put (within (rHalf g) squeezes_S1x1152x128_S1152x128.numel_eq (rEvery b)) X w (ix3 h ⟨9 * k.val + b'.val, by omega⟩ l)
        = (X (ix3 h ⟨9 * k.val + b'.val, by omega⟩ l) : EReal) := by
    intro g h k l b' X w hne
    refine put_ne fun a e => hne ?_
    rw [within_every] at e
    have e0 := congrArg (fun z : S2x1152x128.Idx => (z 0).val) e
    have e1 := congrArg (fun z : S2x1152x128.Idx => (z 1).val) e
    have e0' : g.val = h.val := e0
    have e1' : 9 * (a 0).val + b.val = 9 * k.val + b'.val := e1
    exact ⟨Fin.ext e0'.symm, Fin.ext (by omega)⟩
  have on : ∀ (h : Fin 2) (k l : Fin 128) (X) (w : (rEvery b).shape.Idx → EReal),
      put (within (rHalf h) squeezes_S1x1152x128_S1152x128.numel_eq (rEvery b)) X w (ix3 h ⟨9 * k.val + b.val, by omega⟩ l)
        = (w (ix2 k l) : EReal) := by
    intro h k l X w
    exact put_eq (within_injective _ _ _) (ix2 k l : (rEvery b).shape.Idx) (within_every h b _)
  refine ⟨fun k hk => ?_, fun h k l => ?_, fun h k l b' hb' => ?_⟩
  · rw [upd_ne hk, upd_ne hk]
  · match h with
    | 0 =>
      refine (off 1 0 k l b _ _ (by rintro ⟨h, -⟩; cases h)).trans ((on 0 k l _ _).trans ?_)
      exact extractStridedSlice_apply _ _ _ _ _ fun a => match a with
        | ⟨0, _⟩ => (Nat.zero_add _).symm
        | ⟨1, _⟩ => rfl
    | 1 =>
      refine (on 1 k l _ _).trans ?_
      exact extractStridedSlice_apply _ _ _ _ _ fun a => match a with
        | ⟨0, _⟩ => (Nat.zero_add _).symm
        | ⟨1, _⟩ => rfl
  · rw [off 1 h k l b' _ _ (fun h => hb' h.2), off 0 h k l b' _ _ (fun h => hb' h.2)]

/-- After all eight tiles, every row of the opacity buffer is known. -/
theorem sp_alphas (pix : FVec Ideal S24x256 .f32) (s : Cts Ideal) :
    SP A c (loopTo (fun b (_ : PUnit) => alphaS A pix b) 8 (Nat.le_refl _) ⟨⟩) s fun _ s' => (∀ k, k ≠ .m15 → s' k = s k)
      ∧ ∀ (b : Fin 8) (h : Fin 2) (k l : Fin 128),
        s' .m15 (ix3 h ⟨9 * k.val + b.val, by omega⟩ l) = alphaOf (blkV s b) pix (ix2 k ⟨128 * h.val + l.val, by omega⟩) := by
  refine (Spec.loopAll (fun n _ s' => (∀ k, k ≠ .m15 → s' k = s k)
      ∧ ∀ (b : Fin 8) (h : Fin 2) (k l : Fin 128), b.val < n →
        s' .m15 (ix3 h ⟨9 * k.val + b.val, by omega⟩ l) = alphaOf (blkV s b) pix (ix2 k ⟨128 * h.val + l.val, by omega⟩))
    ?_ ⟨fun _ _ => rfl, fun b h k l hb => absurd hb (Nat.not_lt_zero _)⟩).mono ?_
  · rintro b - s' ⟨hk, hv⟩
    refine (sp_alpha b pix s').mono ?_
    rintro - s'' ⟨hk', hon, hoff⟩
    refine ⟨fun k h => (hk' k h).trans (hk k h), fun b' h k l hb => ?_⟩
    by_cases hj : b' = b
    · subst hj
      rw [hon h k l]
      have : blkV s' b' = blkV s b' := by unfold blkV; rw [hk .m14 (by decide)]
      rw [this]
    · rw [hoff h k l b' hj]
      exact hv b' h k l (by have : b'.val ≠ b.val := fun h => hj (Fin.ext h); omega)
  · rintro - s' ⟨hk, hv⟩
    exact ⟨hk, fun b h k l => hv b h k l b.isLt⟩

/-! ### The weights -/

/-- An array under one more leading axis of length one. -/
theorem cast_front {n k : Nat} (x : (⟨2, ![n, k]⟩ : Shape).Idx → EReal) (h) (b : Fin n) (l : Fin k) :
    shapeCast ⟨3, ![1, n, k]⟩ x h (ix3 (0 : Fin 1) b l) = x (ix2 b l) := by
  refine shapeCast_apply _ _ _ _ ?_
  rw [Shape.rowMajor_val_two, Shape.rowMajor_val_three]
  show b.val * k + l.val = (0 * n + b.val) * k + l.val
  rw [Nat.zero_mul, Nat.zero_add]

/-- One Gaussian's weights stored in half `h`. -/
theorem put_rGauss (h : Fin 2) (n : Fin 128) (g : Fin 2) (k : Fin 128) (b : Fin 8) (l : Fin 128) (X : S2x1152x128.Idx → EReal)
    (w : FVec Ideal S8x128 .f32) :
    put (rGauss h n).emb X (shapeCast S1x8x128 w shapeCasts_S8x128_S1x8x128) (ix3 g ⟨9 * k.val + b.val, by omega⟩ l)
      = if g = h ∧ k = n then w (ix2 b l) else X (ix3 g ⟨9 * k.val + b.val, by omega⟩ l) := by
  by_cases hg : g = h ∧ k = n
  · rw [if_pos hg]
    obtain ⟨rfl, rfl⟩ := hg
    refine (put_eq (rGauss g k).emb.injective (ix3 (0 : Fin 1) b l) (emb_rGauss g k _)).trans ?_
    exact cast_front (n := 8) (k := 128) _ _ b l
  · rw [if_neg hg]
    refine put_ne fun a e => hg ?_
    rw [emb_rGauss] at e
    have e0 : h.val = g.val := congrArg (fun z : S2x1152x128.Idx => (z 0).val) e
    have e1 : 9 * n.val + (a 1).val = 9 * k.val + b.val := congrArg (fun z : S2x1152x128.Idx => (z 1).val) e
    have ha : (a 1).val < 8 := (a 1).isLt
    exact ⟨Fin.ext e0.symm, Fin.ext (by omega)⟩

/-- What is left of the light and the greatest weight after the first `n` Gaussians, of opacities `a`. -/
def light (a : Fin 128 → FVec Ideal S1x8x128 .f32) : Nat → FVec Ideal S8x128 .f32 × FVec Ideal S8x128 .f32
  | 0 => scan0
  | n + 1 => if h : n < 128 then scanNext (weight (a ⟨n, h⟩) (light a n).1) (light a n) else light a n

/-- The weights of Gaussian `k`. -/
def weightV (a : Fin 128 → FVec Ideal S1x8x128 .f32) (k : Fin 128) : FVec Ideal S8x128 .f32 := weight (a k) (light a k.val).1

/-- The opacities of Gaussian `k` of each tile, at the pixels of half `h`. -/
def gaussV (s : Cts Ideal) (h : Fin 2) (k : Fin 128) : FVec Ideal S1x8x128 .f32 := fun y =>
  s .m15 (ix3 h ⟨9 * k.val + (y 1).val, by have : (y 1).val < 8 := (y 1).isLt; omega⟩ ⟨(y 2).val, (y 2).isLt⟩)

/-- The scan of one half replaces each opacity by its weight and keeps the greatest weight. -/
theorem sp_scanLoop (h : Fin 2) (s : Cts Ideal) :
    SP A c (loopTo (scanStep A h) 128 (Nat.le_refl _) scan0) s fun v s' => v = light (gaussV s h) 128 ∧ (∀ k, k ≠ .m15 → s' k = s k)
      ∧ ∀ (g : Fin 2) (k : Fin 128) (b : Fin 8) (l : Fin 128), s' .m15 (ix3 g ⟨9 * k.val + b.val, by omega⟩ l)
        = if g = h then weightV (gaussV s h) k (ix2 b l) else s .m15 (ix3 g ⟨9 * k.val + b.val, by omega⟩ l) := by
  refine (Spec.loopAll (fun n v s' => v = light (gaussV s h) n ∧ (∀ k, k ≠ .m15 → s' k = s k)
      ∧ ∀ (g : Fin 2) (k : Fin 128) (b : Fin 8) (l : Fin 128), s' .m15 (ix3 g ⟨9 * k.val + b.val, by omega⟩ l)
        = if g = h ∧ k.val < n then weightV (gaussV s h) k (ix2 b l) else s .m15 (ix3 g ⟨9 * k.val + b.val, by omega⟩ l))
    ?_ ⟨rfl, fun _ _ => rfl, fun g k b l => (if_neg fun hh => absurd hh.2 (Nat.not_lt_zero _)).symm⟩).mono ?_
  · rintro n v s' ⟨rfl, hk, hv⟩
    unfold scanStep
    refine (rn_rd .m15 rfl _ .rfl _ _).then ?_
    refine (rn_wr .m15 rfl rfl _ .rfl _ _ _ _).then (Spec.ret ?_)
    have ea : (fun x => s' .m15 ((rGauss h n).emb x)) = gaussV s h n := by
      funext x
      refine (congrArg (s' .m15) (emb_rGauss h n x)).trans ?_
      refine (hv h n ⟨(x 1).val, (x 1).isLt⟩ ⟨(x 2).val, (x 2).isLt⟩).trans ?_
      rw [if_neg (fun hh => absurd hh.2 (Nat.lt_irrefl _))]
      rfl
    rw [ea]
    refine ⟨?_, fun k hk' => (upd_ne hk' _).trans (hk k hk'), fun g k b l => ?_⟩
    · rw [light, dif_pos n.isLt]
    · rw [upd_same]
      refine (put_rGauss h n g k b l _ _).trans ?_
      by_cases hg : g = h ∧ k = n
      · rw [if_pos hg, if_pos ⟨hg.1, by rw [hg.2]; exact Nat.lt_succ_self _⟩, hg.2]; rfl
      · rw [if_neg hg]
        refine (hv g k b l).trans ?_
        by_cases hl : g = h ∧ k.val < n.val
        · rw [if_pos hl, if_pos ⟨hl.1, by omega⟩]
        · rw [if_neg hl, if_neg fun hh => ?_]
          have : k.val ≠ n.val := fun e => hg ⟨hh.1, Fin.ext e⟩
          exact hl ⟨hh.1, by omega⟩
  · rintro v s' ⟨rfl, hk, hv⟩
    refine ⟨rfl, hk, fun g k b l => (hv g k b l).trans ?_⟩
    by_cases hg : g = h
    · rw [if_pos ⟨hg, k.isLt⟩, if_pos hg]
    · rw [if_neg fun hh => hg hh.1, if_neg hg]

theorem put_rScale (h g : Fin 2) (b : Fin 8) (l : Fin 128) (X : S2x8x128.Idx → EReal) (w : FVec Ideal S8x128 .f32) :
    put (rScale h).emb X (shapeCast S1x8x128 w shapeCasts_S8x128_S1x8x128) (ix3 g b l) = if g = h then w (ix2 b l) else X (ix3 g b l) := by
  by_cases hg : g = h
  · subst hg
    rw [if_pos rfl]
    refine (put_eq (rScale g).emb.injective (ix3 (0 : Fin 1) b l) (emb_rScale g _)).trans ?_
    exact cast_front (n := 8) (k := 128) _ _ b l
  · rw [if_neg hg]
    refine put_ne fun a e => hg ?_
    rw [emb_rScale] at e
    have e0 : h.val = g.val := congrArg (fun z : S2x8x128.Idx => (z 0).val) e
    exact Fin.ext e0.symm

/-- The scan of one half, with the scales it stores. -/
theorem sp_scan (h : Fin 2) (s : Cts Ideal) :
    SP A c (scanS A h) s fun _ s' => (∀ k, k ≠ .m15 → k ≠ .m16 → k ≠ .m17 → s' k = s k)
      ∧ (∀ (g : Fin 2) (k : Fin 128) (b : Fin 8) (l : Fin 128), s' .m15 (ix3 g ⟨9 * k.val + b.val, by omega⟩ l)
        = if g = h then weightV (gaussV s h) k (ix2 b l) else s .m15 (ix3 g ⟨9 * k.val + b.val, by omega⟩ l))
      ∧ (∀ (g : Fin 2) (b : Fin 8) (l : Fin 128), s' .m16 (ix3 g b l)
        = if g = h then scaleOf (light (gaussV s h) 128).2 (ix2 b l) else s .m16 (ix3 g b l))
      ∧ ∀ (g : Fin 2) (b : Fin 8) (l : Fin 128), s' .m17 (ix3 g b l)
        = if g = h then invOf (light (gaussV s h) 128).2 (ix2 b l) else s .m17 (ix3 g b l) := by
  unfold scanS
  refine Spec.bind (sp_scanLoop h s) ?_
  rintro v s' ⟨rfl, hk, hv⟩
  refine (rn_wr .m16 rfl rfl _ .rfl _ _ _ _).then ?_
  refine ⟨_, _, rn_wr .m17 rfl rfl _ .rfl _ _ _ _, ?_⟩
  refine ⟨fun k h15 h16 h17 => ?_, fun g k b l => ?_, fun g b l => ?_, fun g b l => ?_⟩
  · rw [upd_ne h17, upd_ne h16, hk k h15]
  · rw [upd_ne (by decide), upd_ne (by decide), hv]
  · rw [upd_ne (by decide), upd_same, hk .m16 (by decide)]
    exact put_rScale h g b l _ _
  · rw [upd_same, upd_ne (by decide), hk .m17 (by decide)]
    exact put_rScale h g b l _ _

/-- Both scans, with all weights, scales and inverses. -/
theorem sp_scans (s : Cts Ideal) :
    SP A c (loopTo (fun h (_ : PUnit) => scanS A h) 2 (Nat.le_refl _) ⟨⟩) s fun _ s' =>
      (∀ k, k ≠ .m15 → k ≠ .m16 → k ≠ .m17 → s' k = s k)
      ∧ (∀ (g : Fin 2) (k : Fin 128) (b : Fin 8) (l : Fin 128), s' .m15 (ix3 g ⟨9 * k.val + b.val, by omega⟩ l) = weightV (gaussV s g) k (ix2 b l))
      ∧ (∀ (g : Fin 2) (b : Fin 8) (l : Fin 128), s' .m16 (ix3 g b l) = scaleOf (light (gaussV s g) 128).2 (ix2 b l))
      ∧ ∀ (g : Fin 2) (b : Fin 8) (l : Fin 128), s' .m17 (ix3 g b l) = invOf (light (gaussV s g) 128).2 (ix2 b l) := by
  refine (Spec.loopAll (fun n _ s' => (∀ k, k ≠ .m15 → k ≠ .m16 → k ≠ .m17 → s' k = s k)
      ∧ (∀ (g : Fin 2) (k : Fin 128) (b : Fin 8) (l : Fin 128), s' .m15 (ix3 g ⟨9 * k.val + b.val, by omega⟩ l)
        = if g.val < n then weightV (gaussV s g) k (ix2 b l) else s .m15 (ix3 g ⟨9 * k.val + b.val, by omega⟩ l))
      ∧ (∀ (g : Fin 2) (b : Fin 8) (l : Fin 128), g.val < n → s' .m16 (ix3 g b l) = scaleOf (light (gaussV s g) 128).2 (ix2 b l))
      ∧ ∀ (g : Fin 2) (b : Fin 8) (l : Fin 128), g.val < n → s' .m17 (ix3 g b l) = invOf (light (gaussV s g) 128).2 (ix2 b l))
    ?_ ⟨fun _ _ _ _ => rfl, fun g k b l => (if_neg (Nat.not_lt_zero _)).symm, fun g b l h => absurd h (Nat.not_lt_zero _),
      fun g b l h => absurd h (Nat.not_lt_zero _)⟩).mono ?_
  · rintro h - s' ⟨hk, hw, hs, hi⟩
    refine (sp_scan h s').mono ?_
    rintro - s'' ⟨hk', hw', hs', hi'⟩
    have eg : gaussV s' h = gaussV s h := by
      funext k y
      refine (hw h k ⟨(y 1).val, (y 1).isLt⟩ ⟨(y 2).val, (y 2).isLt⟩).trans ?_
      rw [if_neg (Nat.lt_irrefl _)]; rfl
    rw [eg] at hw' hs' hi'
    refine ⟨fun k a b d => (hk' k a b d).trans (hk k a b d), fun g k b l => ?_, fun g b l hg => ?_, fun g b l hg => ?_⟩
    · rw [hw']
      by_cases e : g = h
      · subst e; rw [if_pos rfl, if_pos (Nat.lt_succ_self _)]
      · rw [if_neg e, hw]
        have : g.val < h.val ↔ g.val < h.val + 1 := by
          have : g.val ≠ h.val := fun h => e (Fin.ext h)
          omega
        simp only [this]
    · rw [hs']
      by_cases e : g = h
      · subst e; rw [if_pos rfl]
      · rw [if_neg e]; exact hs g b l (by have : g.val ≠ h.val := fun h => e (Fin.ext h); omega)
    · rw [hi']
      by_cases e : g = h
      · subst e; rw [if_pos rfl]
      · rw [if_neg e]; exact hi g b l (by have : g.val ≠ h.val := fun h => e (Fin.ext h); omega)
  · rintro - s' ⟨hk, hw, hs, hi⟩
    exact ⟨hk, fun g k b l => (hw g k b l).trans (if_pos g.isLt), fun g b l => hs g b l g.isLt, fun g b l => hi g b l g.isLt⟩

/-! ### The codes and the products -/

/-- One tile's weights at the pixels of half `h`; a row of scales, of their inverses; the tile's feature codes. -/
def wV (s : Cts Ideal) (h : Fin 2) (b : Fin 8) : FVec Ideal S128x128 .f32 := fun y =>
  s .m15 (ix3 h ⟨9 * (y 0).val + b.val, by have : (y 0).val < 128 := (y 0).isLt; omega⟩ ⟨(y 1).val, (y 1).isLt⟩)
def scRow (s : Cts Ideal) (h : Fin 2) (b : Fin 8) : FVec Ideal S1x1x128 .f32 := fun y => s .m16 (ix3 h b ⟨(y 2).val, (y 2).isLt⟩)
def invRow (s : Cts Ideal) (h : Fin 2) (b : Fin 8) : FVec Ideal S1x1x128 .f32 := fun y => s .m17 (ix3 h b ⟨(y 2).val, (y 2).isLt⟩)
def feV (s : Cts Ideal) (b : Fin 8) : FVec Ideal S1x64x128 .fp8e4m3 := fun y => s .m5 (ix3 b ⟨(y 1).val, (y 1).isLt⟩ ⟨(y 2).val, (y 2).isLt⟩)

/-- The feature map of tile `b`. -/
def featS (s : Cts Ideal) (b : Fin 8) : FVec Ideal S64x256 .f32 :=
  featOf (wV s 0 b) (wV s 1 b) (invRow s 0 b) (invRow s 1 b) (feV s b) (scRow s 0 b) (scRow s 1 b) (s .m18)

theorem put_rCodes (b g : Fin 8) (k : Fin 64) (l : Fin 256) (X : S8x64x256.Idx → EReal) (w : FVec Ideal S64x256 .fp8e4m3) :
    put (rCodes b).emb X (shapeCast S1x64x256 w shapeCasts_S64x256_S1x64x256) (ix3 g k l) = if g = b then w (ix2 k l) else X (ix3 g k l) := by
  by_cases hg : g = b
  · subst hg
    rw [if_pos rfl]
    refine (put_eq (rCodes g).emb.injective (ix3 (0 : Fin 1) k l) (emb_rCodes g _)).trans ?_
    exact cast_front (n := 64) (k := 256) _ _ k l
  · rw [if_neg hg]
    refine put_ne fun a e => hg ?_
    rw [emb_rCodes] at e
    have e0 : b.val = g.val := congrArg (fun z : S8x64x256.Idx => (z 0).val) e
    exact Fin.ext e0.symm

theorem put_rY (b g : Fin 8) (k : Fin 256) (l : Fin 384) (X : S8x256x384.Idx → EReal) (w : FVec Ideal S256x384 .bf16) :
    put (rY b).emb X (shapeCast S1x256x384 w shapeCasts_S256x384_S1x256x384) (ix3 g k l) = if g = b then w (ix2 k l) else X (ix3 g k l) := by
  by_cases hg : g = b
  · subst hg
    rw [if_pos rfl]
    refine (put_eq (rY g).emb.injective (ix3 (0 : Fin 1) k l) (emb_rY g _)).trans ?_
    exact cast_front (n := 256) (k := 384) _ _ k l
  · rw [if_neg hg]
    refine put_ne fun a e => hg ?_
    rw [emb_rY] at e
    have e0 : b.val = g.val := congrArg (fun z : S8x256x384.Idx => (z 0).val) e
    exact Fin.ext e0.symm

theorem put_rFs (b g : Fin 8) (l : Fin 256) (X : S8x256.Idx → EReal) (w : FVec Ideal S1x256 .f32) :
    put (rFs b).emb X w (ix2 g l) = if g = b then w (ix2 0 l) else X (ix2 g l) := by
  by_cases hg : g = b
  · subst hg
    rw [if_pos rfl]
    exact put_eq (rFs g).emb.injective (ix2 (0 : Fin 1) l) (emb_rFs g _)
  · rw [if_neg hg]
    refine put_ne fun a e => hg ?_
    rw [emb_rFs] at e
    have e0 : b.val = g.val := congrArg (fun z : S8x256.Idx => (z 0).val) e
    exact Fin.ext e0.symm

/-- One tile's three results. -/
theorem sp_tile (b : Fin 8) (s : Cts Ideal) :
    SP A c (tileS A b) s fun _ s' => (∀ k, k ≠ .m11 → k ≠ .m12 → k ≠ .m13 → s' k = s k)
      ∧ (∀ (g : Fin 8) (k : Fin 256) (l : Fin 384), s' .m11 (ix3 g k l) = if g = b then yOf (featS s b) (s .m19) (ix2 k l) else s .m11 (ix3 g k l))
      ∧ (∀ (g : Fin 8) (k : Fin 64) (l : Fin 256), s' .m12 (ix3 g k l) = if g = b then fCode (featS s b) (ix2 k l) else s .m12 (ix3 g k l))
      ∧ ∀ (g : Fin 8) (l : Fin 256), s' .m13 (ix2 g l) = if g = b then scaleOf (amaxOf (featS s b)) (ix2 0 l) else s .m13 (ix2 g l) := by
  unfold tileS
  refine (rn_rd_half 0 _ _).then ?_
  refine (rn_rd .m17 rfl _ .rfl _ _).then ?_
  refine (rn_rd_half 1 _ _).then ?_
  refine (rn_rd .m17 rfl _ .rfl _ _).then ?_
  refine (rn_rd .m5 rfl _ .rfl _ _).then ?_
  refine (rn_rd .m16 rfl _ .rfl _ _).then ?_
  refine (rn_rd .m16 rfl _ .rfl _ _).then ?_
  refine (rn_rd .m18 rfl _ .rfl _ _).then ?_
  refine (rn_wr .m12 rfl rfl _ .rfl _ _ _ _).then ?_
  refine (rn_wr .m13 rfl rfl _ .rfl _ _ _ _).then ?_
  refine (rn_rd .m19 rfl _ .rfl _ _).then ?_
  refine ⟨_, _, rn_wr .m11 rfl rfl _ .rfl _ _ _ _, ?_⟩
  have ew : ∀ h : Fin 2, (fun x => s .m15 (within (rHalf h) squeezes_S1x1152x128_S1152x128.numel_eq (rEvery b) x)) = wV s h b :=
    fun h => funext fun x => congrArg (s .m15) (within_every h b x)
  have ei : ∀ h : Fin 2, (fun x => s .m17 ((rScaleRow h b).emb x)) = invRow s h b := fun h => funext fun x => congrArg (s .m17) (emb_rScaleRow h b x)
  have es : ∀ h : Fin 2, (fun x => s .m16 ((rScaleRow h b).emb x)) = scRow s h b := fun h => funext fun x => congrArg (s .m16) (emb_rScaleRow h b x)
  have ef : (fun x => s .m5 ((rFeat b).emb x)) = feV s b := funext fun x => congrArg (s .m5) (emb_rFeat b x)
  have e18 : (fun x => s .m18 ((Rect.unit (s := S64x128) ![0, 0] S64x128.size inb_S64x128_S64x128_0_0).emb x)) = s .m18 :=
    funext fun x => congrArg (s .m18) (emb_all2 _ x)
  have e19 : ∀ s : Cts Ideal, (fun x => s .m19 ((Rect.unit (s := S256x384) ![0, 0] S256x384.size inb_S256x384_S256x384_0_0).emb x)) = s .m19 :=
    fun s => funext fun x => congrArg (s .m19) (emb_all2 _ x)
  rw [ew 0, ew 1, ei 0, ei 1, es 0, es 1, ef, e18, e19]
  refine ⟨fun k h11 h12 h13 => ?_, fun g k l => ?_, fun g k l => ?_, fun g l => ?_⟩
  · rw [upd_ne h11, upd_ne h13, upd_ne h12]
  · rw [upd_same, upd_ne (by decide), upd_ne (by decide)]
    rw [upd_ne (show Slot.m19 ≠ .m13 by decide), upd_ne (show Slot.m19 ≠ .m12 by decide)]
    exact put_rY b g k l _ _
  · rw [upd_ne (by decide), upd_ne (by decide), upd_same]
    exact put_rCodes b g k l _ _
  · rw [upd_ne (by decide), upd_same, upd_ne (by decide)]
    exact put_rFs b g l _ _

/-- All eight tiles' results. -/
theorem sp_tiles (s : Cts Ideal) :
    SP A c (loopTo (fun b (_ : PUnit) => tileS A b) 8 (Nat.le_refl _) ⟨⟩) s fun _ s' => (∀ k, k ≠ .m11 → k ≠ .m12 → k ≠ .m13 → s' k = s k)
      ∧ (∀ (g : Fin 8) (k : Fin 256) (l : Fin 384), s' .m11 (ix3 g k l) = yOf (featS s g) (s .m19) (ix2 k l))
      ∧ (∀ (g : Fin 8) (k : Fin 64) (l : Fin 256), s' .m12 (ix3 g k l) = fCode (featS s g) (ix2 k l))
      ∧ ∀ (g : Fin 8) (l : Fin 256), s' .m13 (ix2 g l) = scaleOf (amaxOf (featS s g)) (ix2 0 l) := by
  refine (Spec.loopAll (fun n _ s' => (∀ k, k ≠ .m11 → k ≠ .m12 → k ≠ .m13 → s' k = s k)
      ∧ (∀ (g : Fin 8) (k : Fin 256) (l : Fin 384), g.val < n → s' .m11 (ix3 g k l) = yOf (featS s g) (s .m19) (ix2 k l))
      ∧ (∀ (g : Fin 8) (k : Fin 64) (l : Fin 256), g.val < n → s' .m12 (ix3 g k l) = fCode (featS s g) (ix2 k l))
      ∧ ∀ (g : Fin 8) (l : Fin 256), g.val < n → s' .m13 (ix2 g l) = scaleOf (amaxOf (featS s g)) (ix2 0 l))
    ?_ ⟨fun _ _ _ _ => rfl, fun g _ _ h => absurd h (Nat.not_lt_zero _), fun g _ _ h => absurd h (Nat.not_lt_zero _),
      fun g _ h => absurd h (Nat.not_lt_zero _)⟩).mono ?_
  · rintro b - s' ⟨hk, h1, h2, h3⟩
    refine (sp_tile b s').mono ?_
    rintro - s'' ⟨hk', h1', h2', h3'⟩
    have ef : featS s' b = featS s b := by
      unfold featS wV scRow invRow feV
      rw [hk .m15 (by decide) (by decide) (by decide), hk .m16 (by decide) (by decide) (by decide), hk .m17 (by decide) (by decide) (by decide),
        hk .m5 (by decide) (by decide) (by decide), hk .m18 (by decide) (by decide) (by decide)]
    rw [ef] at h1' h2' h3'
    rw [hk .m19 (by decide) (by decide) (by decide)] at h1'
    have ne : ∀ g : Fin 8, g ≠ b → g.val < b.val + 1 → g.val < b.val := fun g hg h => by
      have : g.val ≠ b.val := fun h => hg (Fin.ext h)
      omega
    refine ⟨fun k a b d => (hk' k a b d).trans (hk k a b d), fun g k l hg => ?_, fun g k l hg => ?_, fun g l hg => ?_⟩
    · rw [h1']
      by_cases e : g = b
      · subst e; rw [if_pos rfl]
      · rw [if_neg e]; exact h1 g k l (ne g e hg)
    · rw [h2']
      by_cases e : g = b
      · subst e; rw [if_pos rfl]
      · rw [if_neg e]; exact h2 g k l (ne g e hg)
    · rw [h3']
      by_cases e : g = b
      · subst e; rw [if_pos rfl]
      · rw [if_neg e]; exact h3 g l (ne g e hg)
  · rintro - s' ⟨hk, h1, h2, h3⟩
    exact ⟨hk, fun g k l => h1 g k l g.isLt, fun g k l => h2 g k l g.isLt, fun g l => h3 g l g.isLt⟩

/-! ### The body -/

/-- The block of 24 coefficients of tile `b`'s Gaussians: three pieces of each of the six, and zeros. -/
def cBlk (i : grid0.Coords) (s : Cts Ideal) (b : Fin 8) : FVec Ideal S24x128 .f32 := fun y =>
  if h : (y 0).val < 18 then pieceN ⟨(y 0).val % 3, by omega⟩ (coefV i s ⟨(y 0).val / 3, by omega⟩) (ix2 b ⟨(y 1).val, (y 1).isLt⟩) else 0

/-- The last six rows of the pixels' monomials are zero. -/
def PixOk (s : Cts Ideal) : Prop := ∀ (j : Fin 24) (p : Fin 256), 18 ≤ j.val → (s .m6 (ix2 j p) : EReal) = 0

/-- Coefficients that meet zeros do not matter. -/
theorem alphaOf_congr (x y : FVec Ideal S24x128 .f32) (pix : FVec Ideal S24x256 .f32)
    (hxy : ∀ (j : Fin 24) (l : Fin 128), j.val < 18 → x (ix2 j l) = y (ix2 j l))
    (hp : ∀ (j : Fin 24) (p : Fin 256), 18 ≤ j.val → (pix (ix2 j p) : EReal) = 0) : alphaOf x pix = alphaOf y pix := by
  funext z
  obtain ⟨g, p, rfl⟩ : ∃ (g : Fin 128) (p : Fin 256), z = ix2 g p := ⟨z 0, z 1, eq_ix2 z⟩
  pointwise [alphaOf]
  refine congrArg (fun u : EReal => _ ⊓ Ideal.exp2 u) ?_
  refine Finset.sum_congr (M := EReal) rfl fun j _ => ?_
  by_cases h : j.val < 18
  · rw [hxy j _ h]
  · rw [hp j _ (by omega), mul_zero, mul_zero]

/-- The opacities of tile `b`. -/
def alphaV (i : grid0.Coords) (s : Cts Ideal) (b : Fin 8) : FVec Ideal S128x256 .f32 := alphaOf (cBlk i s b) (s .m6)

/-- The opacities of Gaussian `k` of each tile, at the pixels of half `h`. -/
def opac (i : grid0.Coords) (s : Cts Ideal) (h : Fin 2) (k : Fin 128) : FVec Ideal S1x8x128 .f32 := fun y =>
  alphaV i s ⟨(y 1).val, (y 1).isLt⟩ (ix2 k ⟨128 * h.val + (y 2).val, by have : (y 2).val < 128 := (y 2).isLt; omega⟩)

/-- The feature map of tile `b`, over the feature scales `fsc`. -/
def featV (i : grid0.Coords) (s : Cts Ideal) (fsc : FVec Ideal S64x128 .f32) (b : Fin 8) : FVec Ideal S64x256 .f32 :=
  featOf (fun y => weightV (opac i s 0) ⟨(y 0).val, (y 0).isLt⟩ (ix2 b ⟨(y 1).val, (y 1).isLt⟩))
    (fun y => weightV (opac i s 1) ⟨(y 0).val, (y 0).isLt⟩ (ix2 b ⟨(y 1).val, (y 1).isLt⟩))
    (fun y => invOf (light (opac i s 0) 128).2 (ix2 b ⟨(y 2).val, (y 2).isLt⟩))
    (fun y => invOf (light (opac i s 1) 128).2 (ix2 b ⟨(y 2).val, (y 2).isLt⟩))
    (feV s b)
    (fun y => scaleOf (light (opac i s 0) 128).2 (ix2 b ⟨(y 2).val, (y 2).isLt⟩))
    (fun y => scaleOf (light (opac i s 1) 128).2 (ix2 b ⟨(y 2).val, (y 2).isLt⟩)) fsc

/-- What the body leaves: its three results, and the two scratch buffers that the next point reads. -/
structure Left (i : grid0.Coords) (fsc : FVec Ideal S64x128 .f32) (aug : FVec Ideal S256x384 .bf16) (s s' : Cts Ideal) : Prop where
  keep : Keep s s'
  y : s' .m11 = fun z => yOf (featV i s fsc ⟨(z 0).val, (z 0).isLt⟩) aug (ix2 ⟨(z 1).val, (z 1).isLt⟩ ⟨(z 2).val, (z 2).isLt⟩)
  codes : s' .m12 = fun z => fCode (featV i s fsc ⟨(z 0).val, (z 0).isLt⟩) (ix2 ⟨(z 1).val, (z 1).isLt⟩ ⟨(z 2).val, (z 2).isLt⟩)
  scales : s' .m13 = fun z => scaleOf (amaxOf (featV i s fsc ⟨(z 0).val, (z 0).isLt⟩)) (ix2 0 ⟨(z 1).val, (z 1).isLt⟩)
  fsc : s' .m18 = fsc
  aug : s' .m19 = aug

/-- What one grid point leaves in its three result blocks and its scratch buffers. -/
theorem sp_body (s : Cts Ideal) (hp : PixOk s) : SP A c (body A) s fun _ s' => Left A.i (s .m18) (s .m19) s s' := by
  unfold body
  refine Spec.bind (sp_lens s) ?_
  rintro v s0 ⟨rfl, rfl⟩
  refine Spec.bind (sp_coefs s0) ?_
  rintro - s1 ⟨k1, h1⟩
  refine (rn_rd .m6 rfl _ .rfl _ _).then ?_
  have e6 : (fun x => s1 .m6 ((Rect.unit (s := S24x256) ![0, 0] S24x256.size inb_S24x256_S24x256_0_0).emb x)) = s0 .m6 := by
    funext x; rw [k1 .m6 (by decide)]; exact congrArg (s0 .m6) (emb_all2 _ x)
  rw [e6]
  refine Spec.bind (sp_alphas _ s1) ?_
  rintro - s2 ⟨k2, h2⟩
  refine Spec.bind (sp_scans s2) ?_
  rintro - s3 ⟨k3, h3, h3', h3''⟩
  refine (sp_tiles s3).mono ?_
  rintro - s4 ⟨k4, hy, hc, hs⟩
  have ea : ∀ b, alphaOf (blkV s1 b) (s0 .m6) = alphaV A.i s0 b := fun b => by
    refine alphaOf_congr _ _ _ (fun j l hj => ?_) hp
    have e := h1 b ⟨j.val / 3, by omega⟩ ⟨j.val % 3, by omega⟩ l
    unfold cBlk
    rw [dif_pos (show ((ix2 j l : S24x128.Idx) 0).val < 18 from hj)]
    refine Eq.trans ?_ e
    refine congrArg (s1 .m14) (funext fun a => Fin.ext ?_)
    match a with
    | 0 => show 24 * b.val + j.val = 24 * b.val + 3 * (j.val / 3) + j.val % 3; omega
    | 1 => rfl
  have eg : ∀ h, gaussV s2 h = opac A.i s0 h := fun h => by
    funext k y
    refine (h2 ⟨(y 1).val, (y 1).isLt⟩ h k ⟨(y 2).val, (y 2).isLt⟩).trans ?_
    rw [ea]; rfl
  have all : ∀ k : Slot, k ≠ .m14 → k ≠ .m15 → k ≠ .m16 → k ≠ .m17 → s3 k = s0 k := fun k a b d e => by
    rw [k3 k b d e, k2 k b, k1 k a]
  have ef : ∀ b, featS s3 b = featV A.i s0 (s0 .m18) b := fun b => by
    have w : ∀ h, wV s3 h b = fun y => weightV (opac A.i s0 h) ⟨(y 0).val, (y 0).isLt⟩ (ix2 b ⟨(y 1).val, (y 1).isLt⟩) := fun h => by
      funext y
      refine (h3 h ⟨(y 0).val, (y 0).isLt⟩ b ⟨(y 1).val, (y 1).isLt⟩).trans ?_
      rw [eg]
    have sc : ∀ h, scRow s3 h b = fun y => scaleOf (light (opac A.i s0 h) 128).2 (ix2 b ⟨(y 2).val, (y 2).isLt⟩) := fun h => by
      funext y; refine (h3' h b ⟨(y 2).val, (y 2).isLt⟩).trans ?_; rw [eg]
    have iv : ∀ h, invRow s3 h b = fun y => invOf (light (opac A.i s0 h) 128).2 (ix2 b ⟨(y 2).val, (y 2).isLt⟩) := fun h => by
      funext y; refine (h3'' h b ⟨(y 2).val, (y 2).isLt⟩).trans ?_; rw [eg]
    have fe : feV s3 b = feV s0 b := by
      unfold feV; rw [all .m5 (by decide) (by decide) (by decide) (by decide)]
    unfold featS featV
    rw [w 0, w 1, sc 0, sc 1, iv 0, iv 1, fe, all .m18 (by decide) (by decide) (by decide) (by decide)]
  have e19 : s3 .m19 = s0 .m19 := all .m19 (by decide) (by decide) (by decide) (by decide)
  simp only [ef, e19] at hy hc hs
  refine ⟨fun j hj => ?_, ?_, ?_, ?_, ?_, ?_⟩
  · have hne : ∀ k : Slot, k.input = false → j ≠ k := fun k hk e => by rw [e, hk] at hj; cases hj
    rw [k4 j (hne _ rfl) (hne _ rfl) (hne _ rfl), all j (hne _ rfl) (hne _ rfl) (hne _ rfl) (hne _ rfl)]
  · funext z
    refine (congrArg (s4 .m11) (eq_ix3 (n0 := 8) (n1 := 256) (n2 := 384) z)).trans (hy _ _ _)
  · funext z
    refine (congrArg (s4 .m12) (eq_ix3 (n0 := 8) (n1 := 64) (n2 := 256) z)).trans (hc _ _ _)
  · funext z
    refine (congrArg (s4 .m13) (eq_ix2 (n0 := 8) (n1 := 256) z)).trans (hs _ _)
  · rw [k4 .m18 (by decide) (by decide) (by decide), all .m18 (by decide) (by decide) (by decide) (by decide)]
  · rw [k4 .m19 (by decide) (by decide) (by decide), e19]

/-! ### The first grid point -/

/-- The decoder the first grid point writes: three pieces of its entries, then three pieces of the bias. -/
def augV (w : FVec Ideal S64x384 .fp8e4m3) (d b : FVec Ideal S1x384 .f32) : FVec Ideal S256x384 .bf16 := fun z =>
  if h0 : (z 0).val < 64 then augRow (piece0 (decOf w d)) (ix2 ⟨(z 0).val, h0⟩ ⟨(z 1).val, (z 1).isLt⟩)
  else if h1 : (z 0).val < 128 then augRow (piece1 (decOf w d)) (ix2 ⟨(z 0).val - 64, by omega⟩ ⟨(z 1).val, (z 1).isLt⟩)
  else if h2 : (z 0).val < 192 then augRow (piece2 (decOf w d)) (ix2 ⟨(z 0).val - 128, by omega⟩ ⟨(z 1).val, (z 1).isLt⟩)
  else augRow (biasOf (shapeCast S1x384 b shapeCasts_S1x384_S1x384))
    (ix2 ⟨(z 0).val - 192, by have : (z 0).val < 256 := (z 0).isLt; omega⟩ ⟨(z 1).val, (z 1).isLt⟩)

/-- A block of 64 rows stored from row `p` on. -/
theorem put_rows (p : Nat) (hi) (X : S256x384.Idx → EReal) (w : S64x384.Idx → EReal) (z : S256x384.Idx) :
    put (Rect.unit (s := S256x384) ![p, 0] S64x384.size hi).emb X w z
      = if h : p ≤ (z 0).val ∧ (z 0).val < p + 64 then w (ix2 ⟨(z 0).val - p, by omega⟩ ⟨(z 1).val, (z 1).isLt⟩) else X z := by
  by_cases h : p ≤ (z 0).val ∧ (z 0).val < p + 64
  · rw [dif_pos h]
    refine put_eq (Rect.unit (s := S256x384) ![p, 0] S64x384.size hi).emb.injective
      (ix2 (⟨(z 0).val - p, by omega⟩ : Fin 64) (⟨(z 1).val, (z 1).isLt⟩ : Fin 384)) ?_
    funext a; apply Fin.ext
    rw [Rect.emb_apply]
    match a with
    | 0 => show p + 1 * ((z 0).val - p) = (z 0).val; omega
    | 1 => show 0 + 1 * (z 1).val = (z 1).val; omega
  · rw [dif_neg h]
    refine put_ne fun a e => h ?_
    have e0 := congrArg (fun z : S256x384.Idx => (z 0).val) e
    have e1 : p + 1 * (a 0).val = (z 0).val := e0
    have ha : (a 0).val < 64 := (a 0).isLt
    omega

theorem put_all2 {n k : Nat} (hi) (X w : (⟨2, ![n, k]⟩ : Shape).Idx → EReal) :
    put (Rect.unit (s := ⟨2, ![n, k]⟩) ![0, 0] ![n, k] hi).emb X w = w := by
  funext z
  exact put_eq (Rect.unit (s := ⟨2, ![n, k]⟩) ![0, 0] ![n, k] hi).emb.injective z (emb_all2 hi z)

/-- What the first grid point leaves in the scratch buffers before the common part. -/
theorem sp_init (s : Cts Ideal) :
    SP A c (initBody A) s fun _ s' => (∀ k, k ≠ .m14 → k ≠ .m18 → k ≠ .m19 → s' k = s k)
      ∧ s' .m18 = (fscOf (F := Ideal) (s .m7) : FVec Ideal S64x128 .f32) ∧ s' .m19 = augV (s .m8) (s .m9) (s .m10) := by
  unfold initBody
  refine (rn_wr .m14 rfl rfl _ .rfl _ _ _ _).then ?_
  refine (rn_rd .m7 rfl _ .rfl _ _).then ?_
  refine (rn_wr .m18 rfl rfl _ .rfl _ _ _ _).then ?_
  refine (rn_rd .m8 rfl _ .rfl _ _).then ?_
  refine (rn_rd .m9 rfl _ .rfl _ _).then ?_
  refine (rn_wr .m19 rfl rfl _ .rfl _ _ _ _).then ?_
  refine (rn_wr .m19 rfl rfl _ .rfl _ _ _ _).then ?_
  refine (rn_wr .m19 rfl rfl _ .rfl _ _ _ _).then ?_
  refine (rn_wr .m19 rfl rfl _ .rfl _ _ _ _).then ?_
  refine (rn_rd .m10 rfl _ .rfl _ _).then ?_
  refine ⟨_, _, rn_wr .m19 rfl rfl _ .rfl _ _ _ _, ?_⟩
  refine ⟨fun k h14 h18 h19 => ?_, ?_, ?_⟩
  · simp only [upd_ne h14, upd_ne h18, upd_ne h19]
  · rw [upd_ne (by decide), upd_ne (by decide), upd_ne (by decide), upd_ne (by decide), upd_ne (by decide), upd_same]
    have e7 : ∀ s : Cts Ideal, (fun x => s .m7 ((Rect.unit (s := S1x64) ![0, 0] S1x64.size inb_S1x64_S1x64_0_0).emb x)) = s .m7 :=
      fun s => funext fun x => congrArg (s .m7) (emb_all2 _ x)
    rw [e7, upd_ne (by decide)]
    exact put_all2 (n := 64) (k := 128) _ _ _
  · have e8 : ∀ s : Cts Ideal, (fun x => s .m8 ((Rect.unit (s := S64x384) ![0, 0] S64x384.size inb_S64x384_S64x384_0_0).emb x)) = s .m8 :=
      fun s => funext fun x => congrArg (s .m8) (emb_all2 _ x)
    have e9 : ∀ s : Cts Ideal, (fun x => s .m9 ((Rect.unit (s := S1x384) ![0, 0] S1x384.size inb_S1x384_S1x384_0_0).emb x)) = s .m9 :=
      fun s => funext fun x => congrArg (s .m9) (emb_all2 _ x)
    have e10 : ∀ s : Cts Ideal, (fun x => s .m10 ((Rect.unit (s := S1x384) ![0, 0] S1x384.size inb_S1x384_S1x384_0_0).emb x)) = s .m10 :=
      fun s => funext fun x => congrArg (s .m10) (emb_all2 _ x)
    rw [e8, e9, e10]
    simp only [upd_same]
    simp only [upd_ne (show Slot.m8 ≠ .m18 by decide), upd_ne (show Slot.m8 ≠ .m14 by decide), upd_ne (show Slot.m9 ≠ .m18 by decide),
      upd_ne (show Slot.m9 ≠ .m14 by decide), upd_ne (show Slot.m10 ≠ .m19 by decide), upd_ne (show Slot.m10 ≠ .m18 by decide),
      upd_ne (show Slot.m10 ≠ .m14 by decide)]
    funext z
    have hz : (z 0).val < 256 := (z 0).isLt
    refine (put_rows 192 _ _ _ z).trans ?_
    unfold augV
    by_cases h3 : 192 ≤ (z 0).val
    · rw [dif_pos ⟨h3, by omega⟩, dif_neg (by omega), dif_neg (by omega), dif_neg (by omega)]
    rw [dif_neg (fun h => h3 h.1)]
    refine (put_rows 128 _ _ _ z).trans ?_
    by_cases h2 : 128 ≤ (z 0).val
    · rw [dif_pos ⟨h2, by omega⟩, dif_neg (by omega), dif_neg (by omega), dif_pos (by omega)]
    rw [dif_neg (fun h => h2 h.1)]
    refine (put_rows 64 _ _ _ z).trans ?_
    by_cases h1 : 64 ≤ (z 0).val
    · rw [dif_pos ⟨h1, by omega⟩, dif_neg (by omega), dif_pos (by omega)]
    rw [dif_neg (fun h => h1 h.1)]
    refine (put_rows 0 _ _ _ z).trans ?_
    rw [dif_pos ⟨Nat.zero_le _, by omega⟩, dif_pos (by omega)]
    rfl

/-- The feature map is a function of the operands. -/
theorem featV_congr {i : grid0.Coords} {s0 s : Cts Ideal} (f : FVec Ideal S64x128 .f32) (b : Fin 8)
    (e : ∀ j : Slot, j.input = true → s0 j = s j) : featV i s0 f b = featV i s f b := by
  have ec : ∀ b, cBlk i s0 b = cBlk i s b := fun b => by
    unfold cBlk coefV opV meanV conV lensV
    rw [e .m1 rfl, e .m2 rfl, e .m3 rfl, e .m4 rfl]
  have eo : ∀ h, opac i s0 h = opac i s h := fun h => by
    unfold opac alphaV
    simp only [ec, e .m6 rfl]
  unfold featV feV
  simp only [eo, e .m5 rfl]

/-- The body at the first grid point, -/
theorem sp_splat_first (h : isFirst A.i) (s : Cts Ideal) (hp : PixOk s) :
    SP A c (splat A) s fun _ s' => Left A.i (fscOf (s .m7)) (augV (s .m8) (s .m9) (s .m10)) s s' := by
  rw [splat_pos A h]
  refine Spec.bind (sp_init s) ?_
  rintro - s0 ⟨k0, h18, h19⟩
  have k6 : s0 .m6 = s .m6 := k0 .m6 (by decide) (by decide) (by decide)
  have hp0 : PixOk s0 := by unfold PixOk; rw [k6]; exact hp
  refine (sp_body s0 hp0).mono ?_
  rintro - s' L
  rw [h18, h19] at L
  have ef : ∀ f b, featV A.i s0 f b = featV A.i s f b := fun f b => featV_congr f b fun j hj =>
    k0 j (fun e => by rw [e] at hj; cases hj) (fun e => by rw [e] at hj; cases hj) (fun e => by rw [e] at hj; cases hj)
  exact ⟨fun j hj => (L.keep j hj).trans (k0 j (fun e => by rw [e] at hj; cases hj) (fun e => by rw [e] at hj; cases hj) (fun e => by rw [e] at hj; cases hj)),
    by rw [L.y]; simp only [ef], by rw [L.codes]; simp only [ef], by rw [L.scales]; simp only [ef], L.fsc, L.aug⟩

/-- and at every other. -/
theorem sp_splat_next (h : ¬ isFirst A.i) (s : Cts Ideal) (hp : PixOk s) :
    SP A c (splat A) s fun _ s' => Left A.i (s .m18) (s .m19) s s' := by
  rw [splat_neg A h]
  exact sp_body s hp

end Cert.KernelIdeal.Hand

end
-- ==== Proof.KernelIdealValue.lean ====
/-
What the kernel's three results hold at the end of a run, at the ideal instance: block by block, what
`proof/Proof/KernelIdealTrace.lean` says the body leaves at that grid point.
-/
module

public import proofs.«01_k».proof.Proof.KernelIdealFrame
public import proofs.«01_k».proof.Proof.KernelIdealLit
public import Idealize.ShloMosaic.Lib.Pipeline.ValueKit
public import proofs.«01_k».proof.Proof.KernelIdealTrace

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen Cert.Loops
open Cert.KernelIdeal.Hand hiding frame run_main dats

local notation "𝕄" => MT nD τ sig Unit (Elt Ideal) ℕ (UR sig nD τ) ℕ

variable (m : (ℓ : Loc nD τ sig) → Buf (Elt Ideal) ℓ) (ρ : Dev nD → PrngReg)

/-! ### The constant operand -/

/-- The buffer of the pixels' monomials is the program's table of constants. -/
theorem V_pix (c : Dev nD) : V m c main_cst = fun i => FloatOps.ofBits (F := Ideal) .f32 (lit0 (S24x256.rowMajor i)) := by
  obtain rfl : c = 0 := Subsingleton.elim _ _; rfl

/-- Every index's block of the pixels' monomials is the whole array. -/
theorem iblk4 (hO : Ok m) (c : Dev nD) (t : Fin (cfgM m hO).N) : iblk m hO c 4 t = V m c main_cst := by
  funext z
  blk_simp [iblk]
  refine congrArg (V m c main_cst) ?_
  funext a
  apply Fin.ext
  blk_simp
  rw [show ((cfgM m hO).win 4).index t a = 0 by match a with | ⟨0, _⟩ => rfl | ⟨1, _⟩ => rfl]
  omega

/-- The last six rows of the pixels' monomials are zero. -/
theorem pixOk (hO : Ok m) (c : Dev nD) (t : Fin (cfgM m hO).N) (j : Fin 24) (p : Fin 256) (hj : 18 ≤ j.val) :
    (iblk m hO c 4 t : FVec Ideal S24x256 .f32) (ix2 j p) = (0 : EReal) := by
  rw [iblk4, V_pix]
  show Ideal.ofBits .f32 (lit0 (S24x256.rowMajor (ix2 j p))) = 0
  rw [show S24x256.rowMajor (ix2 j p) = (⟨256 * ((j.val - 18) + 18) + p.val, by omega⟩ : Fin 6144) from
    Fin.ext (by rw [Shape.rowMajor_val_two]; show j.val * 256 + p.val = 256 * ((j.val - 18) + 18) + p.val; omega)]
  rw [lit_zero ⟨j.val - 18, by omega⟩ p]
  exact Ideal.ofBits_zero_f32

/-! ### The proof data -/

/-- The first grid point. -/
abbrev pt0 (hO : Ok m) : Fin (cfgM m hO).N := ⟨0, by rw [show (cfgM m hO).N = 375 from N_0]; omega⟩

/-- The feature scales and the decoder, as the first grid point leaves them in the scratch. -/
def fscM (hO : Ok m) (c : Dev nD) : FVec Ideal S64x128 .f32 := fscOf (F := Ideal) (iblk m hO c 5 (pt0 m hO))
def augM (hO : Ok m) (c : Dev nD) : FVec Ideal S256x384 .bf16 := augV (iblk m hO c 6 (pt0 m hO)) (iblk m hO c 7 (pt0 m hO)) (iblk m hO c 8 (pt0 m hO))

/-- The operands at point `t`, over any results and scratch. -/
def ctsOf (hO : Ok m) (c : Dev nD) (t : Fin (cfgM m hO).N) : Cts Ideal :=
  mkCts (F := Ideal) (tbl m 0) (iblk m hO c 0 t) (iblk m hO c 1 t) (iblk m hO c 2 t) (iblk m hO c 3 t) (iblk m hO c 4 t) (iblk m hO c 5 t) (iblk m hO c 6 t) (iblk m hO c 7 t) (iblk m hO c 8 t) (fun _ => (0 : EReal)) (fun _ => (0 : EReal)) (fun _ => (0 : EReal)) (fun _ => (0 : EReal)) (fun _ => (0 : EReal)) (fun _ => (0 : EReal)) (fun _ => (0 : EReal)) (fun _ => (0 : EReal)) (fun _ => (0 : EReal))

/-- The feature map of tile `b` of the block at point `t`. -/
def featM (hO : Ok m) (c : Dev nD) (t : Fin (cfgM m hO).N) (b : Fin 8) : FVec Ideal S64x256 .f32 :=
  featV (grid0.coords t) (ctsOf m hO c t) (fscM m hO c) b

/-- What point `t` leaves in the three results' buffers. -/
def yM (hO : Ok m) (c : Dev nD) (t : Fin (cfgM m hO).N) : FVec Ideal S8x256x384 .bf16 := fun z =>
  yOf (featM m hO c t ⟨(z 0).val, (z 0).isLt⟩) (augM m hO c) (ix2 ⟨(z 1).val, (z 1).isLt⟩ ⟨(z 2).val, (z 2).isLt⟩)
def codesM (hO : Ok m) (c : Dev nD) (t : Fin (cfgM m hO).N) : FVec Ideal S8x64x256 .fp8e4m3 := fun z =>
  fCode (featM m hO c t ⟨(z 0).val, (z 0).isLt⟩) (ix2 ⟨(z 1).val, (z 1).isLt⟩ ⟨(z 2).val, (z 2).isLt⟩)
def scalesM (hO : Ok m) (c : Dev nD) (t : Fin (cfgM m hO).N) : FVec Ideal S8x256 .f32 := fun z =>
  scaleOf (amaxOf (featM m hO c t ⟨(z 0).val, (z 0).isLt⟩)) (ix2 0 ⟨(z 1).val, (z 1).isLt⟩)

/-- Between points: the scratch at any contents before the first, and after it the two kept buffers as the first point
    leaves them. -/
def PhiV (hO : Ok m) (c : Dev nD) (n : Nat) : sProp 𝕄 :=
  if n = 0 then iprop(Pipeline.ΦA spec0 c ∗ Pipeline.ΦT pre0 (tbl m) c)
  else iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)
    ∗ owns (c : Thread nD τ) (Memref.whole cc0_scratch4) fullShare (fscM m hO c) ∗ owns (c : Thread nD τ) (Memref.whole cc0_scratch5) fullShare (augM m hO c)) ∗ (∃ r, prngReg c r)) ∗ Pipeline.ΦT pre0 (tbl m) c)

theorem PhiV_zero (hO : Ok m) (c : Dev nD) (n : Nat) (h : n = 0) : PhiV m hO c n = iprop(Pipeline.ΦA spec0 c ∗ Pipeline.ΦT pre0 (tbl m) c) := if_pos h
theorem PhiV_pos (hO : Ok m) (c : Dev nD) (n : Nat) (h : n ≠ 0) : PhiV m hO c n = iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)
    ∗ owns (c : Thread nD τ) (Memref.whole cc0_scratch4) fullShare (fscM m hO c) ∗ owns (c : Thread nD τ) (Memref.whole cc0_scratch5) fullShare (augM m hO c)) ∗ (∃ r, prngReg c r)) ∗ Pipeline.ΦT pre0 (tbl m) c) := if_neg h

/-- The proof data with the results named. -/
def datsV (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => yM m hO c t
    | ⟨10, _⟩ => codesM m hO c t
    | ⟨11, _⟩ => scalesM m hO c t
  Φ t := PhiV m hO c t.val
  q _ := fullShare
  owed _ := 0

theorem AV_eq (hO : Ok m) (c : Dev nD) (w : Fin (cfgM m hO).W) : (datsV m hO 0 c).A w = V m c (Pipeline.arrRef spec0 w) := by
  dsimp only [datsV]

theorem afterV_0 (hO : Ok m) (c : Dev nD) (t : Fin (cfgM m hO).N) : (datsV m hO 0 c).after 0 t = iblk m hO c 0 t := by dsimp only [datsV]; try rfl
theorem afterV_1 (hO : Ok m) (c : Dev nD) (t : Fin (cfgM m hO).N) : (datsV m hO 0 c).after 1 t = iblk m hO c 1 t := by dsimp only [datsV]; try rfl
theorem afterV_2 (hO : Ok m) (c : Dev nD) (t : Fin (cfgM m hO).N) : (datsV m hO 0 c).after 2 t = iblk m hO c 2 t := by dsimp only [datsV]; try rfl
theorem afterV_3 (hO : Ok m) (c : Dev nD) (t : Fin (cfgM m hO).N) : (datsV m hO 0 c).after 3 t = iblk m hO c 3 t := by dsimp only [datsV]; try rfl
theorem afterV_4 (hO : Ok m) (c : Dev nD) (t : Fin (cfgM m hO).N) : (datsV m hO 0 c).after 4 t = iblk m hO c 4 t := by dsimp only [datsV]; try rfl
theorem afterV_5 (hO : Ok m) (c : Dev nD) (t : Fin (cfgM m hO).N) : (datsV m hO 0 c).after 5 t = iblk m hO c 5 t := by dsimp only [datsV]; try rfl
theorem afterV_6 (hO : Ok m) (c : Dev nD) (t : Fin (cfgM m hO).N) : (datsV m hO 0 c).after 6 t = iblk m hO c 6 t := by dsimp only [datsV]; try rfl
theorem afterV_7 (hO : Ok m) (c : Dev nD) (t : Fin (cfgM m hO).N) : (datsV m hO 0 c).after 7 t = iblk m hO c 7 t := by dsimp only [datsV]; try rfl
theorem afterV_8 (hO : Ok m) (c : Dev nD) (t : Fin (cfgM m hO).N) : (datsV m hO 0 c).after 8 t = iblk m hO c 8 t := by dsimp only [datsV]; try rfl
theorem afterV_9 (hO : Ok m) (c : Dev nD) (t : Fin (cfgM m hO).N) : (datsV m hO 0 c).after 9 t = yM m hO c t := by dsimp only [datsV]; try rfl
theorem afterV_10 (hO : Ok m) (c : Dev nD) (t : Fin (cfgM m hO).N) : (datsV m hO 0 c).after 10 t = codesM m hO c t := by dsimp only [datsV]; try rfl
theorem afterV_11 (hO : Ok m) (c : Dev nD) (t : Fin (cfgM m hO).N) : (datsV m hO 0 c).after 11 t = scalesM m hO c t := by dsimp only [datsV]; try rfl
theorem beforeV_0 (hO : Ok m) (c : Dev nD) (t : Fin (cfgM m hO).N) (d) : (datsV m hO 0 c).before 0 t d = iblk m hO c 0 t :=
  before0_0_of m hO (datsV m hO 0 c) (AV_eq m hO c 0) (afterV_0 m hO c) t d
theorem beforeV_1 (hO : Ok m) (c : Dev nD) (t : Fin (cfgM m hO).N) (d) : (datsV m hO 0 c).before 1 t d = iblk m hO c 1 t :=
  before0_1_of m hO (datsV m hO 0 c) (AV_eq m hO c 1) (afterV_1 m hO c) t d
theorem beforeV_2 (hO : Ok m) (c : Dev nD) (t : Fin (cfgM m hO).N) (d) : (datsV m hO 0 c).before 2 t d = iblk m hO c 2 t :=
  before0_2_of m hO (datsV m hO 0 c) (AV_eq m hO c 2) (afterV_2 m hO c) t d
theorem beforeV_3 (hO : Ok m) (c : Dev nD) (t : Fin (cfgM m hO).N) (d) : (datsV m hO 0 c).before 3 t d = iblk m hO c 3 t :=
  before0_3_of m hO (datsV m hO 0 c) (AV_eq m hO c 3) (afterV_3 m hO c) t d
theorem beforeV_4 (hO : Ok m) (c : Dev nD) (t : Fin (cfgM m hO).N) (d) : (datsV m hO 0 c).before 4 t d = iblk m hO c 4 t :=
  before0_4_of m hO (datsV m hO 0 c) (AV_eq m hO c 4) (afterV_4 m hO c) t d
theorem beforeV_5 (hO : Ok m) (c : Dev nD) (t : Fin (cfgM m hO).N) (d) : (datsV m hO 0 c).before 5 t d = iblk m hO c 5 t :=
  before0_5_of m hO (datsV m hO 0 c) (AV_eq m hO c 5) (afterV_5 m hO c) t d
theorem beforeV_6 (hO : Ok m) (c : Dev nD) (t : Fin (cfgM m hO).N) (d) : (datsV m hO 0 c).before 6 t d = iblk m hO c 6 t :=
  before0_6_of m hO (datsV m hO 0 c) (AV_eq m hO c 6) (afterV_6 m hO c) t d
theorem beforeV_7 (hO : Ok m) (c : Dev nD) (t : Fin (cfgM m hO).N) (d) : (datsV m hO 0 c).before 7 t d = iblk m hO c 7 t :=
  before0_7_of m hO (datsV m hO 0 c) (AV_eq m hO c 7) (afterV_7 m hO c) t d
theorem beforeV_8 (hO : Ok m) (c : Dev nD) (t : Fin (cfgM m hO).N) (d) : (datsV m hO 0 c).before 8 t d = iblk m hO c 8 t :=
  before0_8_of m hO (datsV m hO 0 c) (AV_eq m hO c 8) (afterV_8 m hO c) t d

/-! ### The body at a point -/

/-- What the body is called with at point `t`, the windows one by one, -/
def bodyPreV (hO : Ok m) (c : Dev nD) (t : Fin (cfgM m hO).N) : sProp 𝕄 :=
  iprop((datsV m hO 0 c).Φ t.castSucc ∗ (datsV m hO 0 c).owesAt () t.castSucc
    ∗ (∃ d, owns (c : Thread nD τ) (argsAt (adm m hO) t).arg2 fullShare ((datsV m hO 0 c).before 0 t d))
    ∗ (∃ d, owns (c : Thread nD τ) (argsAt (adm m hO) t).arg3 fullShare ((datsV m hO 0 c).before 1 t d))
    ∗ (∃ d, owns (c : Thread nD τ) (argsAt (adm m hO) t).arg4 fullShare ((datsV m hO 0 c).before 2 t d))
    ∗ (∃ d, owns (c : Thread nD τ) (argsAt (adm m hO) t).arg5 fullShare ((datsV m hO 0 c).before 3 t d))
    ∗ (∃ d, owns (c : Thread nD τ) (argsAt (adm m hO) t).arg6 fullShare ((datsV m hO 0 c).before 4 t d))
    ∗ (∃ d, owns (c : Thread nD τ) (argsAt (adm m hO) t).arg7 fullShare ((datsV m hO 0 c).before 5 t d))
    ∗ (∃ d, owns (c : Thread nD τ) (argsAt (adm m hO) t).arg8 fullShare ((datsV m hO 0 c).before 6 t d))
    ∗ (∃ d, owns (c : Thread nD τ) (argsAt (adm m hO) t).arg9 fullShare ((datsV m hO 0 c).before 7 t d))
    ∗ (∃ d, owns (c : Thread nD τ) (argsAt (adm m hO) t).arg10 fullShare ((datsV m hO 0 c).before 8 t d))
    ∗ (∃ d, owns (c : Thread nD τ) (argsAt (adm m hO) t).arg11 fullShare ((datsV m hO 0 c).before 9 t d))
    ∗ (∃ d, owns (c : Thread nD τ) (argsAt (adm m hO) t).arg12 fullShare ((datsV m hO 0 c).before 10 t d))
    ∗ (∃ d, owns (c : Thread nD τ) (argsAt (adm m hO) t).arg13 fullShare ((datsV m hO 0 c).before 11 t d)))

/-- and what it returns. -/
def bodyPostV (hO : Ok m) (c : Dev nD) (t : Fin (cfgM m hO).N) : sProp 𝕄 :=
  iprop((datsV m hO 0 c).Φ t.succ ∗ (datsV m hO 0 c).owesAt () t.succ
    ∗ owns (c : Thread nD τ) (argsAt (adm m hO) t).arg2 fullShare ((datsV m hO 0 c).after 0 t)
    ∗ owns (c : Thread nD τ) (argsAt (adm m hO) t).arg3 fullShare ((datsV m hO 0 c).after 1 t)
    ∗ owns (c : Thread nD τ) (argsAt (adm m hO) t).arg4 fullShare ((datsV m hO 0 c).after 2 t)
    ∗ owns (c : Thread nD τ) (argsAt (adm m hO) t).arg5 fullShare ((datsV m hO 0 c).after 3 t)
    ∗ owns (c : Thread nD τ) (argsAt (adm m hO) t).arg6 fullShare ((datsV m hO 0 c).after 4 t)
    ∗ owns (c : Thread nD τ) (argsAt (adm m hO) t).arg7 fullShare ((datsV m hO 0 c).after 5 t)
    ∗ owns (c : Thread nD τ) (argsAt (adm m hO) t).arg8 fullShare ((datsV m hO 0 c).after 6 t)
    ∗ owns (c : Thread nD τ) (argsAt (adm m hO) t).arg9 fullShare ((datsV m hO 0 c).after 7 t)
    ∗ owns (c : Thread nD τ) (argsAt (adm m hO) t).arg10 fullShare ((datsV m hO 0 c).after 8 t)
    ∗ owns (c : Thread nD τ) (argsAt (adm m hO) t).arg11 fullShare ((datsV m hO 0 c).after 9 t)
    ∗ owns (c : Thread nD τ) (argsAt (adm m hO) t).arg12 fullShare ((datsV m hO 0 c).after 10 t)
    ∗ owns (c : Thread nD τ) (argsAt (adm m hO) t).arg13 fullShare ((datsV m hO 0 c).after 11 t))

/-- What the results' and the kept scratch's memrefs hold, of a run of the body. -/
structure LeftM (hO : Ok m) (c : Dev nD) (t : Fin (cfgM m hO).N) (s s' : Cts Ideal) : Prop where
  keep : Keep s s'
  y : s' .m11 = yM m hO c t
  codes : s' .m12 = codesM m hO c t
  scales : s' .m13 = scalesM m hO c t
  fsc : s' .m18 = fscM m hO c
  aug : s' .m19 = augM m hO c

/-- The first grid point is the one with number 0. -/
theorem first_iff (t : Fin grid0.N) : isFirst (grid0.coords t) ↔ t.val = 0 := by
  have e0 : (grid0.coords t 0).val = t.val / 1 % 375 := Pipeline.Grid.coords_val t 0 (by decide) rfl
  have hN : t.val < 375 := lt_of_lt_of_eq t.isLt N_0
  have e1 : (grid0.coords t 0).val = t.val := by omega
  unfold isFirst
  rw [e1]
  word_cmp

theorem featV_eq (hO : Ok m) (c : Dev nD) (t : Fin (cfgM m hO).N) x11 x12 x13 x14 x15 x16 x17 x18 x19 (b : Fin 8) :
    featV (grid0.coords t) (mkCts (F := Ideal) (tbl m 0) (iblk m hO c 0 t) (iblk m hO c 1 t) (iblk m hO c 2 t) (iblk m hO c 3 t) (iblk m hO c 4 t) (iblk m hO c 5 t) (iblk m hO c 6 t) (iblk m hO c 7 t) (iblk m hO c 8 t) x11 x12 x13 x14 x15 x16 x17 x18 x19) (fscM m hO c) b = featM m hO c t b :=
  featV_congr _ b fun j hj => by cases j <;> first | rfl | cases hj

theorem leftM (hO : Ok m) (c : Dev nD) (t : Fin (cfgM m hO).N) (s s' : Cts Ideal) (fsc : FVec Ideal S64x128 .f32) (aug : FVec Ideal S256x384 .bf16)
    (ef : ∀ b, featV (grid0.coords t) s (fscM m hO c) b = featM m hO c t b) (h18 : fsc = fscM m hO c) (h19 : aug = augM m hO c)
    (L : Left (grid0.coords t) fsc aug s s') : LeftM m hO c t s s' := by
  subst h18
  subst h19
  refine ⟨L.keep, L.y.trans ?_, L.codes.trans ?_, L.scales.trans ?_, L.fsc, L.aug⟩
  · simp only [ef]; rfl
  · simp only [ef]; rfl
  · simp only [ef]; rfl

/-- An equation of assertions entails. -/
theorem of_eq {P Q : sProp 𝕄} (h : P = Q) : P ⊢ Q := by rw [h]

/-- The body, whether the point is the first or not. -/
theorem sp_any (A : Args) (c : Dev nD) (s : Cts Ideal) (hp : PixOk s) (fsc : FVec Ideal S64x128 .f32) (aug : FVec Ideal S256x384 .bf16)
    (h1 : isFirst A.i → fscOf (s .m7) = fsc ∧ augV (s .m8) (s .m9) (s .m10) = aug)
    (h2 : ¬ isFirst A.i → s .m18 = fsc ∧ s .m19 = aug) :
    SP A c (splat A) s fun _ s' => Left A.i fsc aug s s' := by
  by_cases h : isFirst A.i
  · obtain ⟨a, b⟩ := h1 h
    subst a b
    exact sp_splat_first h s hp
  · obtain ⟨a, b⟩ := h2 h
    subst a b
    exact sp_splat_next h s hp

/-- The channel scales of the first grid point's block are those that every grid point finds in the buffer. -/
theorem fscM_first (hO : Ok m) (c : Dev nD) (t : Fin (cfgM m hO).N) (hz : t.val = 0) : fscOf (F := Ideal) (iblk m hO c 5 t) = fscM m hO c := by
  obtain rfl : t = pt0 m hO := Fin.ext hz
  exact rfl

/-- The augmented decoder of the first grid point's blocks is the one that every grid point finds in the buffer. -/
theorem augM_first (hO : Ok m) (c : Dev nD) (t : Fin (cfgM m hO).N) (hz : t.val = 0) :
    augV (iblk m hO c 6 t) (iblk m hO c 7 t) (iblk m hO c 8 t) = augM m hO c := by
  obtain rfl : t = pt0 m hO := Fin.ext hz
  exact rfl

/-- The body at any point, from the operands' blocks and, after the first point, the kept scratch. -/
theorem sp_at (hO : Ok m) (c : Dev nD) (t : Fin (cfgM m hO).N) x11 x12 x13 x14 x15 x16 x17 x18 x19
    (h18 : t.val ≠ 0 → x18 = fscM m hO c) (h19 : t.val ≠ 0 → x19 = augM m hO c) :
    SP (argsAt (adm m hO) t) c (splat (argsAt (adm m hO) t)) (mkCts (F := Ideal) (tbl m 0) (iblk m hO c 0 t) (iblk m hO c 1 t) (iblk m hO c 2 t) (iblk m hO c 3 t) (iblk m hO c 4 t) (iblk m hO c 5 t) (iblk m hO c 6 t) (iblk m hO c 7 t) (iblk m hO c 8 t) x11 x12 x13 x14 x15 x16 x17 x18 x19)
      fun _ s' => LeftM m hO c t (mkCts (F := Ideal) (tbl m 0) (iblk m hO c 0 t) (iblk m hO c 1 t) (iblk m hO c 2 t) (iblk m hO c 3 t) (iblk m hO c 4 t) (iblk m hO c 5 t) (iblk m hO c 6 t) (iblk m hO c 7 t) (iblk m hO c 8 t) x11 x12 x13 x14 x15 x16 x17 x18 x19) s' := by
  have hp : PixOk (mkCts (F := Ideal) (tbl m 0) (iblk m hO c 0 t) (iblk m hO c 1 t) (iblk m hO c 2 t) (iblk m hO c 3 t) (iblk m hO c 4 t) (iblk m hO c 5 t) (iblk m hO c 6 t) (iblk m hO c 7 t) (iblk m hO c 8 t) x11 x12 x13 x14 x15 x16 x17 x18 x19) := pixOk m hO c t
  refine (sp_any (argsAt (adm m hO) t) c _ hp (fscM m hO c) (augM m hO c)
    (fun h => ⟨fscM_first m hO c t ((first_iff t).mp h), augM_first m hO c t ((first_iff t).mp h)⟩)
    (fun h => ⟨h18 fun hz => h ((first_iff t).mpr hz), h19 fun hz => h ((first_iff t).mpr hz)⟩)).mono ?_
  intro _ s' L
  exact leftM m hO c t _ s' _ _ (fun b => featV_eq m hO c t x11 x12 x13 x14 x15 x16 x17 x18 x19 b) rfl rfl L

/-- A body that leaves the operands as they were and the results and the kept scratch at named contents, its memrefs one
    by one. -/
theorem wp_left (A : Args) (c : Dev nD) (s : Cts Ideal) (y : FVec Ideal S8x256x384 .bf16) (co : FVec Ideal S8x64x256 .fp8e4m3)
    (sc : FVec Ideal S8x256 .f32) (fsc : FVec Ideal S64x128 .f32) (aug : FVec Ideal S256x384 .bf16)
    (h : SP A c (splat A) s fun _ s' => Keep s s' ∧ s' .m11 = y ∧ s' .m12 = co ∧ s' .m13 = sc ∧ s' .m18 = fsc ∧ s' .m19 = aug) (Q : sProp 𝕄) :
    iprop((owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare (s .m11) ∗ owns (c : Thread nD τ) A.arg12 fullShare (s .m12) ∗ owns (c : Thread nD τ) A.arg13 fullShare (s .m13) ∗ owns (c : Thread nD τ) A.arg14 fullShare (s .m14) ∗ owns (c : Thread nD τ) A.arg15 fullShare (s .m15) ∗ owns (c : Thread nD τ) A.arg16 fullShare (s .m16) ∗ owns (c : Thread nD τ) A.arg17 fullShare (s .m17) ∗ owns (c : Thread nD τ) A.arg18 fullShare (s .m18) ∗ owns (c : Thread nD τ) A.arg19 fullShare (s .m19))
      ∗ (∀ x14 x15 x16 x17, (owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare y ∗ owns (c : Thread nD τ) A.arg12 fullShare co ∗ owns (c : Thread nD τ) A.arg13 fullShare sc ∗ owns (c : Thread nD τ) A.arg14 fullShare x14 ∗ owns (c : Thread nD τ) A.arg15 fullShare x15 ∗ owns (c : Thread nD τ) A.arg16 fullShare x16 ∗ owns (c : Thread nD τ) A.arg17 fullShare x17 ∗ owns (c : Thread nD τ) A.arg18 fullShare fsc ∗ owns (c : Thread nD τ) A.arg19 fullShare aug) -∗ Q))
      ⊢ wp frame (wpE (defs₀ (F := Ideal)) Variants.none c none) Set.univ (splat A) (fun _ => Q) := by
  rw [← held_eq]
  iintro ⟨H, K⟩
  iapply (Spec.wp h (fun _ => Q))
  isplitl [H]; · iexact H
  iintro %a %s' %L H
  have e : HeldAt A c s' ⊢ iprop(owns (c : Thread nD τ) A.arg1 fullShare.right (s .m1) ∗ owns (c : Thread nD τ) A.arg2 fullShare (s .m2) ∗ owns (c : Thread nD τ) A.arg3 fullShare (s .m3) ∗ owns (c : Thread nD τ) A.arg4 fullShare (s .m4) ∗ owns (c : Thread nD τ) A.arg5 fullShare (s .m5) ∗ owns (c : Thread nD τ) A.arg6 fullShare (s .m6) ∗ owns (c : Thread nD τ) A.arg7 fullShare (s .m7) ∗ owns (c : Thread nD τ) A.arg8 fullShare (s .m8) ∗ owns (c : Thread nD τ) A.arg9 fullShare (s .m9) ∗ owns (c : Thread nD τ) A.arg10 fullShare (s .m10) ∗ owns (c : Thread nD τ) A.arg11 fullShare y ∗ owns (c : Thread nD τ) A.arg12 fullShare co ∗ owns (c : Thread nD τ) A.arg13 fullShare sc ∗ owns (c : Thread nD τ) A.arg14 fullShare (s' .m14) ∗ owns (c : Thread nD τ) A.arg15 fullShare (s' .m15) ∗ owns (c : Thread nD τ) A.arg16 fullShare (s' .m16) ∗ owns (c : Thread nD τ) A.arg17 fullShare (s' .m17) ∗ owns (c : Thread nD τ) A.arg18 fullShare fsc ∗ owns (c : Thread nD τ) A.arg19 fullShare aug) := by
    refine Idealize.SL.BI.Entails.trans (held_keep A c s s' L.1) ?_
    rw [L.2.1, L.2.2.1, L.2.2.2.1, L.2.2.2.2.1, L.2.2.2.2.2]
    exact of_eq rfl
  iapply K $$ %(s' .m14) %(s' .m15) %(s' .m16) %(s' .m17)
  iapply e
  iexact H

/-- The body at point `t`, one by one: the operands come back as they were, the results and the kept scratch as named. -/
theorem wp_at (hO : Ok m) (c : Dev nD) (t : Fin (cfgM m hO).N) x11 x12 x13 x14 x15 x16 x17 x18 x19
    (h18 : t.val ≠ 0 → x18 = fscM m hO c) (h19 : t.val ≠ 0 → x19 = augM m hO c) (Q : sProp 𝕄) :
    iprop((owns (c : Thread nD τ) (argsAt (adm m hO) t).arg1 fullShare.right (tbl m 0) ∗ owns (c : Thread nD τ) (argsAt (adm m hO) t).arg2 fullShare (iblk m hO c 0 t) ∗ owns (c : Thread nD τ) (argsAt (adm m hO) t).arg3 fullShare (iblk m hO c 1 t) ∗ owns (c : Thread nD τ) (argsAt (adm m hO) t).arg4 fullShare (iblk m hO c 2 t) ∗ owns (c : Thread nD τ) (argsAt (adm m hO) t).arg5 fullShare (iblk m hO c 3 t) ∗ owns (c : Thread nD τ) (argsAt (adm m hO) t).arg6 fullShare (iblk m hO c 4 t) ∗ owns (c : Thread nD τ) (argsAt (adm m hO) t).arg7 fullShare (iblk m hO c 5 t) ∗ owns (c : Thread nD τ) (argsAt (adm m hO) t).arg8 fullShare (iblk m hO c 6 t) ∗ owns (c : Thread nD τ) (argsAt (adm m hO) t).arg9 fullShare (iblk m hO c 7 t) ∗ owns (c : Thread nD τ) (argsAt (adm m hO) t).arg10 fullShare (iblk m hO c 8 t) ∗ owns (c : Thread nD τ) (argsAt (adm m hO) t).arg11 fullShare x11 ∗ owns (c : Thread nD τ) (argsAt (adm m hO) t).arg12 fullShare x12 ∗ owns (c : Thread nD τ) (argsAt (adm m hO) t).arg13 fullShare x13 ∗ owns (c : Thread nD τ) (argsAt (adm m hO) t).arg14 fullShare x14 ∗ owns (c : Thread nD τ) (argsAt (adm m hO) t).arg15 fullShare x15 ∗ owns (c : Thread nD τ) (argsAt (adm m hO) t).arg16 fullShare x16 ∗ owns (c : Thread nD τ) (argsAt (adm m hO) t).arg17 fullShare x17 ∗ owns (c : Thread nD τ) (argsAt (adm m hO) t).arg18 fullShare x18 ∗ owns (c : Thread nD τ) (argsAt (adm m hO) t).arg19 fullShare x19)
      ∗ (∀ x14 x15 x16 x17, (owns (c : Thread nD τ) (argsAt (adm m hO) t).arg1 fullShare.right (tbl m 0) ∗ owns (c : Thread nD τ) (argsAt (adm m hO) t).arg2 fullShare (iblk m hO c 0 t) ∗ owns (c : Thread nD τ) (argsAt (adm m hO) t).arg3 fullShare (iblk m hO c 1 t) ∗ owns (c : Thread nD τ) (argsAt (adm m hO) t).arg4 fullShare (iblk m hO c 2 t) ∗ owns (c : Thread nD τ) (argsAt (adm m hO) t).arg5 fullShare (iblk m hO c 3 t) ∗ owns (c : Thread nD τ) (argsAt (adm m hO) t).arg6 fullShare (iblk m hO c 4 t) ∗ owns (c : Thread nD τ) (argsAt (adm m hO) t).arg7 fullShare (iblk m hO c 5 t) ∗ owns (c : Thread nD τ) (argsAt (adm m hO) t).arg8 fullShare (iblk m hO c 6 t) ∗ owns (c : Thread nD τ) (argsAt (adm m hO) t).arg9 fullShare (iblk m hO c 7 t) ∗ owns (c : Thread nD τ) (argsAt (adm m hO) t).arg10 fullShare (iblk m hO c 8 t) ∗ owns (c : Thread nD τ) (argsAt (adm m hO) t).arg11 fullShare (yM m hO c t) ∗ owns (c : Thread nD τ) (argsAt (adm m hO) t).arg12 fullShare (codesM m hO c t) ∗ owns (c : Thread nD τ) (argsAt (adm m hO) t).arg13 fullShare (scalesM m hO c t) ∗ owns (c : Thread nD τ) (argsAt (adm m hO) t).arg14 fullShare x14 ∗ owns (c : Thread nD τ) (argsAt (adm m hO) t).arg15 fullShare x15 ∗ owns (c : Thread nD τ) (argsAt (adm m hO) t).arg16 fullShare x16 ∗ owns (c : Thread nD τ) (argsAt (adm m hO) t).arg17 fullShare x17 ∗ owns (c : Thread nD τ) (argsAt (adm m hO) t).arg18 fullShare (fscM m hO c) ∗ owns (c : Thread nD τ) (argsAt (adm m hO) t).arg19 fullShare (augM m hO c)) -∗ Q))
      ⊢ wp frame (wpE (defs₀ (F := Ideal)) Variants.none c none) Set.univ (splat (argsAt (adm m hO) t)) (fun _ => Q) :=
  wp_left (argsAt (adm m hO) t) c _ _ _ _ _ _
    ((sp_at m hO c t x11 x12 x13 x14 x15 x16 x17 x18 x19 h18 h19).mono fun _ _ L => ⟨L.keep, L.y, L.codes, L.scales, L.fsc, L.aug⟩) Q

set_option maxHeartbeats 1600000 in
theorem sound_bodyV (hO : Ok m) (c : Dev nD) (t : Fin (cfgM m hO).N) :
    bodyPreV m hO c t ⊢ wp frame (wpE (defs₀ (F := Ideal)) Variants.none c none) Set.univ (bodyAt0 (adm m hO) t) (fun _ => bodyPostV m hO c t) := by
  rw [bodyAt0_eq]
  unfold bodyPreV bodyPostV
  simp only [beforeV_0, beforeV_1, beforeV_2, beforeV_3, beforeV_4, beforeV_5, beforeV_6, beforeV_7, beforeV_8]
  rw [show (datsV m hO 0 c).owesAt () t.succ = (datsV m hO 0 c).owesAt () t.castSucc from rfl,
    afterV_0, afterV_1, afterV_2, afterV_3, afterV_4, afterV_5, afterV_6, afterV_7, afterV_8, afterV_9, afterV_10, afterV_11]
  rw [show (datsV m hO 0 c).Φ t.succ = PhiV m hO c (t.val + 1) from rfl, PhiV_pos m hO c _ (Nat.succ_ne_zero _),
    show (datsV m hO 0 c).Φ t.castSucc = PhiV m hO c t.val from rfl]
  by_cases hz : t.val = 0
  · rw [PhiV_zero m hO c _ hz, PhiA0_eq, PhiT0_owns]
    iintro ⟨⟨⟨⟨⟨%x14, S0⟩, ⟨%x15, S1⟩, ⟨%x16, S2⟩, ⟨%x17, S3⟩, ⟨%x18, S4⟩, ⟨%x19, S5⟩⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%x11, H9⟩, ⟨%x12, H10⟩, ⟨%x13, H11⟩⟩
    iapply (wp_at m hO c t ((datsV m hO 0 c).before 9 t x11) ((datsV m hO 0 c).before 10 t x12) ((datsV m hO 0 c).before 11 t x13) x14 x15 x16 x17 x18 x19 (fun h => absurd hz h) (fun h => absurd hz h) _)
    isplitl [HT H0 H1 H2 H3 H4 H5 H6 H7 H8 H9 H10 H11 S0 S1 S2 S3 S4 S5]
    · isplitl [HT]; · iexact HT
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      iexact S5
    iintro %y14 %y15 %y16 %y17 Hall
    icases Hall with ⟨HT, H0, H1, H2, H3, H4, H5, H6, H7, H8, H9, H10, H11, S0, S1, S2, S3, S4, S5⟩
    isplitl [HT S0 S1 S2 S3 S4 S5 Hg]
    · isplitl [S0 S1 S2 S3 S4 S5 Hg]
      · isplitl [S0 S1 S2 S3 S4 S5]
        · isplitl [S0]; · iexists _; iexact S0
          isplitl [S1]; · iexists _; iexact S1
          isplitl [S2]; · iexists _; iexact S2
          isplitl [S3]; · iexists _; iexact S3
          isplitl [S4]; · iexact S4
          iexact S5
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiV_pos m hO c _ hz, PhiT0_owns]
    iintro ⟨⟨⟨⟨⟨%x14, S0⟩, ⟨%x15, S1⟩, ⟨%x16, S2⟩, ⟨%x17, S3⟩, S4, S5⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%x11, H9⟩, ⟨%x12, H10⟩, ⟨%x13, H11⟩⟩
    iapply (wp_at m hO c t ((datsV m hO 0 c).before 9 t x11) ((datsV m hO 0 c).before 10 t x12) ((datsV m hO 0 c).before 11 t x13) x14 x15 x16 x17 (fscM m hO c) (augM m hO c) (fun _ => rfl) (fun _ => rfl) _)
    isplitl [HT H0 H1 H2 H3 H4 H5 H6 H7 H8 H9 H10 H11 S0 S1 S2 S3 S4 S5]
    · isplitl [HT]; · iexact HT
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      iexact S5
    iintro %y14 %y15 %y16 %y17 Hall
    icases Hall with ⟨HT, H0, H1, H2, H3, H4, H5, H6, H7, H8, H9, H10, H11, S0, S1, S2, S3, S4, S5⟩
    isplitl [HT S0 S1 S2 S3 S4 S5 Hg]
    · isplitl [S0 S1 S2 S3 S4 S5 Hg]
      · isplitl [S0 S1 S2 S3 S4 S5]
        · isplitl [S0]; · iexists _; iexact S0
          isplitl [S1]; · iexists _; iexact S1
          isplitl [S2]; · iexists _; iexact S2
          isplitl [S3]; · iexists _; iexact S3
          isplitl [S4]; · iexact S4
          iexact S5
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligationV (hO : Ok m) (c : Dev nD) : BodyObligation (datsV m hO 0 c) (defs₀ (F := Ideal)) Variants.none () Set.univ := fun t => by
  rw [bigSep_W0, bigSep_W0, defs₀_row m hO]
  exact triple_restated (sound_bodyV m hO c t) rfl .rfl fun _ => .rfl

theorem hinV (hO : Ok m) (c : Dev nD) : iprop(Pipeline.ΦA spec0 c ∗ Pipeline.ΦT pre0 (tbl m) c) ⊢ (datsV m hO 0 c).Φ 0 := by
  rw [show (datsV m hO 0 c).Φ 0 = PhiV m hO c 0 from rfl, PhiV_zero m hO c 0 rfl]

theorem houtV (hO : Ok m) (c : Dev nD) : (datsV m hO 0 c).Φ (Fin.last (cfgM m hO).N) ⊢ Pipeline.ΦA spec0 c := by
  rw [show (datsV m hO 0 c).Φ (Fin.last (cfgM m hO).N) = PhiV m hO c (cfgM m hO).N from rfl,
    PhiV_pos m hO c _ (by rw [show (cfgM m hO).N = 375 from N_0]; omega), PhiA0_eq]
  iintro ⟨⟨⟨S0, S1, S2, S3, S4, S5⟩, Hg⟩, -⟩
  isplitl [S0 S1 S2 S3 S4 S5]
  · isplitl [S0]; · iexact S0
    isplitl [S1]; · iexact S1
    isplitl [S2]; · iexact S2
    isplitl [S3]; · iexact S3
    isplitl [S4]; · iexists _; iexact S4
    iexists _; iexact S5
  iexact Hg

set_option backward.isDefEq.respectTransparency.types false in
/-- The launch, with the results named. -/
theorem run_mainV (hO : Ok m) : θ_run defs (onTc (τ := τ) (main (F := Ideal))) (s₀ m ρ)
    (fun r => (Pipeline.FramePost (Pipeline.pin pcfgs fun _ => adm m hO) (datsV m hO) 0 (V m)) r ∧ r.2.sem = fun _ => 0) :=
  Pipeline.θ_run_frameP_track (Q' := _) pcfgs (fun _ => adm m hO) (datsV m hO) (0 : Fin 1) launch0 defs₀ Variants.none m ρ main
    (hbody := fun c => (body_obligationV m hO c).loose) (hshare := fun c => (datsV m hO 0 c).share_full fun _ => rfl)
    (howed := fun _ _ => rfl) (V := V m) (hmain := hmain m Variants.none) (hA := AV_eq m hO) (hpf := V_pre m)
    (hin := hinV m hO) (hout := houtV m hO)

/-- What a run leaves: the three results' arrays as the library computes them, the arguments unchanged. -/
theorem run_blocks (hO : Ok m) : θ_run defs (onTc (τ := τ) (main (F := Ideal))) ⟨m, fun _ => 0, ρ⟩ (fun r => ∀ c : Dev nD,
      r.2.mem ((c.tc : Thread nD τ).loc main_v7_0) = (datsV m hO 0 c).arrAt 9 (cfgM m hO).N
      ∧ r.2.mem ((c.tc : Thread nD τ).loc main_v7_1) = (datsV m hO 0 c).arrAt 10 (cfgM m hO).N
      ∧ r.2.mem ((c.tc : Thread nD τ).loc main_v7_2) = (datsV m hO 0 c).arrAt 11 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1 c).1 9, (h.1 c).1 10, (h.1 c).1 11,
    ((h.1 c).2 main_arg0 (by decide : main_arg0 ∈ Pipeline.restRefs sig spec0)).trans (V_main_arg0 m c),
    ((h.1 c).2 main_arg1 (by decide : main_arg1 ∈ Pipeline.restRefs sig spec0)).trans (V_main_arg1 m c),
    ((h.1 c).1 2).trans (((datsV m hO 0 c).arrAt_in 2 rfl _).trans ((AV_eq m hO c 2).trans (V_main_arg2 m c))),
    ((h.1 c).2 main_arg3 (by decide : main_arg3 ∈ Pipeline.restRefs sig spec0)).trans (V_main_arg3 m c),
    ((h.1 c).2 main_arg4 (by decide : main_arg4 ∈ Pipeline.restRefs sig spec0)).trans (V_main_arg4 m c),
    ((h.1 c).2 main_arg5 (by decide : main_arg5 ∈ Pipeline.restRefs sig spec0)).trans (V_main_arg5 m c),
    ((h.1 c).2 main_arg6 (by decide : main_arg6 ∈ Pipeline.restRefs sig spec0)).trans (V_main_arg6 m c),
    ((h.1 c).2 main_arg7 (by decide : main_arg7 ∈ Pipeline.restRefs sig spec0)).trans (V_main_arg7 m c),
    ((h.1 c).2 main_arg8 (by decide : main_arg8 ∈ Pipeline.restRefs sig spec0)).trans (V_main_arg8 m c)⟩) (run_mainV m ρ hO)

end Cert.KernelIdeal.Val

end
-- ==== Proof.KernelIdealBlocks.lean ====
/-
The blocks of the kernel's operands and results, read at an index: which elements of the arrays they are.
-/
module

public import proofs.«01_k».proof.Proof.KernelIdealValue
public import Idealize.ShloMosaic.Lib.StableHlo.ReadAt
public import Idealize.ShloMosaic.Lib.Pointwise.Tactic
public import Idealize.ShloMosaic.Lib.Pointwise.Reshape
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Idealize.ShloMosaic.Pipeline (Dat RDat Cfg Window BodyObligation cellOf)
open Cert.KernelIdeal Cert.KernelIdeal.Gen Cert.Loops
open Cert.KernelIdeal.Hand hiding frame run_main dats

variable (m : (ℓ : Loc nD τ sig) → Buf (Elt Ideal) ℓ)

/-- The tile of place `b` in the block at point `t`. -/
def row {hO : Ok m} (t : Fin (cfgM m hO).N) (b : Fin 8) : Fin 3000 :=
  ⟨8 * t.val + b.val, by have h : t.val < 375 := lt_of_lt_of_eq t.isLt N_0; have := b.isLt; omega⟩

/-- The only coordinate of point `t` is `t`. -/
theorem coord (t : Fin grid0.N) : (BitVec.ofNat 32 (grid0.coords t 0).val).toNat = t.val := by
  have h : ∀ t : Fin grid0.N, (BitVec.ofNat 32 (grid0.coords t 0).val).toNat = t.val := by decide +kernel
  exact h t

theorem row_eq {hO : Ok m} (t : Fin (cfgM m hO).N) (b : Fin 8) : (BitVec.ofNat 32 (grid0.coords t 0).val).toNat * 8 + b.val = (row m t b).val := by
  rw [coord]
  show _ = 8 * t.val + b.val
  omega

theorem emb0 (hO : Ok m) (t : Fin (cfgM m hO).N) (i0 : Fin 8) (i1 : Fin 2) (i2 : Fin 128) :
    ((((cfgM m hO).win 0).blk t).view.emb (ix3 i0 i1 i2 : S8x2x128.Idx) : S3000x2x128.Idx) = ix3 (row m t i0) i1 i2 := by
  funext a
  apply Fin.ext
  blk_simp
  exact (match a with | ⟨0, _⟩ => row_eq m t i0 | ⟨1, _⟩ => (congrArg (· + i1.val) (Nat.zero_mul 2)).trans (Nat.zero_add _) | ⟨2, _⟩ => (congrArg (· + i2.val) (Nat.zero_mul 128)).trans (Nat.zero_add _))

/-- Operand 0's block at an index, as an element of the argument. -/
theorem iblk0_at (hO : Ok m) (c : Dev nD) (t : Fin (cfgM m hO).N) (i0 : Fin 8) (i1 : Fin 2) (i2 : Fin 128) :
    (iblk m hO c 0 t : FVec Ideal S8x2x128 .f32) (ix3 i0 i1 i2) = (m ((c : Thread nD τ).loc main_arg0) : FVec Ideal S3000x128x2 .f32) (ix3 (row m t i0) i2 i1) := by
  refine (congrArg (V m c main_v0 : FVec Ideal S3000x2x128 .f32) (emb0 m hO t i0 i1 i2)).trans ?_
  obtain rfl : c = 0 := Subsingleton.elim _ _
  unfold V
  after_reads_at

theorem emb1 (hO : Ok m) (t : Fin (cfgM m hO).N) (i0 : Fin 3) (i1 : Fin 8) (i2 : Fin 128) :
    ((((cfgM m hO).win 1).blk t).view.emb (ix3 i0 i1 i2 : S3x8x128.Idx) : S3x3000x128.Idx) = ix3 i0 (row m t i1) i2 := by
  funext a
  apply Fin.ext
  blk_simp
  exact (match a with | ⟨0, _⟩ => (congrArg (· + i0.val) (Nat.zero_mul 3)).trans (Nat.zero_add _) | ⟨1, _⟩ => row_eq m t i1 | ⟨2, _⟩ => (congrArg (· + i2.val) (Nat.zero_mul 128)).trans (Nat.zero_add _))

/-- Operand 1's block at an index, as an element of the argument. -/
theorem iblk1_at (hO : Ok m) (c : Dev nD) (t : Fin (cfgM m hO).N) (i0 : Fin 3) (i1 : Fin 8) (i2 : Fin 128) :
    (iblk m hO c 1 t : FVec Ideal S3x8x128 .f32) (ix3 i0 i1 i2) = (m ((c : Thread nD τ).loc main_arg1) : FVec Ideal S3000x128x3 .f32) (ix3 (row m t i1) i2 i0) := by
  refine (congrArg (V m c main_v1 : FVec Ideal S3x3000x128 .f32) (emb1 m hO t i0 i1 i2)).trans ?_
  obtain rfl : c = 0 := Subsingleton.elim _ _
  unfold V
  after_reads_at

theorem emb2 (hO : Ok m) (t : Fin (cfgM m hO).N) (i0 : Fin 8) (i1 : Fin 128) :
    ((((cfgM m hO).win 2).blk t).view.emb (ix2 i0 i1 : S8x128.Idx) : S3000x128.Idx) = ix2 (row m t i0) i1 := by
  funext a
  apply Fin.ext
  blk_simp
  exact (match a with | ⟨0, _⟩ => row_eq m t i0 | ⟨1, _⟩ => (congrArg (· + i1.val) (Nat.zero_mul 128)).trans (Nat.zero_add _))

/-- Operand 2's block at an index, as an element of the argument. -/
theorem iblk2_at (hO : Ok m) (c : Dev nD) (t : Fin (cfgM m hO).N) (i0 : Fin 8) (i1 : Fin 128) :
    (iblk m hO c 2 t : FVec Ideal S8x128 .f32) (ix2 i0 i1) = (m ((c : Thread nD τ).loc main_arg2) : FVec Ideal S3000x128 .f32) (ix2 (row m t i0) i1) := by
  refine (congrArg (V m c main_arg2 : FVec Ideal S3000x128 .f32) (emb2 m hO t i0 i1)).trans ?_
  obtain rfl : c = 0 := Subsingleton.elim _ _
  unfold V
  after_reads_at

theorem emb3 (hO : Ok m) (t : Fin (cfgM m hO).N) (i0 : Fin 8) (i1 : Fin 64) (i2 : Fin 128) :
    ((((cfgM m hO).win 3).blk t).view.emb (ix3 i0 i1 i2 : S8x64x128.Idx) : S3000x64x128.Idx) = ix3 (row m t i0) i1 i2 := by
  funext a
  apply Fin.ext
  blk_simp
  exact (match a with | ⟨0, _⟩ => row_eq m t i0 | ⟨1, _⟩ => (congrArg (· + i1.val) (Nat.zero_mul 64)).trans (Nat.zero_add _) | ⟨2, _⟩ => (congrArg (· + i2.val) (Nat.zero_mul 128)).trans (Nat.zero_add _))

/-- Operand 3's block at an index, as an element of the argument. -/
theorem iblk3_at (hO : Ok m) (c : Dev nD) (t : Fin (cfgM m hO).N) (i0 : Fin 8) (i1 : Fin 64) (i2 : Fin 128) :
    (iblk m hO c 3 t : FVec Ideal S8x64x128 .fp8e4m3) (ix3 i0 i1 i2) = (m ((c : Thread nD τ).loc main_arg4) : FVec Ideal S3000x128x64 .fp8e4m3) (ix3 (row m t i0) i2 i1) := by
  refine (congrArg (V m c main_v2 : FVec Ideal S3000x64x128 .fp8e4m3) (emb3 m hO t i0 i1 i2)).trans ?_
  obtain rfl : c = 0 := Subsingleton.elim _ _
  unfold V
  after_reads_at

theorem emb5 (hO : Ok m) (t : Fin (cfgM m hO).N) (i0 : Fin 1) (i1 : Fin 64) :
    ((((cfgM m hO).win 5).blk t).view.emb (ix2 i0 i1 : S1x64.Idx) : S1x64.Idx) = ix2 i0 i1 := by
  funext a
  apply Fin.ext
  blk_simp
  exact (match a with | ⟨0, _⟩ => (congrArg (· + i0.val) (Nat.zero_mul 1)).trans (Nat.zero_add _) | ⟨1, _⟩ => (congrArg (· + i1.val) (Nat.zero_mul 64)).trans (Nat.zero_add _))

/-- Operand 5's block at an index, as an element of the argument. -/
theorem iblk5_at (hO : Ok m) (c : Dev nD) (t : Fin (cfgM m hO).N) (i0 : Fin 1) (i1 : Fin 64) :
    (iblk m hO c 5 t : FVec Ideal S1x64 .f32) (ix2 i0 i1) = (m ((c : Thread nD τ).loc main_arg5) : FVec Ideal S64 .f32) (ix1 i1) := by
  refine (congrArg (V m c main_v3 : FVec Ideal S1x64 .f32) (emb5 m hO t i0 i1)).trans ?_
  obtain rfl : c = 0 := Subsingleton.elim _ _
  unfold V
  after_reads_at

theorem emb6 (hO : Ok m) (t : Fin (cfgM m hO).N) (i0 : Fin 64) (i1 : Fin 384) :
    ((((cfgM m hO).win 6).blk t).view.emb (ix2 i0 i1 : S64x384.Idx) : S64x384.Idx) = ix2 i0 i1 := by
  funext a
  apply Fin.ext
  blk_simp
  exact (match a with | ⟨0, _⟩ => (congrArg (· + i0.val) (Nat.zero_mul 64)).trans (Nat.zero_add _) | ⟨1, _⟩ => (congrArg (· + i1.val) (Nat.zero_mul 384)).trans (Nat.zero_add _))

/-- Operand 6's block at an index, as an element of the argument. -/
theorem iblk6_at (hO : Ok m) (c : Dev nD) (t : Fin (cfgM m hO).N) (i0 : Fin 64) (i1 : Fin 384) :
    (iblk m hO c 6 t : FVec Ideal S64x384 .fp8e4m3) (ix2 i0 i1) = (m ((c : Thread nD τ).loc main_arg6) : FVec Ideal S64x384 .f32) (ix2 i0 i1) := by
  refine (congrArg (V m c main_v4 : FVec Ideal S64x384 .fp8e4m3) (emb6 m hO t i0 i1)).trans ?_
  obtain rfl : c = 0 := Subsingleton.elim _ _
  unfold V
  after_reads_at

theorem emb7 (hO : Ok m) (t : Fin (cfgM m hO).N) (i0 : Fin 1) (i1 : Fin 384) :
    ((((cfgM m hO).win 7).blk t).view.emb (ix2 i0 i1 : S1x384.Idx) : S1x384.Idx) = ix2 i0 i1 := by
  funext a
  apply Fin.ext
  blk_simp
  exact (match a with | ⟨0, _⟩ => (congrArg (· + i0.val) (Nat.zero_mul 1)).trans (Nat.zero_add _) | ⟨1, _⟩ => (congrArg (· + i1.val) (Nat.zero_mul 384)).trans (Nat.zero_add _))

/-- Operand 7's block at an index, as an element of the argument. -/
theorem iblk7_at (hO : Ok m) (c : Dev nD) (t : Fin (cfgM m hO).N) (i0 : Fin 1) (i1 : Fin 384) :
    (iblk m hO c 7 t : FVec Ideal S1x384 .f32) (ix2 i0 i1) = (m ((c : Thread nD τ).loc main_arg7) : FVec Ideal S384 .f32) (ix1 i1) := by
  refine (congrArg (V m c main_v5 : FVec Ideal S1x384 .f32) (emb7 m hO t i0 i1)).trans ?_
  obtain rfl : c = 0 := Subsingleton.elim _ _
  unfold V
  after_reads_at

theorem emb8 (hO : Ok m) (t : Fin (cfgM m hO).N) (i0 : Fin 1) (i1 : Fin 384) :
    ((((cfgM m hO).win 8).blk t).view.emb (ix2 i0 i1 : S1x384.Idx) : S1x384.Idx) = ix2 i0 i1 := by
  funext a
  apply Fin.ext
  blk_simp
  exact (match a with | ⟨0, _⟩ => (congrArg (· + i0.val) (Nat.zero_mul 1)).trans (Nat.zero_add _) | ⟨1, _⟩ => (congrArg (· + i1.val) (Nat.zero_mul 384)).trans (Nat.zero_add _))

/-- Operand 8's block at an index, as an element of the argument. -/
theorem iblk8_at (hO : Ok m) (c : Dev nD) (t : Fin (cfgM m hO).N) (i0 : Fin 1) (i1 : Fin 384) :
    (iblk m hO c 8 t : FVec Ideal S1x384 .f32) (ix2 i0 i1) = (m ((c : Thread nD τ).loc main_arg8) : FVec Ideal S384 .f32) (ix1 i1) := by
  refine (congrArg (V m c main_v6 : FVec Ideal S1x384 .f32) (emb8 m hO t i0 i1)).trans ?_
  obtain rfl : c = 0 := Subsingleton.elim _ _
  unfold V
  after_reads_at

theorem emb9 (hO : Ok m) (t : Fin (cfgM m hO).N) (i0 : Fin 8) (i1 : Fin 256) (i2 : Fin 384) :
    ((((cfgM m hO).win 9).blk t).view.emb (ix3 i0 i1 i2 : S8x256x384.Idx) : S3000x256x384.Idx) = ix3 (row m t i0) i1 i2 := by
  funext a
  apply Fin.ext
  blk_simp
  exact (match a with | ⟨0, _⟩ => row_eq m t i0 | ⟨1, _⟩ => (congrArg (· + i1.val) (Nat.zero_mul 256)).trans (Nat.zero_add _) | ⟨2, _⟩ => (congrArg (· + i2.val) (Nat.zero_mul 384)).trans (Nat.zero_add _))

/-- Different points write different blocks of result 0. -/
theorem idx_inj9 (hO : Ok m) (t t' : Fin (cfgM m hO).N) (h : ((cfgM m hO).win 9).index t = ((cfgM m hO).win 9).index t') : t = t' := by
  have h0 := congrFun h (⟨0, by decide⟩ : Fin 3)
  apply Fin.ext
  exact (coord t).symm.trans (h0.trans (coord t'))

/-- Result 0's array after a run, at an index: what its point leaves there. -/
theorem arr9_at (hO : Ok m) (c : Dev nD) (t : Fin (cfgM m hO).N) (i0 : Fin 8) (i1 : Fin 256) (i2 : Fin 384) :
    ((datsV m hO 0 c).arrAt 9 (cfgM m hO).N : FVec Ideal S3000x256x384 .bf16) (ix3 (row m t i0) i1 i2) = yM m hO c t (ix3 i0 i1 i2) := by
  have hb := (datsV m hO 0 c).read_blk_arrAt_eq_flushed 9 (fun t t' _ _ hne => ((cfgM m hO).win 9).disjoint_blk fun h => hne (idx_inj9 m hO t t' h)) (cfgM m hO).N t t.isLt (flush0_9 (adm m hO) t)
  have hr : ∀ A : FVec Ideal S3000x256x384 .bf16, (((cfgM m hO).win 9).blk t).view.read (Elt Ideal) A (ix3 i0 i1 i2 : S8x256x384.Idx) = A (ix3 (row m t i0) i1 i2) := fun A =>
    congrArg A (emb9 m hO t i0 i1 i2)
  have hc : ∀ X : FVec Ideal S8x256x384 .bf16, ((cfgM m hO).win 9).cut ((cfgM m hO).grid.coords t) X (ix3 i0 i1 i2 : S8x256x384.Idx) = X (ix3 i0 i1 i2) := fun X => rfl
  have hf : (datsV m hO 0 c).flushed 9 t = ((cfgM m hO).win 9).cut ((cfgM m hO).grid.coords t) (yM m hO c t) := by
    show ((cfgM m hO).win 9).cut ((cfgM m hO).grid.coords t) ((datsV m hO 0 c).after 9 t) = _
    rw [afterV_9]
  exact (hr _).symm.trans ((congrFun (hb.trans hf) (ix3 i0 i1 i2 : S8x256x384.Idx)).trans (hc _))

theorem emb10 (hO : Ok m) (t : Fin (cfgM m hO).N) (i0 : Fin 8) (i1 : Fin 64) (i2 : Fin 256) :
    ((((cfgM m hO).win 10).blk t).view.emb (ix3 i0 i1 i2 : S8x64x256.Idx) : S3000x64x256.Idx) = ix3 (row m t i0) i1 i2 := by
  funext a
  apply Fin.ext
  blk_simp
  exact (match a with | ⟨0, _⟩ => row_eq m t i0 | ⟨1, _⟩ => (congrArg (· + i1.val) (Nat.zero_mul 64)).trans (Nat.zero_add _) | ⟨2, _⟩ => (congrArg (· + i2.val) (Nat.zero_mul 256)).trans (Nat.zero_add _))

/-- Different points write different blocks of result 1. -/
theorem idx_inj10 (hO : Ok m) (t t' : Fin (cfgM m hO).N) (h : ((cfgM m hO).win 10).index t = ((cfgM m hO).win 10).index t') : t = t' := by
  have h0 := congrFun h (⟨0, by decide⟩ : Fin 3)
  apply Fin.ext
  exact (coord t).symm.trans (h0.trans (coord t'))

/-- Result 1's array after a run, at an index: what its point leaves there. -/
theorem arr10_at (hO : Ok m) (c : Dev nD) (t : Fin (cfgM m hO).N) (i0 : Fin 8) (i1 : Fin 64) (i2 : Fin 256) :
    ((datsV m hO 0 c).arrAt 10 (cfgM m hO).N : FVec Ideal S3000x64x256 .fp8e4m3) (ix3 (row m t i0) i1 i2) = codesM m hO c t (ix3 i0 i1 i2) := by
  have hb := (datsV m hO 0 c).read_blk_arrAt_eq_flushed 10 (fun t t' _ _ hne => ((cfgM m hO).win 10).disjoint_blk fun h => hne (idx_inj10 m hO t t' h)) (cfgM m hO).N t t.isLt (flush0_10 (adm m hO) t)
  have hr : ∀ A : FVec Ideal S3000x64x256 .fp8e4m3, (((cfgM m hO).win 10).blk t).view.read (Elt Ideal) A (ix3 i0 i1 i2 : S8x64x256.Idx) = A (ix3 (row m t i0) i1 i2) := fun A =>
    congrArg A (emb10 m hO t i0 i1 i2)
  have hc : ∀ X : FVec Ideal S8x64x256 .fp8e4m3, ((cfgM m hO).win 10).cut ((cfgM m hO).grid.coords t) X (ix3 i0 i1 i2 : S8x64x256.Idx) = X (ix3 i0 i1 i2) := fun X => rfl
  have hf : (datsV m hO 0 c).flushed 10 t = ((cfgM m hO).win 10).cut ((cfgM m hO).grid.coords t) (codesM m hO c t) := by
    show ((cfgM m hO).win 10).cut ((cfgM m hO).grid.coords t) ((datsV m hO 0 c).after 10 t) = _
    rw [afterV_10]
  exact (hr _).symm.trans ((congrFun (hb.trans hf) (ix3 i0 i1 i2 : S8x64x256.Idx)).trans (hc _))

theorem emb11 (hO : Ok m) (t : Fin (cfgM m hO).N) (i0 : Fin 8) (i1 : Fin 256) :
    ((((cfgM m hO).win 11).blk t).view.emb (ix2 i0 i1 : S8x256.Idx) : S3000x256.Idx) = ix2 (row m t i0) i1 := by
  funext a
  apply Fin.ext
  blk_simp
  exact (match a with | ⟨0, _⟩ => row_eq m t i0 | ⟨1, _⟩ => (congrArg (· + i1.val) (Nat.zero_mul 256)).trans (Nat.zero_add _))

/-- Different points write different blocks of result 2. -/
theorem idx_inj11 (hO : Ok m) (t t' : Fin (cfgM m hO).N) (h : ((cfgM m hO).win 11).index t = ((cfgM m hO).win 11).index t') : t = t' := by
  have h0 := congrFun h (⟨0, by decide⟩ : Fin 2)
  apply Fin.ext
  exact (coord t).symm.trans (h0.trans (coord t'))

/-- Result 2's array after a run, at an index: what its point leaves there. -/
theorem arr11_at (hO : Ok m) (c : Dev nD) (t : Fin (cfgM m hO).N) (i0 : Fin 8) (i1 : Fin 256) :
    ((datsV m hO 0 c).arrAt 11 (cfgM m hO).N : FVec Ideal S3000x256 .f32) (ix2 (row m t i0) i1) = scalesM m hO c t (ix2 i0 i1) := by
  have hb := (datsV m hO 0 c).read_blk_arrAt_eq_flushed 11 (fun t t' _ _ hne => ((cfgM m hO).win 11).disjoint_blk fun h => hne (idx_inj11 m hO t t' h)) (cfgM m hO).N t t.isLt (flush0_11 (adm m hO) t)
  have hr : ∀ A : FVec Ideal S3000x256 .f32, (((cfgM m hO).win 11).blk t).view.read (Elt Ideal) A (ix2 i0 i1 : S8x256.Idx) = A (ix2 (row m t i0) i1) := fun A =>
    congrArg A (emb11 m hO t i0 i1)
  have hc : ∀ X : FVec Ideal S8x256 .f32, ((cfgM m hO).win 11).cut ((cfgM m hO).grid.coords t) X (ix2 i0 i1 : S8x256.Idx) = X (ix2 i0 i1) := fun X => rfl
  have hf : (datsV m hO 0 c).flushed 11 t = ((cfgM m hO).win 11).cut ((cfgM m hO).grid.coords t) (scalesM m hO c t) := by
    show ((cfgM m hO).win 11).cut ((cfgM m hO).grid.coords t) ((datsV m hO 0 c).after 11 t) = _
    rw [afterV_11]
  exact (hr _).symm.trans ((congrFun (hb.trans hf) (ix2 i0 i1 : S8x256.Idx)).trans (hc _))

end Cert.KernelIdeal.Val

end
-- ==== Proof.Math.lean ====
/-
The mathematics of the kernel and of the reference, over the extended reals: the sum of a coefficient's three pieces,
the power of a Gaussian, what is left of the light, the scales of codes.
-/
module

public import proofs.«01_k».proof.Proof.KernelIdealLit

@[expose] public section

set_option maxRecDepth 16384

noncomputable section

namespace Cert.Math

open Idealize.ShloMosaic
open Cert.KernelIdeal.Val

/-! ### Constants -/

theorem coe_min (a b : ℝ) : ((min a b : ℝ) : EReal) = min (a : EReal) b := EReal.coe_strictMono.monotone.map_min
theorem coe_max (a b : ℝ) : ((max a b : ℝ) : EReal) = max (a : EReal) b := EReal.coe_strictMono.monotone.map_max

theorem c_half : Ideal.ofBits .f32 0x3F000000#32 = ((1 / 2 : ℝ) : EReal) := by
  rw [ofBits_quarter _ 2 (by decide +kernel)]; norm_num
theorem c_neg_half : Ideal.ofBits .f32 0xBF000000#32 = ((-(1 / 2) : ℝ) : EReal) := by
  rw [ofBits_quarter _ (-2) (by decide +kernel)]; norm_num
theorem c_eight : Ideal.ofBits .f32 0x41000000#32 = ((8 : ℝ) : EReal) := by
  rw [ofBits_quarter _ 32 (by decide +kernel)]; norm_num
theorem c_neg_one : Ideal.ofBits .f32 0xBF800000#32 = ((-1 : ℝ) : EReal) := by
  rw [ofBits_quarter _ (-4) (by decide +kernel)]; norm_num
theorem c_448 : Ideal.ofBits .f32 0x43E00000#32 = ((448 : ℝ) : EReal) := by
  rw [ofBits_quarter _ 1792 (by decide +kernel)]; norm_num
theorem c_neg_448 : Ideal.ofBits .f32 0xC3E00000#32 = ((-448 : ℝ) : EReal) := by
  rw [ofBits_quarter _ (-1792) (by decide +kernel)]; norm_num
theorem c_bot : Ideal.ofBits .f32 0xFF800000#32 = (⊥ : EReal) := by
  unfold Ideal.ofBits Ideal.ieee
  dsimp only
  rw [if_pos (by decide +kernel), if_pos (by decide +kernel), if_pos (by decide +kernel)]
/-- The greatest opacity is a number below one. -/
theorem c_99 : ∃ r : ℝ, Ideal.ofBits .f32 0x3F7D70A4#32 = (r : EReal) ∧ 0 < r ∧ r < 1 := by
  unfold Ideal.ofBits Ideal.ieee
  dsimp only
  rw [if_neg (by decide +kernel), if_neg (by decide +kernel)]
  refine ⟨_, rfl, ?_, ?_⟩
  · rw [if_neg (by decide +kernel)]
    positivity
  · rw [if_neg (by decide +kernel)]
    rw [show (BitVec.extractLsb' 23 8 0x3F7D70A4#32).toNat = 126 by decide +kernel,
      show (BitVec.extractLsb' 0 23 0x3F7D70A4#32).toNat = 8220836 by decide +kernel]
    norm_num

/-! ### Sums of real numbers -/

/-- A sum of reals is the sum of them as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum with a term minus infinity is minus infinity. -/
theorem sum_bot {ι : Type} [DecidableEq ι] (s : Finset ι) (f : ι → EReal) (a : ι) (ha : a ∈ s) (h : f a = ⊥) : ∑ i ∈ s, f i = ⊥ := by
  rw [← Finset.add_sum_erase s f ha, h, EReal.bot_add]

/-! ### Three pieces -/

/-- The pieces of a number: it, and what is left of it twice. -/
def pc (r : Fin 3) (x : EReal) : EReal :=
  match r with
  | 0 => x
  | 1 => x - x
  | 2 => x - x - (x - x)

/-- Of a real number's three pieces the first is the number and the others are zero. -/
theorem pc_real (r : Fin 3) (x : ℝ) : pc r (x : EReal) = if r = 0 then (x : EReal) else 0 := by
  have h : ((x : EReal) - x) = 0 := EReal.sub_self (EReal.coe_ne_top x) (EReal.coe_ne_bot x)
  match r with
  | 0 => rfl
  | 1 => exact h
  | 2 => show (x : EReal) - x - ((x : EReal) - x) = 0; rw [h]; exact sub_zero _

/-- The sum over the 24 rows of the pieces of six real coefficients times a pixel's monomials. -/
theorem sum24_real (C : Fin 6 → EReal) (c : Fin 6 → ℝ) (hC : ∀ q, C q = (c q : EReal)) (M : Fin 24 → EReal) (mo : Fin 6 → ℝ)
    (hM : ∀ j : Fin 24, ∀ h : j.val < 18, M j = ((mo ⟨j.val / 3, by omega⟩ : ℝ) : EReal)) :
    (∑ j : Fin 24, (if h : j.val < 18 then pc ⟨j.val % 3, by omega⟩ (C ⟨j.val / 3, by omega⟩) else 0) * M j)
      = ((c 0 * mo 0 + c 1 * mo 1 + c 2 * mo 2 + c 3 * mo 3 + c 4 * mo 4 + c 5 * mo 5 : ℝ) : EReal) := by
  have e : ∀ j : Fin 24, (if h : j.val < 18 then pc ⟨j.val % 3, by omega⟩ (C ⟨j.val / 3, by omega⟩) else 0) * M j
      = (((if h : j.val < 18 ∧ j.val % 3 = 0 then c ⟨j.val / 3, by omega⟩ * mo ⟨j.val / 3, by omega⟩ else 0 : ℝ)) : EReal) := by
    intro j
    by_cases h : j.val < 18
    · rw [dif_pos h, hC, pc_real, hM j h]
      by_cases h3 : j.val % 3 = 0
      · rw [if_pos (Fin.ext h3), dif_pos ⟨h, h3⟩, EReal.coe_mul]
      · rw [if_neg (fun e => h3 (congrArg Fin.val e)), dif_neg (fun e => h3 e.2), zero_mul, EReal.coe_zero]
    · rw [dif_neg h, dif_neg (fun e => h e.1), zero_mul, EReal.coe_zero]
  rw [Finset.sum_congr rfl fun j _ => e j, ← coe_sum]
  congr 1
  simp only [Fin.sum_univ_succ]
  norm_num [Fin.succ]
  show c 0 * mo 0 + (c 1 * mo 1 + (c 2 * mo 2 + (c 3 * mo 3 + (c 4 * mo 4 + c 5 * mo 5)))) = _
  ring

/-- If the last coefficient is minus infinity, so is the sum. -/
theorem sum24_bot (C : Fin 6 → EReal) (hC : C 5 = ⊥) (M : Fin 24 → EReal)
    (hM : M ⟨15, by omega⟩ = 1) :
    (∑ j : Fin 24, (if h : j.val < 18 then pc ⟨j.val % 3, by omega⟩ (C ⟨j.val / 3, by omega⟩) else 0) * M j) = ⊥ := by
  refine sum_bot _ _ (⟨15, by omega⟩ : Fin 24) (Finset.mem_univ _) ?_
  rw [hM, dif_pos (show (15 : ℕ) < 18 by omega), mul_one]
  exact hC

/-! ### Light -/

/-- What is left of the light behind the first `n` Gaussians of opacities `r`. -/
def left (r : Fin 128 → ℝ) : ℕ → ℝ
  | 0 => 1
  | n + 1 => if h : n < 128 then left r n - r ⟨n, h⟩ * left r n else left r n

/-- What is left of the light is not negative. -/
theorem left_nonneg (r : Fin 128 → ℝ) (hr : ∀ k, 0 ≤ r k ∧ r k < 1) (n : ℕ) : 0 ≤ left r n := by
  induction n with
  | zero => exact zero_le_one
  | succ n ih =>
    rw [left]
    split
    · rename_i h
      nlinarith [hr ⟨n, h⟩]
    · exact ih

/-- The exponential of the sum of the logarithms of 1 - r is the product of the 1 - r. -/
theorem exp_logs (r : Fin 128 → ℝ) (hr : ∀ k, 0 ≤ r k ∧ r k < 1) (n : ℕ) (hn : n ≤ 128) :
    Real.exp (∑ j : Fin 128, if j.val < n then Real.log (1 - r j) else 0) = left r n := by
  induction n with
  | zero => simp [left]
  | succ n ih =>
    have h : n < 128 := hn
    have e : (∑ j : Fin 128, if j.val < n + 1 then Real.log (1 - r j) else 0)
        = (∑ j : Fin 128, if j.val < n then Real.log (1 - r j) else 0) + Real.log (1 - r ⟨n, h⟩) := by
      rw [← Finset.sum_erase_add _ _ (Finset.mem_univ (⟨n, h⟩ : Fin 128)),
        ← Finset.sum_erase_add (a := (⟨n, h⟩ : Fin 128)) (f := fun j : Fin 128 => if j.val < n then Real.log (1 - r j) else 0) _ (Finset.mem_univ _)]
      rw [if_pos (show n < n + 1 by omega), if_neg (show ¬ n < n by omega), add_zero]
      congr 1
      refine Finset.sum_congr rfl fun j hj => ?_
      have hne : j.val ≠ n := fun e => (Finset.ne_of_mem_erase hj) (Fin.ext e)
      by_cases hj' : j.val < n
      · rw [if_pos hj', if_pos (by omega)]
      · rw [if_neg hj', if_neg (by omega)]
    rw [e, Real.exp_add, ih (by omega), Real.exp_log (by linarith [(hr ⟨n, h⟩).2]), left, dif_pos h]
    ring

/-- The reference's light: the exponential of a running sum of logarithms. -/
theorem ref_light (r : Fin 128 → ℝ) (hr : ∀ k, 0 ≤ r k ∧ r k < 1) (k : Fin 128) :
    Ideal.exp ((∑ j : Fin 128, if j ≤ k then Ideal.log1p (-(r j : EReal)) else 0) - Ideal.log1p (-(r k : EReal))) = (left r k.val : EReal) := by
  have hl : ∀ j, Ideal.log1p (-(r j : EReal)) = ((Real.log (1 - r j) : ℝ) : EReal) := by
    intro j
    show Ideal.log (1 + -(r j : EReal)) = _
    rw [show (1 + -(r j : EReal)) = ((1 - r j : ℝ) : EReal) by rw [sub_eq_add_neg, EReal.coe_add, EReal.coe_neg]; rfl]
    show (if (1 - r j) ≤ 0 then (⊥ : EReal) else _) = _
    rw [if_neg (by linarith [(hr j).2])]
  have e : (∑ j : Fin 128, if j ≤ k then Ideal.log1p (-(r j : EReal)) else 0)
      = ((∑ j : Fin 128, if j.val < k.val + 1 then Real.log (1 - r j) else 0 : ℝ) : EReal) := by
    rw [coe_sum]
    refine Finset.sum_congr rfl fun j _ => ?_
    by_cases hj : j ≤ k
    · rw [if_pos hj, if_pos (Nat.lt_succ_of_le hj), hl]
    · rw [if_neg hj, if_neg (fun e => hj (Nat.le_of_lt_succ e)), EReal.coe_zero]
  rw [e, hl, ← EReal.coe_sub]
  show ((Real.exp _ : ℝ) : EReal) = _
  congr 1
  rw [Real.exp_sub, exp_logs r hr _ (by omega), Real.exp_log (by linarith [(hr k).2]), left, dif_pos k.isLt]
  have : (1 - r k) ≠ 0 := by linarith [(hr k).2]
  rw [div_eq_iff this]; ring

/-- The greatest of the weights. -/
def most (w : Fin 128 → EReal) : ℕ → EReal
  | 0 => 0
  | n + 1 => if h : n < 128 then max (most w n) (w ⟨n, h⟩) else most w n

/-- Every weight is at most the greatest. -/
theorem le_most (w : Fin 128 → EReal) (n : ℕ) : ∀ k : Fin 128, k.val < n → w k ≤ most w n := by
  induction n with
  | zero => intro k h; omega
  | succ n ih =>
    intro k hk
    rw [most]
    by_cases h : n < 128
    · rw [dif_pos h]
      by_cases e : k.val = n
      · obtain rfl : k = ⟨n, h⟩ := Fin.ext e
        exact le_max_right _ _
      · exact le_trans (ih k (by omega)) (le_max_left _ _)
    · rw [dif_neg h]; exact ih k (by omega)

/-- A bound of all weights bounds the greatest. -/
theorem most_le (w : Fin 128 → EReal) (x : EReal) (h0 : 0 ≤ x) (hw : ∀ k, w k ≤ x) (n : ℕ) : most w n ≤ x := by
  induction n with
  | zero => exact h0
  | succ n ih =>
    rw [most]
    split
    · exact max_le ih (hw _)
    · exact ih

/-- The running greatest weight is the greatest absolute value. -/
theorem most_eq (w : Fin 128 → EReal) (hw : ∀ k, 0 ≤ w k) :
    most w 128 = Finset.fold max (⊥ : EReal) w Finset.univ := by
  refine le_antisymm (most_le w _ ?_ (fun k => ?_) 128) ?_
  · exact (Finset.le_fold_max _).2 (Or.inr ⟨0, Finset.mem_univ _, hw 0⟩)
  · exact (Finset.le_fold_max _).2 (Or.inr ⟨k, Finset.mem_univ _, le_rfl⟩)
  · exact (Finset.fold_max_le _).2 ⟨bot_le, fun k _ => le_most w 128 k k.isLt⟩

/-! ### Scales -/

/-- log2 e. -/
abbrev L : EReal := (((Real.log 2)⁻¹ : ℝ) : EReal)

/-- The exponent of the power of two below `x`. -/
def ex (x : EReal) : EReal := Ideal.liftRound Int.floor (Ideal.log x * L)

/-- The scale of the codes of values whose greatest absolute value over 448 is `x`; -/
def sc (x : EReal) : EReal := if x = 0 then 1 else Ideal.exp2 (ex x + 1)
/-- and its inverse. -/
def iv (x : EReal) : EReal := if x = 0 then 1 else Ideal.exp2 (((-1 : ℝ) : EReal) - ex x)

theorem exp2_zero : Ideal.exp2 0 = 1 := by
  show ((Real.rpow 2 0 : ℝ) : EReal) = 1
  rw [show Real.rpow 2 0 = 1 from Real.rpow_zero 2]; rfl

theorem iv_arg (e : EReal) : ((-1 : ℝ) : EReal) - e = 0 - (e + 1) := by
  induction e using EReal.rec with
  | bot => rfl
  | top => rfl
  | coe r =>
    rw [show (1 : EReal) = ((1 : ℝ) : EReal) from rfl, show (0 : EReal) = ((0 : ℝ) : EReal) from rfl, ← EReal.coe_add, ← EReal.coe_sub,
      ← EReal.coe_sub]
    congr 1; ring

/-- The reference's scale and inverse. -/
theorem sc_ref (x : EReal) : Ideal.exp2 (if x = 0 then 0 else ex x + 1) = sc x := by
  unfold sc; split
  · exact exp2_zero
  · rfl
/-- The reference's inverse scale is the kernel's. -/
theorem iv_ref (x : EReal) : Ideal.exp2 (0 - (if x = 0 then 0 else ex x + 1)) = iv x := by
  unfold iv; split
  · rw [sub_zero]; exact exp2_zero
  · rw [iv_arg]

/-- A scale is a real number, or its inverse is zero. -/
theorem sc_cases (x : EReal) : (∃ r : ℝ, sc x = r) ∨ (sc x = ⊤ ∧ iv x = 0) := by
  unfold sc iv
  by_cases h : x = 0
  · rw [if_pos h]; exact Or.inl ⟨1, rfl⟩
  · rw [if_neg h, if_neg h]
    generalize ex x = e
    induction e using EReal.rec with
    | bot => exact Or.inl ⟨0, rfl⟩
    | top => exact Or.inr ⟨rfl, rfl⟩
    | coe r => exact Or.inl ⟨_, rfl⟩

/-- A code: clipped to ±448. -/
def clip (x : EReal) : EReal := min ((448 : ℝ) : EReal) (max ((-448 : ℝ) : EReal) x)

/-- A clipped number is a real number. -/
theorem clip_real (x : EReal) : ∃ r : ℝ, clip x = r := by
  unfold clip
  induction x using EReal.rec with
  | bot => exact ⟨-448, by rw [max_eq_left bot_le]; exact min_eq_right (by exact_mod_cast (by norm_num : (-448 : ℝ) ≤ 448))⟩
  | top => exact ⟨448, by rw [max_eq_right le_top]; exact min_eq_left le_top⟩
  | coe r => exact ⟨min 448 (max (-448) r), by
      rw [coe_min, coe_max]⟩

/-- Zero clipped is zero. -/
theorem clip_zero : clip 0 = 0 := by
  unfold clip
  rw [show (0 : EReal) = ((0 : ℝ) : EReal) from rfl, ← coe_max, ← coe_min]
  norm_num

/-- A code times its scale is a real number, and the scale may be taken out of a sum of such products. -/
theorem deq_sum {ι : Type} (s : Finset ι) (x : EReal) (f : ι → EReal) (d : ι → ℝ) :
    ∃ q : ι → ℝ, (∀ i, clip (f i * iv x) * sc x = q i) ∧
      (∑ i ∈ s, clip (f i * iv x) * (d i : EReal)) * sc x = ((∑ i ∈ s, q i * d i : ℝ) : EReal) := by
  rcases sc_cases x with ⟨r, hr⟩ | ⟨ht, h0⟩
  · choose c hc using fun i => clip_real (f i * iv x)
    refine ⟨fun i => c i * r, fun i => by rw [hc, hr, EReal.coe_mul], ?_⟩
    rw [hr, Finset.sum_congr rfl fun i _ => show clip (f i * iv x) * (d i : EReal) = ((c i * d i : ℝ) : EReal) by rw [hc, EReal.coe_mul],
      ← coe_sum, ← EReal.coe_mul, Finset.sum_mul]
    congr 1
    exact Finset.sum_congr rfl fun i _ => by ring
  · refine ⟨fun _ => 0, fun i => by rw [h0, mul_zero, clip_zero, zero_mul]; rfl, ?_⟩
    rw [Finset.sum_congr rfl fun i _ => show clip (f i * iv x) * (d i : EReal) = 0 by rw [h0, mul_zero, clip_zero, zero_mul],
      Finset.sum_const_zero, zero_mul]
    simp

/-- The kernel's product with its 256 rows: three pieces of the decoder and of the bias. -/
theorem y_sum (q d : Fin 64 → ℝ) (b : ℝ) (Q D : Fin 256 → EReal)
    (h0 : ∀ (j : Fin 64), Q ⟨j.val, by omega⟩ = (q j : EReal) ∧ D ⟨j.val, by omega⟩ = (d j : EReal))
    (h1 : ∀ (j : Fin 256), 64 ≤ j.val → j.val < 192 → D j = 0)
    (h2 : Q ⟨192, by omega⟩ = 1 ∧ D ⟨192, by omega⟩ = (b : EReal))
    (h3 : ∀ (j : Fin 256), 192 < j.val → D j = 0) :
    ∑ j : Fin 256, Q j * D j = ((∑ j : Fin 64, q j * d j : ℝ) : EReal) + (b : EReal) := by
  rw [← Equiv.sum_comp (finSumFinEquiv (m := 64) (n := 192)) (fun j => Q j * D j), Fintype.sum_sum_type]
  have e0 : ∀ j : Fin 64, Q (finSumFinEquiv (m := 64) (n := 192) (Sum.inl j)) * D (finSumFinEquiv (m := 64) (n := 192) (Sum.inl j)) = ((q j * d j : ℝ) : EReal) := by
    intro j
    have e : finSumFinEquiv (m := 64) (n := 192) (Sum.inl j) = (⟨j.val, by omega⟩ : Fin 256) := Fin.ext rfl
    rw [e, (h0 j).1, (h0 j).2, EReal.coe_mul]
  rw [Finset.sum_congr rfl fun j _ => e0 j, ← coe_sum]
  congr 1
  rw [Finset.sum_eq_single (⟨128, by omega⟩ : Fin 192)]
  · have e : finSumFinEquiv (m := 64) (n := 192) (Sum.inr ⟨128, by omega⟩) = (⟨192, by omega⟩ : Fin 256) := Fin.ext rfl
    rw [e, h2.1, h2.2, one_mul]
  · intro j _ hj
    have hv : (finSumFinEquiv (m := 64) (n := 192) (Sum.inr j)).val = 64 + j.val := rfl
    have hj' : j.val ≠ 128 := fun e => hj (Fin.ext e)
    by_cases h : j.val < 128
    · rw [h1 _ (by rw [hv]; omega) (by rw [hv]; omega), mul_zero]
    · rw [h3 _ (by rw [hv]; omega), mul_zero]
  · intro h; exact absurd (Finset.mem_univ _) h

/-! ### Opacities -/

/-- The kernel's six coefficients of a Gaussian's power. -/
def kcoef (live : BitVec 1) (u v ca cb cc op : EReal) : Fin 6 → EReal
  | 0 => Scalar.select live (((-(1 / 2) : ℝ) : EReal) * ca) 0
  | 1 => Scalar.select live (0 - cb) 0
  | 2 => Scalar.select live (((-(1 / 2) : ℝ) : EReal) * cc) 0
  | 3 => Scalar.select live (ca * u + cb * v) 0
  | 4 => Scalar.select live (cc * v + cb * u) 0
  | 5 => Scalar.select live (Ideal.log op * L - ((1 / 2 : ℝ) : EReal) * ((ca * u + cb * v) * u + (cc * v + cb * u) * v)) ⊥

/-- A Gaussian's opacity, in real numbers. -/
theorem exp2_power (op P : ℝ) (hop : 0 < op) :
    Ideal.exp2 (((Real.log op * (Real.log 2)⁻¹ + P * (Real.log 2)⁻¹ : ℝ)) : EReal) = ((op * Real.exp P : ℝ) : EReal) := by
  show ((Real.rpow 2 _ : ℝ) : EReal) = _
  congr 1
  rw [show Real.rpow 2 (Real.log op * (Real.log 2)⁻¹ + P * (Real.log 2)⁻¹) = (2 : ℝ) ^ (Real.log op * (Real.log 2)⁻¹ + P * (Real.log 2)⁻¹) from rfl]
  rw [Real.rpow_def_of_pos (by norm_num)]
  have h2 : Real.log 2 ≠ 0 := (Real.log_pos (by norm_num)).ne'
  rw [show Real.log 2 * (Real.log op * (Real.log 2)⁻¹ + P * (Real.log 2)⁻¹) = Real.log op + P by field_simp, Real.exp_add, Real.exp_log hop]

/-- The kernel's opacity of a Gaussian that adds something. -/
theorem kalpha_live (ca cb cc mx my op px py : ℝ) (hop : 0 < op) (M : Fin 24 → EReal) (mo : Fin 6 → ℝ)
    (hM : ∀ j : Fin 24, ∀ h : j.val < 18, M j = ((mo ⟨j.val / 3, by omega⟩ : ℝ) : EReal))
    (hx : mo 0 = (px + 1 / 2 - 8) * (px + 1 / 2 - 8) ∧ mo 1 = (px + 1 / 2 - 8) * (py + 1 / 2 - 8) ∧ mo 2 = (py + 1 / 2 - 8) * (py + 1 / 2 - 8)
      ∧ mo 3 = px + 1 / 2 - 8 ∧ mo 4 = py + 1 / 2 - 8 ∧ mo 5 = 1)
    (C : Fin 6 → EReal)
    (hC : C = kcoef 1#1 ((mx : EReal) - ((8 : ℝ) : EReal)) ((my : EReal) - ((8 : ℝ) : EReal)) (ca * L) (cb * L) (cc * L) op) :
    Ideal.exp2 (∑ j : Fin 24, (if h : j.val < 18 then pc ⟨j.val % 3, by omega⟩ (C ⟨j.val / 3, by omega⟩) else 0) * M j)
      = ((op * Real.exp (-(1 / 2) * (ca * (px + 1 / 2 - mx) * (px + 1 / 2 - mx) + cc * (py + 1 / 2 - my) * (py + 1 / 2 - my))
          - cb * (px + 1 / 2 - mx) * (py + 1 / 2 - my)) : ℝ) : EReal) := by
  subst hC
  have hlog : Ideal.log (op : EReal) = ((Real.log op : ℝ) : EReal) := by
    show (if op ≤ 0 then (⊥ : EReal) else _) = _
    rw [if_neg (by linarith)]
  have hs : ∀ x y : EReal, Scalar.select 1#1 x y = x := fun x y => rfl
  have z : (0 : EReal) = ((0 : ℝ) : EReal) := rfl
  rw [sum24_real _ (fun q => match q with
    | 0 => -(1 / 2) * (ca * (Real.log 2)⁻¹)
    | 1 => 0 - cb * (Real.log 2)⁻¹
    | 2 => -(1 / 2) * (cc * (Real.log 2)⁻¹)
    | 3 => ca * (Real.log 2)⁻¹ * (mx - 8) + cb * (Real.log 2)⁻¹ * (my - 8)
    | 4 => cc * (Real.log 2)⁻¹ * (my - 8) + cb * (Real.log 2)⁻¹ * (mx - 8)
    | 5 => Real.log op * (Real.log 2)⁻¹ - 1 / 2 * ((ca * (Real.log 2)⁻¹ * (mx - 8) + cb * (Real.log 2)⁻¹ * (my - 8)) * (mx - 8)
        + (cc * (Real.log 2)⁻¹ * (my - 8) + cb * (Real.log 2)⁻¹ * (mx - 8)) * (my - 8))) ?_ M mo hM, ← exp2_power op _ hop]
  · congr 2
    obtain ⟨e0, e1, e2, e3, e4, e5⟩ := hx
    rw [e0, e1, e2, e3, e4, e5]
    ring
  · intro q
    match q with
    | 0 => simp only [kcoef, hs, z, L, hlog, ← EReal.coe_mul, ← EReal.coe_add, ← EReal.coe_sub]
    | 1 => simp only [kcoef, hs, z, L, hlog, ← EReal.coe_mul, ← EReal.coe_add, ← EReal.coe_sub]
    | 2 => simp only [kcoef, hs, z, L, hlog, ← EReal.coe_mul, ← EReal.coe_add, ← EReal.coe_sub]
    | 3 => simp only [kcoef, hs, z, L, hlog, ← EReal.coe_mul, ← EReal.coe_add, ← EReal.coe_sub]
    | 4 => simp only [kcoef, hs, z, L, hlog, ← EReal.coe_mul, ← EReal.coe_add, ← EReal.coe_sub]
    | 5 => simp only [kcoef, hs, z, L, hlog, ← EReal.coe_mul, ← EReal.coe_add, ← EReal.coe_sub]

/-- The kernel's opacity of a Gaussian that adds nothing. -/
theorem kalpha_dead (u v ca cb cc op : EReal) (M : Fin 24 → EReal) (hM : M ⟨15, by omega⟩ = 1) (C : Fin 6 → EReal)
    (hC : C = kcoef 0#1 u v ca cb cc op) :
    Ideal.exp2 (∑ j : Fin 24, (if h : j.val < 18 then pc ⟨j.val % 3, by omega⟩ (C ⟨j.val / 3, by omega⟩) else 0) * M j) = 0 := by
  subst hC
  rw [sum24_bot _ rfl M hM]
  rfl

end Cert.Math
end
-- ==== Proof.KernelIdealAt.lean ====
/-
The kernel's values at an index, at the ideal instance: the opacities, the light behind each Gaussian, the weights and
their scale, the feature map of a tile, its codes and its result.
-/
module

public import proofs.«01_k».proof.Proof.KernelIdealBlocks
public import proofs.«01_k».proof.Proof.Math
public import Idealize.ShloMosaic.Lib.Pointwise.Reduce
public import Idealize.ShloMosaic.Lib.Pointwise.Select

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Loops Cert.Math
open Cert.KernelIdeal.Hand hiding frame run_main dats

/-- Dropping the low sixteen bits is the identity over the extended reals. -/
theorem trunc16_eq {S : Shape} (x : FVec Ideal S .f32) : trunc16 x = x := rfl
theorem cLog2e_eq : (cLog2e : Ideal .f32) = L := rfl
theorem cNever_eq : (cNever : Ideal .f32) = (⊥ : EReal) := rfl

/-- A piece of a split array, at an index, is that piece of the number there. -/
theorem pieceN_at {S : Shape} (r : Fin 3) (x : FVec Ideal S .f32) (z : S.Idx) : (pieceN r x z : EReal) = pc r (x z) := by
  match r with
  | 0 => rfl
  | 1 => rfl
  | 2 => rfl

/-- Which Gaussians add something. -/
def liveAt (len : BitVec 32) (op : EReal) (k : ℕ) : BitVec 1 :=
  IntOp.andi (IntOp.cmpi .slt (BitVec.ofNat 32 k) len) (BitVec.ofBool (decide (0 < op)))

/-- The six coefficients of a Gaussian, at an index. -/
theorem coef_at (live : IVec S8x128 1) (u v : FVec Ideal S8x1x128 .f32) (ca cb cc : FVec Ideal S1x8x128 .f32) (op : FVec Ideal S8x128 .f32)
    (q : Fin 6) (b : Fin 8) (k : Fin 128) :
    (coefOf live (relOf u) (relOf v) (conOf ca) (conOf cb) (conOf cc) op q (ix2 b k) : EReal)
      = kcoef (live (ix2 b k)) ((u (ix3 b 0 k) : EReal) - ((8 : ℝ) : EReal)) ((v (ix3 b 0 k) : EReal) - ((8 : ℝ) : EReal))
        ((ca (ix3 0 b k) : EReal) * L) ((cb (ix3 0 b k) : EReal) * L) ((cc (ix3 0 b k) : EReal) * L) (op (ix2 b k)) q := by
  rw [← c_eight]
  match q with
  | 0 => unfold kcoef; rw [← c_neg_half]; pointwise [coefOf, relOf, conOf, liveOr0, gx, gy, constOf, cLog2e_eq, cNever_eq]
  | 1 => pointwise [coefOf, relOf, conOf, liveOr0, gx, gy, constOf, cLog2e_eq, cNever_eq, kcoef]
  | 2 => unfold kcoef; rw [← c_neg_half]; pointwise [coefOf, relOf, conOf, liveOr0, gx, gy, constOf, cLog2e_eq, cNever_eq]
  | 3 => pointwise [coefOf, relOf, conOf, liveOr0, gx, gy, constOf, cLog2e_eq, cNever_eq, kcoef]
  | 4 => pointwise [coefOf, relOf, conOf, liveOr0, gx, gy, constOf, cLog2e_eq, cNever_eq, kcoef]
  | 5 => unfold kcoef; rw [← c_half]; pointwise [coefOf, relOf, conOf, liveOr0, gx, gy, constOf, cLog2e_eq, cNever_eq]

/-- A slot is live if it is below the tile's length and its opacity is positive. -/
theorem live_at (lens : IVec S8x128 32) (op : FVec Ideal S8x128 .f32) (b : Fin 8) (k : Fin 128) :
    liveOf lens op (ix2 b k) = liveAt (lens (ix2 b k)) (op (ix2 b k)) k.val := by
  pointwise [liveOf, liveAt]

/-- The opacity of a Gaussian at a pixel: the product of coefficient pieces and pixel features, exponentiated and cut at 0.99. -/
theorem alphaOf_at (x : FVec Ideal S24x128 .f32) (pix : FVec Ideal S24x256 .f32) (k : Fin 128) (p : Fin 256) :
    (alphaOf x pix (ix2 k p) : EReal) = min (Ideal.ofBits .f32 0x3F7D70A4#32)
      (Ideal.exp2 (∑ j : Fin 24, (x (ix2 j k) : EReal) * (pix (ix2 j p) : EReal))) := by
  pointwise [alphaOf]
  rfl

/-- The opacity of Gaussian `k` of tile `b` at pixel `p`. -/
theorem alpha_at (i : grid0.Coords) (s : Cts Ideal) (b : Fin 8) (k : Fin 128) (p : Fin 256) (C : Fin 6 → EReal)
    (hC : ∀ q, (coefV i s q (ix2 b k) : EReal) = C q) :
    (alphaV i s b (ix2 k p) : EReal) = min (Ideal.ofBits .f32 0x3F7D70A4#32)
      (Ideal.exp2 (∑ j : Fin 24, (if h : j.val < 18 then pc ⟨j.val % 3, by omega⟩ (C ⟨j.val / 3, by omega⟩) else 0) * (s .m6 (ix2 j p) : EReal))) := by
  unfold alphaV
  rw [alphaOf_at]
  refine congrArg (fun u : EReal => _ ⊓ Ideal.exp2 u) ?_
  refine Finset.sum_congr (M := EReal) rfl fun j _ => ?_
  refine congrArg (fun u : EReal => u * _) ?_
  unfold cBlk
  show (if h : j.val < 18 then _ else _) = _
  by_cases h : j.val < 18
  · rw [dif_pos h, dif_pos h, pieceN_at]
    exact congrArg (pc _) (hC _)
  · rw [dif_neg h, dif_neg h]

/-- The light, the greatest weight and the weights at a pixel, of opacities `r`. -/
theorem light_at (a : Fin 128 → FVec Ideal S1x8x128 .f32) (b : Fin 8) (l : Fin 128) (r : Fin 128 → ℝ)
    (ha : ∀ k, (a k (ix3 0 b l) : EReal) = (r k : EReal)) (n : ℕ) :
    ((light a n).1 (ix2 b l) : EReal) = (left r n : EReal)
      ∧ ((light a n).2 (ix2 b l) : EReal) = most (fun k => ((r k * left r k.val : ℝ) : EReal)) n := by
  have hw : ∀ (k : Fin 128) (t : FVec Ideal S8x128 .f32), (weight (a k) t (ix2 b l) : EReal) = (a k (ix3 0 b l) : EReal) * (t (ix2 b l) : EReal) := by
    intro k t; pointwise [weight]
  induction n with
  | zero => exact ⟨Ideal.ofBits_one_f32, Ideal.ofBits_zero_f32⟩
  | succ n ih =>
    rw [light, left, most]
    by_cases h : n < 128
    · rw [dif_pos h, dif_pos h, dif_pos h]
      constructor
      · show ((light a n).1 (ix2 b l) : EReal) - (weight (a ⟨n, h⟩) (light a n).1 (ix2 b l) : EReal) = _
        rw [hw, ha, ih.1, EReal.coe_sub, EReal.coe_mul]
      · show max ((light a n).2 (ix2 b l) : EReal) (weight (a ⟨n, h⟩) (light a n).1 (ix2 b l) : EReal) = _
        rw [hw, ha, ih.1, ih.2, EReal.coe_mul]
    · rw [dif_neg h, dif_neg h, dif_neg h]; exact ih

/-- The weight that the scan leaves in a slot: the opacity times what is left of the light before it. -/
theorem weightV_at (a : Fin 128 → FVec Ideal S1x8x128 .f32) (b : Fin 8) (l : Fin 128) (r : Fin 128 → ℝ)
    (ha : ∀ k, (a k (ix3 0 b l) : EReal) = (r k : EReal)) (k : Fin 128) :
    (weightV a k (ix2 b l) : EReal) = ((r k * left r k.val : ℝ) : EReal) := by
  have hw : (weightV a k (ix2 b l) : EReal) = (a k (ix3 0 b l) : EReal) * ((light a k.val).1 (ix2 b l) : EReal) := by
    unfold weightV; pointwise [weight]
  rw [hw, ha, (light_at a b l r ha _).1, EReal.coe_mul]

/-- 1 / 448, in single precision. -/
abbrev inv448 : EReal := Ideal.ofBits .f32 0x3B124925#32

/-- The scale at an index is that of the maximum there. -/
theorem scale_at {S : Shape} (x : FVec Ideal S .f32) (z : S.Idx) : (scaleOf x z : EReal) = sc ((x z : EReal) * inv448) := by
  unfold sc ex
  pointwise [scaleOf, isZero, expo]
  rfl
/-- The inverse scale at an index is that of the maximum there. -/
theorem inv_at {S : Shape} (x : FVec Ideal S .f32) (z : S.Idx) : (invOf x z : EReal) = iv ((x z : EReal) * inv448) := by
  unfold iv ex; rw [← c_neg_one]
  pointwise [invOf, isZero, expo]
  rfl

/-- A code at an index is the clipped number. -/
theorem code_at {S : Shape} (x : FVec Ideal S .f32) (z : S.Idx) : (code x z : EReal) = clip (x z : EReal) := by
  unfold clip; rw [← c_448, ← c_neg_448]
  pointwise [code]

/-- The feature map at an index of the left half of the pixels. -/
theorem feat_at0 (w0 w1 : FVec Ideal S128x128 .f32) (i0 i1 : FVec Ideal S1x1x128 .f32) (fe : FVec Ideal S1x64x128 .fp8e4m3)
    (s0 s1 : FVec Ideal S1x1x128 .f32) (fsc : FVec Ideal S64x128 .f32) (f : Fin 64) (l : Fin 128) :
    (featOf w0 w1 i0 i1 fe s0 s1 fsc (ix2 f ⟨l.val, by omega⟩) : EReal)
      = (∑ k : Fin 128, (fe (ix3 0 f k) : EReal) * clip ((w0 (ix2 k l) : EReal) * (i0 (ix3 0 0 l) : EReal))) * (s0 (ix3 0 0 l) : EReal)
        * (fsc (ix2 f l) : EReal) := by
  unfold clip; rw [← c_448, ← c_neg_448]
  pointwise [featOf, wCode, code]

/-- The feature map at an index of the right half of the pixels. -/
theorem feat_at1 (w0 w1 : FVec Ideal S128x128 .f32) (i0 i1 : FVec Ideal S1x1x128 .f32) (fe : FVec Ideal S1x64x128 .fp8e4m3)
    (s0 s1 : FVec Ideal S1x1x128 .f32) (fsc : FVec Ideal S64x128 .f32) (f : Fin 64) (l : Fin 128) :
    (featOf w0 w1 i0 i1 fe s0 s1 fsc (ix2 f ⟨128 + l.val, by omega⟩) : EReal)
      = (∑ k : Fin 128, (fe (ix3 0 f k) : EReal) * clip ((w1 (ix2 k l) : EReal) * (i1 (ix3 0 0 l) : EReal))) * (s1 (ix3 0 0 l) : EReal)
        * (fsc (ix2 f l) : EReal) := by
  unfold clip; rw [← c_448, ← c_neg_448]
  pointwise [featOf, wCode, code]

/-- The maximum of a pixel's features. -/
theorem amax_at (x : FVec Ideal S64x256 .f32) (p : Fin 256) :
    (amaxOf x (ix2 0 p) : EReal) = Finset.fold max (Ideal.ofBits .f32 0xFF800000#32) (fun f : Fin 64 => FloatOps.absf (F := Ideal) (φ := .f32) (x (ix2 f p))) Finset.univ := by
  pointwise [amaxOf]

/-- A feature's code at an index. -/
theorem fCode_at (x : FVec Ideal S64x256 .f32) (f : Fin 64) (p : Fin 256) :
    (fCode x (ix2 f p) : EReal) = clip ((x (ix2 f p) : EReal) * iv ((amaxOf x (ix2 0 p) : EReal) * inv448)) := by
  rw [← inv_at]
  unfold clip; rw [← c_448, ← c_neg_448]
  pointwise [fCode, code]

/-- A feature's code times its scale, at an index. -/
theorem deq_at (x : FVec Ideal S64x256 .f32) (f : Fin 64) (p : Fin 256) :
    (deqOf x (ix2 f p) : EReal) = clip ((x (ix2 f p) : EReal) * iv ((amaxOf x (ix2 0 p) : EReal) * inv448)) * sc ((amaxOf x (ix2 0 p) : EReal) * inv448) := by
  rw [← fCode_at, ← scale_at]
  pointwise [deqOf]

/-- The decoder's result at an index: the sum over the 256 rows of the augmented product. -/
theorem y_at (x : FVec Ideal S64x256 .f32) (aug : FVec Ideal S256x384 .bf16) (p : Fin 256) (o : Fin 384) :
    (yOf x aug (ix2 p o) : EReal) = ∑ j : Fin 256, (if h : j.val < 64 then (deqOf x (ix2 ⟨j.val, h⟩ p) : EReal)
        else if h : j.val - 64 < 64 then (deqOf x (ix2 ⟨j.val - 64, h⟩ p) : EReal)
        else if h : j.val - 64 - 64 < 64 then (deqOf x (ix2 ⟨j.val - 64 - 64, h⟩ p) : EReal)
        else (onesOf (F := Ideal) (ix2 ⟨j.val - 64 - 64 - 64, by omega⟩ p) : EReal)) * (aug (ix2 j o) : EReal) := by
  pointwise [yOf]

/-- The channel scales, laid along the lanes. -/
theorem fsc_at (v : FVec Ideal S1x64 .f32) (f : Fin 64) (l : Fin 128) : (fscOf v (ix2 f l) : EReal) = (v (ix2 0 f) : EReal) := by
  pointwise [fscOf]

end Cert.KernelIdeal.Val
end
-- ==== Proof.RefHost.lean ====
/-
The reference's host operations, read at an index at the ideal instance: the weights it passes to the rest.
-/
module

public import proofs.«01_k».proof.Proof.Gen.ReferenceIdeal
public import proofs.«01_k».proof.Proof.Gen.ReferenceIdeal.Skeleton
public import proofs.«01_k».proof.Proof.Gen.ReferenceIdeal.Value
public import Idealize.ShloMosaic.Lib.StableHlo.ReadAt
public import Idealize.ShloMosaic.Lib.Pointwise.Tactic
public import Idealize.ShloMosaic.Lib.Pointwise.Reshape

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen

variable (m : (ℓ : Loc nD τ sig) → Buf (Elt Ideal) ℓ)

/-- Pixel `p`'s column, as a word. -/
theorem V_px (c : Dev nD) (p : Fin 256) : (V m c main_v1 : IVec S256 32) (ix1 p) = BitVec.ofNat 32 (p.val % 16) := by
  unfold V
  simp only [List.flatten_cons, List.flatten_nil, List.append_nil, List.cons_append, List.nil_append]
  after_reads_at
  revert p
  decide +kernel

/-- Pixel `p`'s row, as a word. -/
theorem V_py (c : Dev nD) (p : Fin 256) : (V m c main_v5 : IVec S256 32) (ix1 p) = BitVec.ofNat 32 (p.val / 16) := by
  unfold V
  simp only [List.flatten_cons, List.flatten_nil, List.append_nil, List.cons_append, List.nil_append]
  after_reads_at
  revert p
  decide +kernel

/-- An element of an array of the reference's shape. -/
abbrev at3 (f : FVec Ideal S3000x256x128 .f32) (n : Fin 3000) (p : Fin 256) (k : Fin 128) : EReal := f (ix3 n p k)

/-- The distance from a Gaussian's centre to a pixel's centre. -/
def dist (w : BitVec 32) (x : EReal) : EReal := FloatOps.sitofp (F := Ideal) FTy.f32 w + Ideal.ofBits FTy.f32 0x3F000000#32 - x

/-- The opacity of a Gaussian at a distance. -/
def opacity (op ca cb cc dx dy : EReal) : EReal :=
  Ideal.ofBits FTy.f32 0x3F7D70A4#32 ⊓
    op * Ideal.exp (Ideal.ofBits FTy.f32 0xBF000000#32 * (ca * dx * dx + cc * dy * dy) - cb * dx * dy)

theorem V_v57 (c : Dev nD) (n : Fin 3000) (p : Fin 256) (k : Fin 128) : at3 (V m c main_v57) n p k =
    Scalar.select (IntOp.cmpi .slt (BitVec.ofNat 32 k.val) ((m (c, Proc.tc.devRef main_arg3) : IVec S3000 32) (ix1 n)))
      (opacity ((m (c, Proc.tc.devRef main_arg2) : FVec Ideal S3000x128 .f32) (ix2 n k))
        ((m (c, Proc.tc.devRef main_arg1) : FVec Ideal S3000x128x3 .f32) (ix3 n k 0)) ((m (c, Proc.tc.devRef main_arg1) : FVec Ideal S3000x128x3 .f32) (ix3 n k 1))
        ((m (c, Proc.tc.devRef main_arg1) : FVec Ideal S3000x128x3 .f32) (ix3 n k 2))
        (dist ((V m c main_v1 : IVec S256 32) (ix1 p)) ((m (c, Proc.tc.devRef main_arg0) : FVec Ideal S3000x128x2 .f32) (ix3 n k 0)))
        (dist ((V m c main_v5 : IVec S256 32) (ix1 p)) ((m (c, Proc.tc.devRef main_arg0) : FVec Ideal S3000x128x2 .f32) (ix3 n k 1))))
      (0 : EReal) := by
  unfold V opacity dist
  simp only [List.flatten_cons, List.flatten_nil, List.append_nil, List.cons_append, List.nil_append]
  after_reads_at
  refine congr (congrArg (Scalar.select _) ?_) ?_
  · refine congr (congrArg (fun x y : EReal => x ⊓ y) ?_) (congr (congrArg (fun x y : EReal => x * y) ?_) (congrArg Ideal.exp (congr (congrArg (fun x y : EReal => x - y) (congr (congrArg (fun x y : EReal => x * y) ?_) (congr (congrArg (fun x y : EReal => x + y) ?_) ?_))) ?_)))
    · rfl
    · rfl
    · rfl
    · rfl
    · rfl
    · rfl
  · exact Ideal.ofBits_zero_f32

theorem V_v63 (c : Dev nD) (n : Fin 3000) (p : Fin 256) (k : Fin 128) : at3 (V m c main_v63) n p k =
    at3 (V m c main_v57) n p k * Ideal.exp (at3 (V m c main_v60) n p k
      - at3 (V m c main_v59) n p k) := by
  unfold V
  simp only [List.flatten_cons, List.flatten_nil, List.append_nil, List.cons_append, List.nil_append]
  after_reads_simp
  rfl

theorem V_v59 (c : Dev nD) (n : Fin 3000) (p : Fin 256) (k : Fin 128) : at3 (V m c main_v59) n p k =
    Ideal.log1p (-(at3 (V m c main_v57) n p k)) := by
  unfold V
  simp only [List.flatten_cons, List.flatten_nil, List.append_nil, List.cons_append, List.nil_append]
  after_reads_simp
  rfl

theorem V_v60 (c : Dev nD) : (V m c main_v60 : FVec Ideal S3000x256x128 .f32) =
    Host.reduceWindowAdd (F := Ideal) ![1, 1, 128] ![1, 1, 1] ![0, 0, 127] ![0, 0, 0] (V m c main_v59 : FVec Ideal S3000x256x128 .f32)
      (broadcastInDim S_ ![] bcast_S_S_ (constant (F := Ideal) S_ .f32 0x00000000#32)) reduceWindows_S3000x256x128_S3000x256x128_w1s1p0_0_w1s1p0_0_w128s1p127_0 h_S_ := by
  unfold V
  simp only [List.flatten_cons, List.flatten_nil, List.append_nil, List.cons_append, List.nil_append]
  after_reads_simp
  rfl

/-- A left fold that adds is a sum. -/
theorem foldl_add {α : Type} (g : α → EReal) (l : List α) (v : EReal) : l.foldl (fun r n => r + g n) v = v + (l.map g).sum := by
  induction l generalizing v with
  | nil => simp
  | cons a l ih => simp only [List.foldl_cons, List.map_cons, List.sum_cons]; rw [ih, add_assoc]

/-- The shape of a window of 128 along the last axis. -/
abbrev Win : Shape := ⟨3, ![1, 1, 128]⟩

theorem win_last (n : Fin Win.numel) : (Win.rowMajor.symm n 2).val = n.val := by
  have h := Win.rowMajor.apply_symm_apply n
  have h0 : (Win.rowMajor.symm n 0).val < 1 := (Win.rowMajor.symm n 0).isLt
  have h1 : (Win.rowMajor.symm n 1).val < 1 := (Win.rowMajor.symm n 1).isLt
  have h2 : ((Win.rowMajor.symm n 0).val * 1 + (Win.rowMajor.symm n 1).val) * 128 + (Win.rowMajor.symm n 2).val = n.val :=
    (Shape.rowMajor_val_three _).symm.trans (congrArg Fin.val h)
  omega

/-- The running sum along the last axis. -/
theorem cumsum_at (x : FVec Ideal S3000x256x128 .f32) (n : Fin 3000) (p : Fin 256) (k : Fin 128) :
    at3 (Host.reduceWindowAdd (F := Ideal) ![1, 1, 128] ![1, 1, 1] ![0, 0, 127] ![0, 0, 0] x
      (broadcastInDim S_ ![] bcast_S_S_ (constant (F := Ideal) S_ .f32 0x00000000#32)) reduceWindows_S3000x256x128_S3000x256x128_w1s1p0_0_w1s1p0_0_w128s1p127_0 h_S_) n p k
      = ∑ j : Fin 128, if j.val ≤ k.val then at3 x n p j else 0 := by
  have hv : (broadcastInDim S_ ![] bcast_S_S_ (constant (F := Ideal) S_ .f32 0x00000000#32)) (Shape.Idx.first h_S_) = (0 : EReal) := Ideal.ofBits_zero_f32
  have hn : Win.numel = 128 := by decide
  have key : ∀ q : Fin Win.numel, (if hin : ∀ a : Fin 3, (![0, 0, 127] : Fin 3 → Nat) a ≤ (ix3 n p k a).val * (![1, 1, 1] : Fin 3 → Nat) a + (Win.rowMajor.symm q a).val
        ∧ (ix3 n p k a).val * (![1, 1, 1] : Fin 3 → Nat) a + (Win.rowMajor.symm q a).val - (![0, 0, 127] : Fin 3 → Nat) a < S3000x256x128.size a
      then x (fun a => ⟨(ix3 n p k a).val * (![1, 1, 1] : Fin 3 → Nat) a + (Win.rowMajor.symm q a).val - (![0, 0, 127] : Fin 3 → Nat) a, (hin a).2⟩) else (0 : EReal))
      = if h : 127 ≤ k.val + q.val then at3 x n p ⟨k.val + q.val - 127, by have := q.isLt; omega⟩ else 0 := by
    intro q
    have h0 : (Win.rowMajor.symm q 0).val < 1 := (Win.rowMajor.symm q 0).isLt
    have h1 : (Win.rowMajor.symm q 1).val < 1 := (Win.rowMajor.symm q 1).isLt
    have h2 := win_last q
    have hq := q.isLt
    have hk := k.isLt
    by_cases h : 127 ≤ k.val + q.val
    · rw [dif_pos h, dif_pos]
      · refine congrArg x ?_
        funext a
        apply Fin.ext
        match a with
        | ⟨0, _⟩ => show n.val * 1 + (Win.rowMajor.symm q 0).val - 0 = n.val; omega
        | ⟨1, _⟩ => show p.val * 1 + (Win.rowMajor.symm q 1).val - 0 = p.val; omega
        | ⟨2, _⟩ => show k.val * 1 + (Win.rowMajor.symm q 2).val - 127 = k.val + q.val - 127; omega
      · intro a
        match a with
        | ⟨0, _⟩ => show 0 ≤ n.val * 1 + (Win.rowMajor.symm q 0).val ∧ n.val * 1 + (Win.rowMajor.symm q 0).val - 0 < 3000; omega
        | ⟨1, _⟩ => show 0 ≤ p.val * 1 + (Win.rowMajor.symm q 1).val ∧ p.val * 1 + (Win.rowMajor.symm q 1).val - 0 < 256; omega
        | ⟨2, _⟩ => show 127 ≤ k.val * 1 + (Win.rowMajor.symm q 2).val ∧ k.val * 1 + (Win.rowMajor.symm q 2).val - 127 < 128; omega
    · rw [dif_neg h, dif_neg]
      intro hin
      have := (hin 2).1
      have h3 : 127 ≤ k.val * 1 + (Win.rowMajor.symm q 2).val := this
      omega
  have e : at3 (Host.reduceWindowAdd (F := Ideal) ![1, 1, 128] ![1, 1, 1] ![0, 0, 127] ![0, 0, 0] x
      (broadcastInDim S_ ![] bcast_S_S_ (constant (F := Ideal) S_ .f32 0x00000000#32)) reduceWindows_S3000x256x128_S3000x256x128_w1s1p0_0_w1s1p0_0_w128s1p127_0 h_S_) n p k
      = (List.finRange Win.numel).foldl (fun r q => r + (if hin : ∀ a : Fin 3, (![0, 0, 127] : Fin 3 → Nat) a ≤ (ix3 n p k a).val * (![1, 1, 1] : Fin 3 → Nat) a + (Win.rowMajor.symm q a).val
        ∧ (ix3 n p k a).val * (![1, 1, 1] : Fin 3 → Nat) a + (Win.rowMajor.symm q a).val - (![0, 0, 127] : Fin 3 → Nat) a < S3000x256x128.size a
      then x (fun a => ⟨(ix3 n p k a).val * (![1, 1, 1] : Fin 3 → Nat) a + (Win.rowMajor.symm q a).val - (![0, 0, 127] : Fin 3 → Nat) a, (hin a).2⟩) else (0 : EReal))) (0 : EReal) := by
    unfold at3 Host.reduceWindowAdd
    rw [Ideal.hostReduceWindowAdd_def, hv]
    unfold Ideal.hostReduceWindowAdd Host.reduceWindow
    simp only []
    rfl
  rw [e]
  simp only [key]
  rw [foldl_add, zero_add, ← Fin.sum_univ_def]
  rw [← Finset.sum_filter]
  have hs : (∑ q : Fin Win.numel, if h : 127 ≤ k.val + q.val then at3 x n p ⟨k.val + q.val - 127, by have := q.isLt; omega⟩ else 0)
      = ∑ q ∈ Finset.univ.filter (fun q : Fin Win.numel => 127 ≤ k.val + q.val), at3 x n p ⟨k.val + q.val - 127, by have := q.isLt; omega⟩ := by
    rw [Finset.sum_filter]
    exact Finset.sum_congr rfl fun q _ => by split <;> rfl
  rw [hs]
  refine Finset.sum_bij (fun q _ => ⟨k.val + q.val - 127, by have := q.isLt; omega⟩) ?_ ?_ ?_ ?_
  · intro q hq
    have := q.isLt
    simp only [Finset.mem_filter, Finset.mem_univ, true_and] at hq ⊢
    omega
  · intro q hq q' hq' h
    simp only [Finset.mem_filter, Finset.mem_univ, true_and] at hq hq'
    have := congrArg Fin.val h
    apply Fin.ext
    simp only at this
    omega
  · intro j hj
    simp only [Finset.mem_filter, Finset.mem_univ, true_and] at hj
    have := k.isLt
    refine ⟨⟨j.val + 127 - k.val, by omega⟩, ?_, ?_⟩
    · simp only [Finset.mem_filter, Finset.mem_univ, true_and]; omega
    · apply Fin.ext; simp only; omega
  · intro q hq
    rfl

theorem V_v64 (c : Dev nD) (i : Fin 64) (j : Fin 384) : (V m c main_v64 : FVec Ideal S64x384 .fp8e4m3) (ix2 i j) =
    (m (c, Proc.tc.devRef main_arg6) : FVec Ideal S64x384 .f32) (ix2 i j) := by
  unfold V
  simp only [List.flatten_cons, List.flatten_nil, List.append_nil, List.cons_append, List.nil_append]
  after_reads_simp
  rfl

end Cert.ReferenceIdeal.Val

end
-- ==== Proof.RefAt.lean ====
/-
The reference's results at an index, at the ideal instance: its gridless call reads and writes whole arrays, and its
computed values are read operation by operation.
-/
module

public import proofs.«01_k».proof.Proof.RefHost
public import proofs.«01_k».proof.Proof.Math
public import Idealize.ShloMosaic.Lib.Pipeline.ValueKit
public import Idealize.ShloMosaic.Lib.Pointwise.Reduce
public import Idealize.ShloMosaic.Lib.Pointwise.Select
public import Idealize.ShloMosaic.Lib.Pointwise.Contract

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Math

variable (m : (ℓ : Loc nD τ sig) → Buf (Elt Ideal) ℓ)

/-! ### Whole arrays -/

/-- The call's only point. -/
def pt : Fin cfg0.N := ⟨0, by decide⟩

theorem emb0 (t : Fin cfg0.N) (z : S3000x256x128.Idx) : (((cfg0.win 0).blk t).view.emb z : S3000x256x128.Idx) = z := by
  funext a
  apply Fin.ext
  blk_simp
  exact (congrArg (· + (z a).val) (Nat.zero_mul _)).trans (Nat.zero_add _)

theorem read0 (t : Fin cfg0.N) (A : FVec Ideal S3000x256x128 .f32) : ((cfg0.win 0).blk t).view.read (Elt Ideal) A = A :=
  funext fun z => congrArg A (emb0 t z)

/-- Operand 0's block is its whole array. -/
theorem iblk0 (c : Dev nD) (t : Fin cfg0.N) : (iblk m c 0 t : FVec Ideal S3000x256x128 .f32) = V m c main_v63 := by
  unfold iblk
  exact read0 t (V m c main_v63)

theorem emb1 (t : Fin cfg0.N) (z : S3000x128x64.Idx) : (((cfg0.win 1).blk t).view.emb z : S3000x128x64.Idx) = z := by
  funext a
  apply Fin.ext
  blk_simp
  exact (congrArg (· + (z a).val) (Nat.zero_mul _)).trans (Nat.zero_add _)

theorem read1 (t : Fin cfg0.N) (A : FVec Ideal S3000x128x64 .fp8e4m3) : ((cfg0.win 1).blk t).view.read (Elt Ideal) A = A :=
  funext fun z => congrArg A (emb1 t z)

/-- Operand 1's block is its whole array. -/
theorem iblk1 (c : Dev nD) (t : Fin cfg0.N) : (iblk m c 1 t : FVec Ideal S3000x128x64 .fp8e4m3) = V m c main_arg4 := by
  unfold iblk
  exact read1 t (V m c main_arg4)

theorem emb2 (t : Fin cfg0.N) (z : S64.Idx) : (((cfg0.win 2).blk t).view.emb z : S64.Idx) = z := by
  funext a
  apply Fin.ext
  blk_simp
  exact (congrArg (· + (z a).val) (Nat.zero_mul _)).trans (Nat.zero_add _)

theorem read2 (t : Fin cfg0.N) (A : FVec Ideal S64 .f32) : ((cfg0.win 2).blk t).view.read (Elt Ideal) A = A :=
  funext fun z => congrArg A (emb2 t z)

/-- Operand 2's block is its whole array. -/
theorem iblk2 (c : Dev nD) (t : Fin cfg0.N) : (iblk m c 2 t : FVec Ideal S64 .f32) = V m c main_arg5 := by
  unfold iblk
  exact read2 t (V m c main_arg5)

theorem emb3 (t : Fin cfg0.N) (z : S64x384.Idx) : (((cfg0.win 3).blk t).view.emb z : S64x384.Idx) = z := by
  funext a
  apply Fin.ext
  blk_simp
  exact (congrArg (· + (z a).val) (Nat.zero_mul _)).trans (Nat.zero_add _)

theorem read3 (t : Fin cfg0.N) (A : FVec Ideal S64x384 .fp8e4m3) : ((cfg0.win 3).blk t).view.read (Elt Ideal) A = A :=
  funext fun z => congrArg A (emb3 t z)

/-- Operand 3's block is its whole array. -/
theorem iblk3 (c : Dev nD) (t : Fin cfg0.N) : (iblk m c 3 t : FVec Ideal S64x384 .fp8e4m3) = V m c main_v64 := by
  unfold iblk
  exact read3 t (V m c main_v64)

theorem emb4 (t : Fin cfg0.N) (z : S384.Idx) : (((cfg0.win 4).blk t).view.emb z : S384.Idx) = z := by
  funext a
  apply Fin.ext
  blk_simp
  exact (congrArg (· + (z a).val) (Nat.zero_mul _)).trans (Nat.zero_add _)

theorem read4 (t : Fin cfg0.N) (A : FVec Ideal S384 .f32) : ((cfg0.win 4).blk t).view.read (Elt Ideal) A = A :=
  funext fun z => congrArg A (emb4 t z)

/-- Operand 4's block is its whole array. -/
theorem iblk4 (c : Dev nD) (t : Fin cfg0.N) : (iblk m c 4 t : FVec Ideal S384 .f32) = V m c main_arg7 := by
  unfold iblk
  exact read4 t (V m c main_arg7)

theorem emb5 (t : Fin cfg0.N) (z : S384.Idx) : (((cfg0.win 5).blk t).view.emb z : S384.Idx) = z := by
  funext a
  apply Fin.ext
  blk_simp
  exact (congrArg (· + (z a).val) (Nat.zero_mul _)).trans (Nat.zero_add _)

theorem read5 (t : Fin cfg0.N) (A : FVec Ideal S384 .f32) : ((cfg0.win 5).blk t).view.read (Elt Ideal) A = A :=
  funext fun z => congrArg A (emb5 t z)

/-- Operand 5's block is its whole array. -/
theorem iblk5 (c : Dev nD) (t : Fin cfg0.N) : (iblk m c 5 t : FVec Ideal S384 .f32) = V m c main_arg8 := by
  unfold iblk
  exact read5 t (V m c main_arg8)

theorem out6_eq (x0 : FVec Ideal S3000x256x128 .f32) (x1 : FVec Ideal S3000x128x64 .fp8e4m3) (x2 : FVec Ideal S64 .f32) (x3 : FVec Ideal S64x384 .fp8e4m3)
    (x4 x5 : FVec Ideal S384 .f32) : out0_6 (F := Ideal) x0 x1 x2 x3 x4 x5 = k0_pay6 (k0_pay1 (F := Ideal) x0 x1 x2) (k0_pay2 (F := Ideal) x0 x1 x2) x3 x4 x5 := by
  unfold_out out0_6
  refine (View.canon_unit_zero (by funext a; match a with | ⟨0, _⟩ => rfl | ⟨1, _⟩ => rfl | ⟨2, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl), View.ld_unit_zero (by funext a; match a with | ⟨0, _⟩ => rfl), View.ld_unit_zero (by funext a; match a with | ⟨0, _⟩ => rfl | ⟨1, _⟩ => rfl), View.ld_unit_zero (by funext a; match a with | ⟨0, _⟩ => rfl), View.ld_unit_zero (by funext a; match a with | ⟨0, _⟩ => rfl)]

theorem emb6 (t : Fin cfg0.N) (z : S3000x256x384.Idx) : (((cfg0.win 6).blk t).view.emb z : S3000x256x384.Idx) = z := by
  funext a
  apply Fin.ext
  blk_simp
  exact (congrArg (· + (z a).val) (Nat.zero_mul _)).trans (Nat.zero_add _)

/-- Result 0's array after a run. -/
theorem arr6 (c : Dev nD) : ((dats m 0 c).arrAt 6 cfg0.N : FVec Ideal S3000x256x384 .bf16) = k0_pay6 (k0_pay1 (V m c main_v63) (V m c main_arg4) (V m c main_arg5)) (k0_pay2 (V m c main_v63) (V m c main_arg4) (V m c main_arg5)) (V m c main_v64) (V m c main_arg7) (V m c main_arg8) := by
  have hb := (Value.blocks6 m c pt rfl).trans (Value.flushed6 m c pt)
  rw [iblk0, iblk1, iblk2, iblk3, iblk4, iblk5, out6_eq] at hb
  have hr : ∀ A : FVec Ideal S3000x256x384 .bf16, ((cfg0.win 6).blk pt).view.read (Elt Ideal) A = A := fun A => funext fun z => congrArg A (emb6 pt z)
  have hc : ∀ X : FVec Ideal S3000x256x384 .bf16, (cfg0.win 6).cut (grid0.coords pt) X = X := fun X => rfl
  exact (hr _).symm.trans (hb.trans (hc _))

theorem out7_eq (x0 : FVec Ideal S3000x256x128 .f32) (x1 : FVec Ideal S3000x128x64 .fp8e4m3) (x2 : FVec Ideal S64 .f32) (x3 : FVec Ideal S64x384 .fp8e4m3)
    (x4 x5 : FVec Ideal S384 .f32) : out0_7 (F := Ideal) x0 x1 x2 x3 x4 x5 = k0_pay7 (k0_pay1 (F := Ideal) x0 x1 x2) (k0_pay2 (F := Ideal) x0 x1 x2) := by
  unfold_out out0_7
  refine (View.canon_unit_zero (by funext a; match a with | ⟨0, _⟩ => rfl | ⟨1, _⟩ => rfl | ⟨2, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl), View.ld_unit_zero (by funext a; match a with | ⟨0, _⟩ => rfl)]

theorem emb7 (t : Fin cfg0.N) (z : S3000x64x256.Idx) : (((cfg0.win 7).blk t).view.emb z : S3000x64x256.Idx) = z := by
  funext a
  apply Fin.ext
  blk_simp
  exact (congrArg (· + (z a).val) (Nat.zero_mul _)).trans (Nat.zero_add _)

/-- Result 1's array after a run. -/
theorem arr7 (c : Dev nD) : ((dats m 0 c).arrAt 7 cfg0.N : FVec Ideal S3000x64x256 .fp8e4m3) = k0_pay7 (k0_pay1 (V m c main_v63) (V m c main_arg4) (V m c main_arg5)) (k0_pay2 (V m c main_v63) (V m c main_arg4) (V m c main_arg5)) := by
  have hb := (Value.blocks7 m c pt rfl).trans (Value.flushed7 m c pt)
  rw [iblk0, iblk1, iblk2, iblk3, iblk4, iblk5, out7_eq] at hb
  have hr : ∀ A : FVec Ideal S3000x64x256 .fp8e4m3, ((cfg0.win 7).blk pt).view.read (Elt Ideal) A = A := fun A => funext fun z => congrArg A (emb7 pt z)
  have hc : ∀ X : FVec Ideal S3000x64x256 .fp8e4m3, (cfg0.win 7).cut (grid0.coords pt) X = X := fun X => rfl
  exact (hr _).symm.trans (hb.trans (hc _))

theorem out8_eq (x0 : FVec Ideal S3000x256x128 .f32) (x1 : FVec Ideal S3000x128x64 .fp8e4m3) (x2 : FVec Ideal S64 .f32) (x3 : FVec Ideal S64x384 .fp8e4m3)
    (x4 x5 : FVec Ideal S384 .f32) : out0_8 (F := Ideal) x0 x1 x2 x3 x4 x5 = k0_pay4 (k0_pay2 (F := Ideal) x0 x1 x2) := by
  unfold_out out0_8
  refine (View.canon_unit_zero (by funext a; match a with | ⟨0, _⟩ => rfl | ⟨1, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl), View.ld_unit_zero (by funext a; match a with | ⟨0, _⟩ => rfl)]

theorem emb8 (t : Fin cfg0.N) (z : S3000x256.Idx) : (((cfg0.win 8).blk t).view.emb z : S3000x256.Idx) = z := by
  funext a
  apply Fin.ext
  blk_simp
  exact (congrArg (· + (z a).val) (Nat.zero_mul _)).trans (Nat.zero_add _)

/-- Result 2's array after a run. -/
theorem arr8 (c : Dev nD) : ((dats m 0 c).arrAt 8 cfg0.N : FVec Ideal S3000x256 .f32) = k0_pay4 (k0_pay2 (V m c main_v63) (V m c main_arg4) (V m c main_arg5)) := by
  have hb := (Value.blocks8 m c pt rfl).trans (Value.flushed8 m c pt)
  rw [iblk0, iblk1, iblk2, iblk3, iblk4, iblk5, out8_eq] at hb
  have hr : ∀ A : FVec Ideal S3000x256 .f32, ((cfg0.win 8).blk pt).view.read (Elt Ideal) A = A := fun A => funext fun z => congrArg A (emb8 pt z)
  have hc : ∀ X : FVec Ideal S3000x256 .f32, (cfg0.win 8).cut (grid0.coords pt) X = X := fun X => rfl
  exact (hr _).symm.trans (hb.trans (hc _))

/-! ### At an index -/

/-- 1 / 448, in single precision. -/
abbrev inv448 : EReal := Ideal.ofBits .f32 0x3B124925#32

/-- The greatest absolute value of a pixel's weights, over 448. -/
def wmax (w : FVec Ideal S3000x256x128 .f32) (n : Fin 3000) (p : Fin 256) : EReal :=
  Finset.fold max (Ideal.ofBits .f32 0xFF800000#32) (fun k : Fin 128 => (absf (F := Ideal) w (ix3 n p k) : EReal)) Finset.univ * inv448

theorem max2_at {n0 n1 n2 : ℕ} (x : FVec Ideal (⟨3, ![n0, n1, n2]⟩ : Shape) .f32) (h : (⟨3, ![n0, n1, n2]⟩ : Shape).Reduces [2] ⟨2, ![n0, n1]⟩) (h1) (h2)
    (a : Fin n0) (b : Fin n1) :
    (multiReduction (F := Ideal) .maximumf [2] (⟨2, ![n0, n1]⟩ : Shape) x 0xFF800000#32 h h1 h2 (ix2 a b) : EReal)
      = Finset.fold max (Ideal.ofBits .f32 0xFF800000#32) (fun k : Fin n2 => (x (ix3 a b k) : EReal)) Finset.univ := by
  pointwise []

theorem over_at (M : FVec Ideal S3000x256 .f32) (n : Fin 3000) (p : Fin 256) :
    (mulf M (broadcast S3000x256 (Scalar.ofBits (F := Ideal) .f32 0x3B124925#32)) (ix2 n p) : EReal) = (M (ix2 n p) : EReal) * inv448 := rfl

theorem max128_at (x : FVec Ideal S3000x256x128 .f32) (h1) (h2) (n : Fin 3000) (p : Fin 256) :
    (multiReduction (F := Ideal) .maximumf [2] S3000x256 x 0xFF800000#32 reduces_S3000x256x128_S3000x256 h1 h2 (ix2 n p) : EReal)
      = Finset.fold max (Ideal.ofBits .f32 0xFF800000#32) (fun k : Fin 128 => (x (ix3 n p k) : EReal)) Finset.univ :=
  max2_at x _ h1 h2 n p

theorem max64_at (x : FVec Ideal S3000x256x64 .f32) (h1) (h2) (n : Fin 3000) (p : Fin 256) :
    (multiReduction (F := Ideal) .maximumf [2] S3000x256 x 0xFF800000#32 reduces_S3000x256x64_S3000x256 h1 h2 (ix2 n p) : EReal)
      = Finset.fold max (Ideal.ofBits .f32 0xFF800000#32) (fun k : Fin 64 => (x (ix3 n p k) : EReal)) Finset.univ :=
  max2_at x _ h1 h2 n p

/-- The greatest absolute values over 448, of the weights and of the features. -/
def wmaxV (w : FVec Ideal S3000x256x128 .f32) : FVec Ideal S3000x256 .f32 :=
  mulf (multiReduction .maximumf [2] S3000x256 (absf w) 0xFF800000#32 reduces_S3000x256x128_S3000x256 (.inl rfl) rfl)
    (broadcast S3000x256 (Scalar.ofBits .f32 0x3B124925#32))
def fmaxV (x : FVec Ideal S3000x256x64 .f32) : FVec Ideal S3000x256 .f32 :=
  mulf (multiReduction .maximumf [2] S3000x256 (absf x) 0xFF800000#32 reduces_S3000x256x64_S3000x256 (.inl rfl) rfl)
    (broadcast S3000x256 (Scalar.ofBits .f32 0x3B124925#32))

/-- The feature map of weights `w` whose greatest absolute values over 448 are `x`. -/
def featR (w : FVec Ideal S3000x256x128 .f32) (x : FVec Ideal S3000x256 .f32) (fe : FVec Ideal S3000x128x64 .fp8e4m3) (fsc : FVec Ideal S64 .f32) :
    FVec Ideal S3000x256x64 .f32 :=
  mulf (mulf (matmul dot_S3000x256x128_S3000x128x64_S3000x256x64_2_1_1_2_0_0 none
      (truncf .fp8e4m3 (minimumf (broadcast S3000x256x128 (Scalar.ofBits .f32 0x43E00000#32))
        (maximumf (broadcast S3000x256x128 (Scalar.ofBits .f32 0xC3E00000#32))
          (mulf w (broadcastTo S3000x256x128 (shapeCast S3000x256x1 (exp2 (subf (broadcast S3000x256 (Scalar.ofBits .f32 0x00000000#32)) (k0_pay3 (F := Ideal) x)))
            shapeCasts_S3000x256_S3000x256x1) broadcasts_S3000x256x1_S3000x256x128)))) bitsLt_fp8e4m3_f32) fe (constant S3000x256x64 .f32 0x00000000#32))
    (broadcastTo S3000x256x64 (shapeCast S3000x256x1 (k0_pay4 (F := Ideal) x) shapeCasts_S3000x256_S3000x256x1) broadcasts_S3000x256x1_S3000x256x64))
    (broadcastTo S3000x256x64 (shapeCast S1x1x64 fsc shapeCasts_S64_S1x1x64) broadcasts_S1x1x64_S3000x256x64)

theorem wmaxV_at (w : FVec Ideal S3000x256x128 .f32) (n : Fin 3000) (p : Fin 256) : (wmaxV w (ix2 n p) : EReal) = wmax w n p := by
  unfold wmaxV wmax
  rw [over_at]
  exact congrArg (fun u : EReal => u * inv448) (max128_at (absf w) _ _ n p)

theorem fmaxV_at (x : FVec Ideal S3000x256x64 .f32) (n : Fin 3000) (p : Fin 256) :
    (fmaxV x (ix2 n p) : EReal) = Finset.fold max (Ideal.ofBits .f32 0xFF800000#32) (fun f : Fin 64 => (absf x (ix3 n p f) : EReal)) Finset.univ * inv448 := by
  unfold fmaxV
  rw [over_at]
  exact congrArg (fun u : EReal => u * inv448) (max64_at (absf x) _ _ n p)

theorem pay1_eq (w : FVec Ideal S3000x256x128 .f32) (fe : FVec Ideal S3000x128x64 .fp8e4m3) (fsc : FVec Ideal S64 .f32) :
    k0_pay1 (F := Ideal) w fe fsc = featR w (wmaxV w) fe fsc := by
  unfold k0_pay1
  rw [shapeCast_self w]
  rfl

theorem pay2_eq (w : FVec Ideal S3000x256x128 .f32) (fe : FVec Ideal S3000x128x64 .fp8e4m3) (fsc : FVec Ideal S64 .f32) :
    k0_pay2 (F := Ideal) w fe fsc = fmaxV (k0_pay1 (F := Ideal) w fe fsc) := rfl

theorem pay4_at (x : FVec Ideal S3000x256 .f32) (n : Fin 3000) (p : Fin 256) :
    (k0_pay4 (F := Ideal) x (ix2 n p) : EReal) = sc (x (ix2 n p)) := by
  rw [← sc_ref]
  unfold ex
  pointwise [k0_pay4, k0_pay3]
  rfl

theorem pay5_at (v : FVec Ideal S3000x256x64 .f32) (x : FVec Ideal S3000x256 .f32) (n : Fin 3000) (p : Fin 256) (f : Fin 64) :
    (k0_pay5 (F := Ideal) v x (ix3 n p f) : EReal) = clip ((v (ix3 n p f) : EReal) * iv (x (ix2 n p))) := by
  rw [← iv_ref]
  unfold clip ex; rw [← c_448, ← c_neg_448]
  pointwise [k0_pay5, k0_pay3]
  rfl

theorem pay7_at (v : FVec Ideal S3000x256x64 .f32) (x : FVec Ideal S3000x256 .f32) (n : Fin 3000) (p : Fin 256) (f : Fin 64) :
    (k0_pay7 (F := Ideal) v x (ix3 n f p) : EReal) = clip ((v (ix3 n p f) : EReal) * iv (x (ix2 n p))) := by
  rw [← pay5_at]
  pointwise [k0_pay7]

theorem inv_pay3 (x : FVec Ideal S3000x256 .f32) (n : Fin 3000) (p : Fin 256) :
    Ideal.exp2 ((0 : EReal) - (k0_pay3 (F := Ideal) x (ix2 n p) : EReal)) = iv (x (ix2 n p)) := by
  rw [← iv_ref]
  unfold ex
  pointwise [k0_pay3]
  rfl

theorem featR_at (w : FVec Ideal S3000x256x128 .f32) (x : FVec Ideal S3000x256 .f32) (fe : FVec Ideal S3000x128x64 .fp8e4m3) (fsc : FVec Ideal S64 .f32)
    (n : Fin 3000) (p : Fin 256) (f : Fin 64) :
    (featR w x fe fsc (ix3 n p f) : EReal)
      = (∑ k : Fin 128, clip ((w (ix3 n p k) : EReal) * iv (x (ix2 n p))) * (fe (ix3 n k f) : EReal)) * sc (x (ix2 n p)) * (fsc (ix1 f) : EReal) := by
  rw [← pay4_at, ← inv_pay3]
  unfold clip; rw [← c_448, ← c_neg_448]
  pointwise [featR]
  rfl

/-- The feature map of the reference at an index. -/
theorem pay1_at (w : FVec Ideal S3000x256x128 .f32) (fe : FVec Ideal S3000x128x64 .fp8e4m3) (fsc : FVec Ideal S64 .f32)
    (n : Fin 3000) (p : Fin 256) (f : Fin 64) :
    (k0_pay1 (F := Ideal) w fe fsc (ix3 n p f) : EReal)
      = (∑ k : Fin 128, clip ((w (ix3 n p k) : EReal) * iv (wmax w n p)) * (fe (ix3 n k f) : EReal)) * sc (wmax w n p) * (fsc (ix1 f) : EReal) := by
  rw [pay1_eq, featR_at, wmaxV_at]

/-- The greatest absolute feature of a pixel over 448. -/
theorem pay2_at (w : FVec Ideal S3000x256x128 .f32) (fe : FVec Ideal S3000x128x64 .fp8e4m3) (fsc : FVec Ideal S64 .f32)
    (n : Fin 3000) (p : Fin 256) :
    (k0_pay2 (F := Ideal) w fe fsc (ix2 n p) : EReal)
      = Finset.fold max (Ideal.ofBits .f32 0xFF800000#32) (fun f : Fin 64 => (absf (k0_pay1 (F := Ideal) w fe fsc) (ix3 n p f) : EReal)) Finset.univ * inv448 := by
  rw [pay2_eq, fmaxV_at]

theorem pay6_at (v : FVec Ideal S3000x256x64 .f32) (x : FVec Ideal S3000x256 .f32) (d : FVec Ideal S64x384 .fp8e4m3) (s b : FVec Ideal S384 .f32)
    (n : Fin 3000) (p : Fin 256) (o : Fin 384) :
    (k0_pay6 (F := Ideal) v x d s b (ix3 n p o) : EReal)
      = (∑ f : Fin 64, clip ((v (ix3 n p f) : EReal) * iv (x (ix2 n p))) * (d (ix2 f o) : EReal)) * sc (x (ix2 n p)) * (s (ix1 o) : EReal) + (b (ix1 o) : EReal) := by
  simp only [← pay5_at, ← pay4_at]
  pointwise [k0_pay6]

end Cert.ReferenceIdeal.Val

end
-- ==== Proof.Equal.lean ====
/-
The kernel's and the reference's values are the same, element by element, at the ideal instance: first a Gaussian's
opacity at a pixel, then the weights and the feature map made of them, then the three results. The two programs' memories
agree on the arguments, and the arguments are as the precondition says (`Tame`).
-/
module

public import proofs.«01_k».proof.Proof.KernelIdealAt
public import proofs.«01_k».proof.Proof.RefAt
public import proofs.«01_k».proof.Defs
public import proofs.«01_k».proof.Proof.Gen.Pre_tame

@[expose] public section

set_option maxRecDepth 16384

noncomputable section

namespace Cert.Equal

open Idealize.ShloMosaic Idealize.ShloMosaic.TcCoe Idealize.ShloMosaic.Tactic
open Cert.Math

/-- A bit is 0 or 1. -/
theorem bit (w : BitVec 1) : w = 0#1 ∨ w = 1#1 := by revert w; decide

/-- A small natural number, as a word, converts to the float of that number. -/
theorem sitofp_small (a : ℕ) (h : a < 256) : FloatOps.sitofp (F := Ideal) FTy.f32 (BitVec.ofNat 32 a) = (((a : ℝ)) : EReal) := by
  have e : (BitVec.ofNat 32 a).toInt = (a : ℤ) := by
    rw [BitVec.toInt_eq_toNat_of_lt (by rw [BitVec.toNat_ofNat]; omega), BitVec.toNat_ofNat]; omega
  show (((BitVec.ofNat 32 a).toInt : ℝ) : EReal) = _
  rw [e]; norm_cast

/-- One Gaussian at one pixel: the kernel's and the reference's opacity are one real number from 0 to below 1. -/
theorem alpha_eq (len : BitVec 32) (k : ℕ) (op ca cb cc mx my : ℝ) (hop : 0 ≤ op) (p : Fin 256) (M : Fin 24 → EReal)
    (hM : ∀ j : Fin 24, j.val < 18 → M j = (((Cert.KernelIdeal.Val.mono4 (j.val / 3) p.val : ℝ) / 4 : ℝ) : EReal)) (C : Fin 6 → EReal)
    (hC : C = kcoef (Cert.KernelIdeal.Val.liveAt len (op : EReal) k) ((mx : EReal) - ((8 : ℝ) : EReal)) ((my : EReal) - ((8 : ℝ) : EReal))
      (ca * L) (cb * L) (cc * L) op) :
    ∃ r : ℝ, (0 ≤ r ∧ r < 1)
      ∧ min (Ideal.ofBits .f32 0x3F7D70A4#32)
          (Ideal.exp2 (∑ j : Fin 24, (if h : j.val < 18 then pc ⟨j.val % 3, by omega⟩ (C ⟨j.val / 3, by omega⟩) else 0) * M j)) = (r : EReal)
      ∧ Scalar.select (IntOp.cmpi .slt (BitVec.ofNat 32 k) len)
          (Cert.ReferenceIdeal.Val.opacity op ca cb cc (Cert.ReferenceIdeal.Val.dist (BitVec.ofNat 32 (p.val % 16)) mx)
            (Cert.ReferenceIdeal.Val.dist (BitVec.ofNat 32 (p.val / 16)) my)) (0 : EReal) = (r : EReal) := by
  obtain ⟨g, hg, hg0, hg1⟩ := c_99
  have hM15 : M ⟨15, by omega⟩ = 1 := by
    rw [hM ⟨15, by omega⟩ (by decide)]
    show ((((4 : ℤ) : ℝ) / 4 : ℝ) : EReal) = 1
    norm_num
  have hdead : C = kcoef 0#1 ((mx : EReal) - ((8 : ℝ) : EReal)) ((my : EReal) - ((8 : ℝ) : EReal)) (ca * L) (cb * L) (cc * L) op →
      min (Ideal.ofBits .f32 0x3F7D70A4#32)
          (Ideal.exp2 (∑ j : Fin 24, (if h : j.val < 18 then pc ⟨j.val % 3, by omega⟩ (C ⟨j.val / 3, by omega⟩) else 0) * M j)) = ((0 : ℝ) : EReal) := by
    intro h
    rw [kalpha_dead _ _ _ _ _ _ M hM15 C h, hg]
    exact min_eq_right (by exact_mod_cast hg0.le)
  unfold Cert.KernelIdeal.Val.liveAt at hC
  unfold Cert.ReferenceIdeal.Val.opacity Cert.ReferenceIdeal.Val.dist
  rw [sitofp_small _ (by have := p.isLt; omega), sitofp_small _ (by have := p.isLt; omega), c_half, c_neg_half]
  have hdx : ∀ (a : ℕ) (x : ℝ), ((a : ℝ) : EReal) + ((1 / 2 : ℝ) : EReal) - (x : EReal) = (((a : ℝ) + 1 / 2 - x : ℝ) : EReal) := fun a x => by
    rw [EReal.coe_sub, EReal.coe_add]
  rw [hdx, hdx]
  generalize hw : IntOp.cmpi .slt (BitVec.ofNat 32 k) len = w at hC ⊢
  rcases bit w with rfl | rfl
  · refine ⟨0, ⟨le_refl _, zero_lt_one⟩, hdead ?_, rfl⟩
    rw [hC]
    congr 1
    generalize BitVec.ofBool _ = v
    rcases bit v with rfl | rfl <;> decide
  · by_cases h0 : op = 0
    · subst h0
      refine ⟨0, ⟨le_refl _, zero_lt_one⟩, hdead ?_, ?_⟩
      · rw [hC]
        congr 1
        rw [decide_eq_false (by rw [EReal.coe_zero]; exact lt_irrefl _)]
        decide
      · show min _ (((0 : ℝ) : EReal) * _) = _
        rw [hg, EReal.coe_zero, zero_mul]
        exact min_eq_right (by exact_mod_cast hg0.le)
    · have hpos : 0 < op := lt_of_le_of_ne hop (Ne.symm h0)
      set P : ℝ := -(1 / 2) * (ca * (((p.val % 16 : ℕ) : ℝ) + 1 / 2 - mx) * (((p.val % 16 : ℕ) : ℝ) + 1 / 2 - mx) + cc * (((p.val / 16 : ℕ) : ℝ) + 1 / 2 - my) * (((p.val / 16 : ℕ) : ℝ) + 1 / 2 - my))
          - cb * (((p.val % 16 : ℕ) : ℝ) + 1 / 2 - mx) * (((p.val / 16 : ℕ) : ℝ) + 1 / 2 - my) with hP
      refine ⟨min g (op * Real.exp P), ⟨le_min hg0.le (by positivity), lt_of_le_of_lt (min_le_left _ _) hg1⟩, ?_, ?_⟩
      · rw [kalpha_live ca cb cc mx my op ((p.val % 16 : ℕ) : ℝ) ((p.val / 16 : ℕ) : ℝ) hpos M (fun q => (Cert.KernelIdeal.Val.mono4 q.val p.val : ℝ) / 4) hM ?_ C ?_, hg, coe_min]
        · generalize ha : p.val % 16 = a
          generalize hb : p.val / 16 = b
          have e0 : ((Cert.KernelIdeal.Val.px2 p.val : ℤ) : ℝ) = 2 * (a : ℝ) - 15 := by
            unfold Cert.KernelIdeal.Val.px2; rw [ha, Int.cast_sub, Int.cast_mul, Int.cast_natCast]; norm_num
          have e1 : ((Cert.KernelIdeal.Val.py2 p.val : ℤ) : ℝ) = 2 * (b : ℝ) - 15 := by
            unfold Cert.KernelIdeal.Val.py2; rw [hb, Int.cast_sub, Int.cast_mul, Int.cast_natCast]; norm_num
          refine ⟨?_, ?_, ?_, ?_, ?_, ?_⟩
          · show ((Cert.KernelIdeal.Val.px2 p.val * Cert.KernelIdeal.Val.px2 p.val : ℤ) : ℝ) / 4 = _
            rw [Int.cast_mul, e0]; ring
          · show ((Cert.KernelIdeal.Val.px2 p.val * Cert.KernelIdeal.Val.py2 p.val : ℤ) : ℝ) / 4 = _
            rw [Int.cast_mul, e0, e1]; ring
          · show ((Cert.KernelIdeal.Val.py2 p.val * Cert.KernelIdeal.Val.py2 p.val : ℤ) : ℝ) / 4 = _
            rw [Int.cast_mul, e1]; ring
          · show ((2 * Cert.KernelIdeal.Val.px2 p.val : ℤ) : ℝ) / 4 = _
            rw [Int.cast_mul, e0]; norm_num; ring
          · show ((2 * Cert.KernelIdeal.Val.py2 p.val : ℤ) : ℝ) / 4 = _
            rw [Int.cast_mul, e1]; norm_num; ring
          · show ((4 : ℤ) : ℝ) / 4 = 1
            norm_num
        · rw [hC]
          congr 1
          rw [decide_eq_true (by exact_mod_cast hpos)]
          decide
      · show min _ ((op : EReal) * _) = _
        rw [hg, coe_min, EReal.coe_mul]
        refine congrArg (fun u : EReal => min (g : EReal) ((op : EReal) * u)) ?_
        rw [hP]
        simp only [← EReal.coe_mul, ← EReal.coe_add, ← EReal.coe_sub]
        rfl

/-- Infinity. -/
theorem inf_top : Ideal.ofBits .f32 0x7F800000#32 = (⊤ : EReal) := by
  unfold Ideal.ofBits Ideal.ieee
  dsimp only
  rw [if_pos (by decide +kernel)]
  decide +kernel

/-- A number whose absolute value is below infinity is real. -/
theorem real_of_abs {S : Shape} (x : FVec Ideal S .f32) (z : S.Idx) (h : BitVec.ofBool (decide (max (x z : EReal) (-(x z : EReal)) < Ideal.ofBits .f32 0x7F800000#32)) = 1#1) :
    ∃ r : ℝ, (x z : EReal) = r := by
  generalize hx : (x z : EReal) = y at h
  rw [inf_top] at h
  by_cases hlt : max y (-y) < ⊤
  · induction y using EReal.rec with
    | bot => exact absurd hlt (by simp)
    | top => exact absurd hlt (by simp)
    | coe r => exact ⟨r, rfl⟩
  · rw [decide_eq_false hlt] at h
    exact absurd h (by decide)

/-- Products of equal factors are equal. -/
theorem mul_congr' {a b c d : EReal} (h : a = c) (h' : b = d) : a * b = c * d := by rw [h, h']

/-- The scale's argument of the weights of opacities `r`. -/
def wm (r : Fin 128 → ℝ) : EReal := most (fun k => ((r k * left r k.val : ℝ) : EReal)) 128 * Cert.KernelIdeal.Val.inv448

/-- A feature from a pixel's opacities. -/
def feature (r : Fin 128 → ℝ) (fe : Fin 128 → EReal) (s : EReal) : EReal :=
  (∑ k : Fin 128, clip (((r k * left r k.val : ℝ) : EReal) * iv (wm r)) * fe k) * sc (wm r) * s

section Kernel
open Cert.KernelIdeal Cert.KernelIdeal.Gen Cert.KernelIdeal.Val
open Cert.KernelIdeal.Hand hiding frame run_main dats
variable (m : (ℓ : Loc nD τ sig) → Buf (Elt Ideal) ℓ)

/-- Elements of the arguments. -/
abbrev mean (c : Dev nD) (n : Fin 3000) (k : Fin 128) (j : Fin 2) : EReal := (m ((c : Thread nD τ).loc main_arg0) : FVec Ideal S3000x128x2 .f32) (ix3 n k j)
abbrev conic (c : Dev nD) (n : Fin 3000) (k : Fin 128) (j : Fin 3) : EReal := (m ((c : Thread nD τ).loc main_arg1) : FVec Ideal S3000x128x3 .f32) (ix3 n k j)
abbrev opac0 (c : Dev nD) (n : Fin 3000) (k : Fin 128) : EReal := (m ((c : Thread nD τ).loc main_arg2) : FVec Ideal S3000x128 .f32) (ix2 n k)
abbrev dec0 (c : Dev nD) (f : Fin 64) (o : Fin 384) : EReal := (m ((c : Thread nD τ).loc main_arg6) : FVec Ideal S64x384 .f32) (ix2 f o)
abbrev scale0 (c : Dev nD) (o : Fin 384) : EReal := (m ((c : Thread nD τ).loc main_arg7) : FVec Ideal S384 .f32) (ix1 o)
abbrev bias0 (c : Dev nD) (o : Fin 384) : EReal := (m ((c : Thread nD τ).loc main_arg8) : FVec Ideal S384 .f32) (ix1 o)
abbrev len0 (c : Dev nD) (n : Fin 3000) : BitVec 32 := (m ((c : Thread nD τ).loc main_arg3) : IVec S3000 32) (ix1 n)

/-- The pixels of each half. -/
def lo (l : Fin 128) : Fin 256 := ⟨l.val, by omega⟩
def hi (l : Fin 128) : Fin 256 := ⟨128 + l.val, by omega⟩

/-- A feature of the kernel. -/
theorem featM_at (hO : Ok m) (c : Dev nD) (t : Fin (cfgM m hO).N) (b : Fin 8) (p : Fin 256) (r : Fin 128 → ℝ)
    (hr : ∀ k : Fin 128, (alphaV (grid0.coords t) (ctsOf m hO c t) b (ix2 k p) : EReal) = (r k : EReal)) (f : Fin 64) :
    (featM m hO c t b (ix2 f p) : EReal) = feature r (fun k => ((m ((c : Thread nD τ).loc main_arg4) : FVec Ideal S3000x128x64 .fp8e4m3) (ix3 (row m t b) k f) : EReal))
      ((m ((c : Thread nD τ).loc main_arg5) : FVec Ideal S64 .f32) (ix1 f)) := by
  have hfe : ∀ k : Fin 128, (feV (ctsOf m hO c t) b (ix3 0 f k) : EReal) = ((m ((c : Thread nD τ).loc main_arg4) : FVec Ideal S3000x128x64 .fp8e4m3) (ix3 (row m t b) k f) : EReal) := fun k => iblk3_at m hO c t b f k
  have hfs : ∀ l : Fin 128, (fscM m hO c (ix2 f l) : EReal) = ((m ((c : Thread nD τ).loc main_arg5) : FVec Ideal S64 .f32) (ix1 f)) := fun l => (fsc_at _ f l).trans (iblk5_at m hO c (pt0 m hO) 0 f)
  by_cases hp : p.val < 128
  · obtain ⟨l, rfl⟩ : ∃ l : Fin 128, p = lo l := ⟨⟨p.val, hp⟩, rfl⟩
    have ha : ∀ k, (opac (grid0.coords t) (ctsOf m hO c t) 0 k (ix3 0 b l) : EReal) = (r k : EReal) := fun k => by
      refine Eq.trans ?_ (hr k)
      refine congrArg (fun q : Fin 256 => alphaV (grid0.coords t) (ctsOf m hO c t) b (ix2 k q)) (Fin.ext ?_)
      show 128 * 0 + l.val = l.val
      omega
    have hl := (light_at _ b l r ha 128).2
    refine (feat_at0 _ _ _ _ _ _ _ _ f l).trans ?_
    refine mul_congr' (mul_congr' (Finset.sum_congr rfl fun k _ => ?_) ?_) (hfs l)
    · refine (mul_comm _ _).trans ?_
      refine mul_congr' (congrArg clip (mul_congr' (weightV_at _ b l r ha k) ?_)) (hfe k)
      refine (inv_at _ (ix2 b l)).trans ?_
      rw [hl]; rfl
    · refine (scale_at _ (ix2 b l)).trans ?_
      rw [hl]; rfl
  · obtain ⟨l, rfl⟩ : ∃ l : Fin 128, p = hi l := ⟨⟨p.val - 128, by omega⟩, Fin.ext (by show p.val = 128 + (p.val - 128); omega)⟩
    have ha : ∀ k, (opac (grid0.coords t) (ctsOf m hO c t) 1 k (ix3 0 b l) : EReal) = (r k : EReal) := fun k => by
      refine Eq.trans ?_ (hr k)
      refine congrArg (fun q : Fin 256 => alphaV (grid0.coords t) (ctsOf m hO c t) b (ix2 k q)) (Fin.ext ?_)
      show 128 * 1 + l.val = 128 + l.val
      omega
    have hl := (light_at _ b l r ha 128).2
    refine (feat_at1 _ _ _ _ _ _ _ _ f l).trans ?_
    refine mul_congr' (mul_congr' (Finset.sum_congr rfl fun k _ => ?_) ?_) (hfs l)
    · refine (mul_comm _ _).trans ?_
      refine mul_congr' (congrArg clip (mul_congr' (weightV_at _ b l r ha k) ?_)) (hfe k)
      refine (inv_at _ (ix2 b l)).trans ?_
      rw [hl]; rfl
    · refine (scale_at _ (ix2 b l)).trans ?_
      rw [hl]; rfl

/-- The pixels' monomials at a point. -/
theorem pix_at (hO : Ok m) (c : Dev nD) (t : Fin (cfgM m hO).N) (j : Fin 24) (p : Fin 256) (hj : j.val < 18) :
    ((ctsOf m hO c t) .m6 (ix2 j p) : EReal) = (((mono4 (j.val / 3) p.val : ℝ) / 4 : ℝ) : EReal) := by
  show (iblk m hO c 4 t : FVec Ideal S24x256 .f32) (ix2 j p) = _
  rw [Cert.KernelIdeal.Val.iblk4, V_pix]
  show Ideal.ofBits .f32 (lit0 (S24x256.rowMajor (ix2 j p))) = _
  rw [show S24x256.rowMajor (ix2 j p) = (⟨256 * j.val + p.val, by omega⟩ : Fin 6144) from
    Fin.ext (by rw [Shape.rowMajor_val_two]; show j.val * 256 + p.val = 256 * j.val + p.val; omega)]
  exact ofBits_quarter _ _ (lit_mono ⟨j.val, hj⟩ p)

/-- The lengths the body reads at a point, of the argument. -/
theorem len_at (hO : Ok m) (c : Dev nD) (t : Fin (cfgM m hO).N) (b : Fin 8) (k : Fin 128) :
    lensV (grid0.coords t) (ctsOf m hO c t) (ix2 b k) = (m ((c : Thread nD τ).loc main_arg3) : IVec S3000 32) (ix1 (row m t b)) := by
  obtain rfl : c = 0 := Subsingleton.elim _ _
  have h : (⟨8 * (grid0.coords t 0).val + b.val, by have := i_lt (grid0.coords t); omega⟩ : Fin 3000) = row m t b := by
    apply Fin.ext
    have h1 := row_eq m t b
    have h2 := i_lt (grid0.coords t)
    rw [← h1, BitVec.toNat_ofNat]
    show 8 * (grid0.coords t 0).val + b.val = _
    omega
  refine (congrArg (fun q : Fin 3000 => (tbl m 0 : IVec S3000 32) (ix1 q)) h).trans ?_
  exact congrFun (V_main_arg3 m 0) _

/-- The kernel's coefficients at a point. -/
theorem coefV_at (hO : Ok m) (c : Dev nD) (t : Fin (cfgM m hO).N) (b : Fin 8) (k : Fin 128) (q : Fin 6) :
    (coefV (grid0.coords t) (ctsOf m hO c t) q (ix2 b k) : EReal)
      = kcoef (liveAt (len0 m c (row m t b)) (opac0 m c (row m t b) k) k.val)
        (mean m c (row m t b) k 0 - ((8 : ℝ) : EReal)) (mean m c (row m t b) k 1 - ((8 : ℝ) : EReal))
        (conic m c (row m t b) k 0 * L) (conic m c (row m t b) k 1 * L) (conic m c (row m t b) k 2 * L) (opac0 m c (row m t b) k) q := by
  refine (coef_at _ _ _ _ _ _ _ q b k).trans ?_
  have e0 := iblk0_at m hO c t b 0 k
  have e1 := iblk0_at m hO c t b 1 k
  have e2 := iblk1_at m hO c t 0 b k
  have e3 := iblk1_at m hO c t 1 b k
  have e4 := iblk1_at m hO c t 2 b k
  have e5 := iblk2_at m hO c t b k
  unfold mean conic opac0 len0
  rw [live_at, len_at, ← e0, ← e1, ← e2, ← e3, ← e4, ← e5]
  rfl

end Kernel

section Reference
open Cert.ReferenceIdeal Cert.ReferenceIdeal.Gen Cert.ReferenceIdeal.Val
variable (m : (ℓ : Loc nD τ sig) → Buf (Elt Ideal) ℓ)

/-- The reference's weights from the opacities. -/
theorem refW_at (c : Dev nD) (n : Fin 3000) (p : Fin 256) (r : Fin 128 → ℝ) (hr : ∀ k, 0 ≤ r k ∧ r k < 1)
    (h : ∀ k, at3 (V m c main_v57) n p k = (r k : EReal)) (k : Fin 128) :
    at3 (V m c main_v63) n p k = ((r k * left r k.val : ℝ) : EReal) := by
  rw [V_v63, h]
  have e60 : at3 (V m c main_v60) n p k = ∑ j : Fin 128, if j ≤ k then Ideal.log1p (-(r j : EReal)) else 0 := by
    unfold at3
    rw [V_v60]
    refine (cumsum_at _ n p k).trans ?_
    refine Finset.sum_congr rfl fun j _ => ?_
    rw [V_v59, h]
    rfl
  rw [e60, V_v59, h, ref_light r hr k, EReal.coe_mul]

/-- The greatest weight over 448. -/
theorem wmax_at (w : FVec Ideal S3000x256x128 .f32) (n : Fin 3000) (p : Fin 256) (r : Fin 128 → ℝ) (hr : ∀ k, 0 ≤ r k ∧ r k < 1)
    (h : ∀ k, at3 w n p k = ((r k * left r k.val : ℝ) : EReal)) : wmax w n p = wm r := by
  have h0 : ∀ k : Fin 128, 0 ≤ r k * left r k.val := fun k => mul_nonneg (hr k).1 (left_nonneg r hr _)
  unfold wmax wm
  rw [c_bot, most_eq _ fun k => by exact_mod_cast h0 k]
  refine congrArg (fun u : EReal => u * _) ?_
  refine congrArg (fun g : Fin 128 → EReal => Finset.fold max (⊥ : EReal) g Finset.univ) (funext fun k => ?_)
  have h' : (w (ix3 n p k) : EReal) = ((r k * left r k.val : ℝ) : EReal) := h k
  show max (w (ix3 n p k) : EReal) (-(w (ix3 n p k) : EReal)) = _
  rw [h']
  refine max_eq_left ?_
  rw [← EReal.coe_neg]
  exact_mod_cast (by have := h0 k; linarith : -(r k * left r k.val) ≤ r k * left r k.val)

/-- A feature of the reference. -/
theorem ref_feat (w : FVec Ideal S3000x256x128 .f32) (fe : FVec Ideal S3000x128x64 .fp8e4m3) (fsc : FVec Ideal S64 .f32)
    (n : Fin 3000) (p : Fin 256) (r : Fin 128 → ℝ) (hr : ∀ k, 0 ≤ r k ∧ r k < 1)
    (h : ∀ k, at3 w n p k = ((r k * left r k.val : ℝ) : EReal)) (f : Fin 64) :
    (k0_pay1 (F := Ideal) w fe fsc (ix3 n p f) : EReal) = feature r (fun k => (fe (ix3 n k f) : EReal)) (fsc (ix1 f)) := by
  rw [pay1_at, wmax_at w n p r hr h]
  unfold feature
  refine mul_congr' (mul_congr' (Finset.sum_congr rfl fun k _ => ?_) rfl) rfl
  refine mul_congr' (congrArg clip (mul_congr' (h k) rfl)) rfl

end Reference

section Tame
open Cert.KernelIdeal

/-- A float that the precondition's test finds nonnegative and below infinity is a nonnegative real number. -/
theorem nonneg_real {S : Shape} (x : FVec Ideal S .f32) (z : S.Idx)
    (h : IntOp.andi (BitVec.ofBool (decide (Ideal.ofBits .f32 0x00000000#32 ≤ (x z : EReal)))) (BitVec.ofBool (decide ((x z : EReal) < Ideal.ofBits .f32 0x7F800000#32))) = 1#1) :
    ∃ r : ℝ, 0 ≤ r ∧ (x z : EReal) = r := by
  generalize hx : (x z : EReal) = y at h
  rw [Ideal.ofBits_zero_f32, inf_top] at h
  by_cases h0 : 0 ≤ y
  · by_cases h1 : y < ⊤
    · induction y using EReal.rec with
      | bot => exact absurd h0 (by simp)
      | top => exact absurd h1 (by simp)
      | coe r => exact ⟨r, by exact_mod_cast h0, rfl⟩
    · rw [decide_eq_false h1] at h
      generalize BitVec.ofBool _ = v at h
      rcases bit v with rfl | rfl <;> exact absurd h (by decide)
  · rw [decide_eq_false h0] at h
    generalize BitVec.ofBool (decide (y < ⊤)) = v at h
    rcases bit v with rfl | rfl <;> exact absurd h (by decide)

variable (m : (ℓ : Loc nD τ sig) → Buf (Elt Ideal) ℓ)

/-- What the precondition says of the arguments: finite centres, conics and decoder, finite opacities not below zero. -/
structure Tame (c : Dev nD) : Prop where
  mean : ∀ n k j, ∃ r : ℝ, mean m c n k j = r
  conic : ∀ n k j, ∃ r : ℝ, conic m c n k j = r
  opac : ∀ n k, ∃ r : ℝ, 0 ≤ r ∧ opac0 m c n k = r
  dec : ∀ f o, ∃ r : ℝ, dec0 m c f o = r
  scale : ∀ o, ∃ r : ℝ, scale0 m c o = r
  bias : ∀ o, ∃ r : ℝ, bias0 m c o = r

/-- The precondition gives, at every index, real means, conics, decoder codes, scales and biases, and nonnegative real opacities. -/
theorem tame (h : Cert.Pre_KernelIdeal_tame (hPre_tame := Cert.Pre_tame.Gen.facts) m) (c : Dev nD) : Tame m c := by
  obtain ⟨h0, h1, h2, h3, h4, h5⟩ := h c
  exact ⟨fun n k j => real_of_abs _ _ (congrFun h0 (ix3 n k j)), fun n k j => real_of_abs _ _ (congrFun h1 (ix3 n k j)),
    fun n k => nonneg_real _ _ (congrFun h2 (ix2 n k)), fun f o => real_of_abs _ _ (congrFun h3 (ix2 f o)),
    fun o => real_of_abs _ _ (congrFun h4 (ix1 o)), fun o => real_of_abs _ _ (congrFun h5 (ix1 o))⟩

end Tame

section Result
open Cert.KernelIdeal Cert.KernelIdeal.Gen Cert.KernelIdeal.Val
open Cert.KernelIdeal.Hand hiding frame run_main dats

/-- A piece of the decoder, at an index: that piece of the code times its column's scale. -/
theorem dec_at (r : Fin 3) (w : FVec Ideal S64x384 .fp8e4m3) (d : FVec Ideal S1x384 .f32) (j : Fin 64) (o : Fin 384) :
    (augRow (pieceN r (decOf w d)) (ix2 j o) : EReal) = pc r ((w (ix2 j o) : EReal) * (d (ix2 0 o) : EReal)) := by
  have h : ∀ x : FVec Ideal S64x384 .f32, (augRow x (ix2 j o) : EReal) = x (ix2 j o) := fun x => by pointwise [augRow]
  have h' : (decOf w d (ix2 j o) : EReal) = (w (ix2 j o) : EReal) * (d (ix2 0 o) : EReal) := by pointwise [decOf]
  rw [h, pieceN_at, h']

/-- The tail of the augmented decoder, at an index: the bias's three pieces in its first three rows, zero below. -/
theorem bias_at (b : FVec Ideal S1x384 .f32) (j : Fin 64) (o : Fin 384) :
    (augRow (biasOf (shapeCast S1x384 b shapeCasts_S1x384_S1x384)) (ix2 j o) : EReal)
      = Scalar.select (IntOp.cmpi .eq (BitVec.ofNat 32 j.val) 0#32) (pc 0 (b (ix2 0 o)))
        (Scalar.select (IntOp.cmpi .eq (BitVec.ofNat 32 j.val) 1#32) (pc 1 (b (ix2 0 o)))
          (Scalar.select (IntOp.cmpi .eq (BitVec.ofNat 32 j.val) 2#32) (pc 2 (b (ix2 0 o))) 0)) := by
  have h : ∀ x : FVec Ideal S64x384 .f32, (augRow x (ix2 j o) : EReal) = x (ix2 j o) := fun x => by pointwise [augRow]
  rw [h, shapeCast_self b]
  simp only [← pieceN_at]
  have h' : ∀ x0 x1 x2 : FVec Ideal S1x384 .f32, (select (cmpi .eq (iota .tc S64x384 32 [0] iota_S64x384_d0_w32) (broadcast S64x384 0#32)) (biasRow x0)
      (select (cmpi .eq (iota .tc S64x384 32 [0] iota_S64x384_d0_w32) (broadcast S64x384 1#32)) (biasRow x1)
      (select (cmpi .eq (iota .tc S64x384 32 [0] iota_S64x384_d0_w32) (broadcast S64x384 2#32)) (biasRow x2)
        (broadcast S64x384 (Scalar.ofBits (F := Ideal) .f32 0x00000000#32)))) (ix2 j o) : EReal)
      = Scalar.select (IntOp.cmpi .eq (BitVec.ofNat 32 j.val) 0#32) (x0 (ix2 0 o) : EReal)
        (Scalar.select (IntOp.cmpi .eq (BitVec.ofNat 32 j.val) 1#32) (x1 (ix2 0 o) : EReal)
          (Scalar.select (IntOp.cmpi .eq (BitVec.ofNat 32 j.val) 2#32) (x2 (ix2 0 o) : EReal) 0)) := fun x0 x1 x2 => by pointwise [biasRow]
  exact h' _ _ _

/-- The first row of the ones that stand against the bias pieces is one. -/
theorem ones_at (p : Fin 256) : (onesOf (F := Ideal) (ix2 0 p) : EReal) = 1 := by
  pointwise [onesOf]
  rfl

/-- A result of the kernel, of the codes and the scale of its pixel's features. -/
theorem kernel_y (x : FVec Ideal S64x256 .f32) (w : FVec Ideal S64x384 .fp8e4m3) (ds bs : FVec Ideal S1x384 .f32) (p : Fin 256) (o : Fin 384)
    (dec : Fin 64 → ℝ) (s b : ℝ) (hw : ∀ f, (w (ix2 f o) : EReal) = (dec f : EReal)) (hd : (ds (ix2 0 o) : EReal) = (s : EReal)) (hb : (bs (ix2 0 o) : EReal) = (b : EReal)) :
    (yOf x (augV w ds bs) (ix2 p o) : EReal)
      = (∑ f : Fin 64, clip ((x (ix2 f p) : EReal) * iv ((amaxOf x (ix2 0 p) : EReal) * Cert.KernelIdeal.Val.inv448)) * (dec f : EReal))
          * sc ((amaxOf x (ix2 0 p) : EReal) * Cert.KernelIdeal.Val.inv448) * (s : EReal) + (b : EReal) := by
  rw [y_at]
  obtain ⟨q, hq, hs⟩ := deq_sum Finset.univ ((amaxOf x (ix2 0 p) : EReal) * Cert.KernelIdeal.Val.inv448) (fun f : Fin 64 => (x (ix2 f p) : EReal)) dec
  rw [hs]
  have hds : ∀ j : Fin 64, (w (ix2 j o) : EReal) * (ds (ix2 0 o) : EReal) = ((dec j * s : ℝ) : EReal) := fun j => by rw [hw, hd, EReal.coe_mul]
  refine (y_sum q (fun f => dec f * s) b _ _ ?_ ?_ ?_ ?_).trans ?_
  · intro j
    constructor
    · refine (dif_pos j.isLt).trans ?_
      rw [deq_at]
      exact hq j
    · refine (dif_pos j.isLt).trans ?_
      refine (dec_at 0 w ds j o).trans ?_
      rw [hds]; rfl
  · intro j h1 h2
    refine (dif_neg (show ¬ j.val < 64 by omega)).trans ?_
    by_cases h3 : j.val < 128
    · refine (dif_pos h3).trans ?_
      refine (dec_at 1 w ds _ o).trans ?_
      rw [hds, pc_real]; rfl
    · refine (dif_neg h3).trans ?_
      refine (dif_pos h2).trans ?_
      refine (dec_at 2 w ds _ o).trans ?_
      rw [hds, pc_real]; rfl
  · constructor
    · refine (dif_neg (by decide)).trans ?_
      refine (dif_neg (by decide)).trans ?_
      refine (dif_neg (by decide)).trans ?_
      exact ones_at p
    · refine (dif_neg (by show ¬ (192 : ℕ) < 64; decide)).trans ?_
      refine (dif_neg (by show ¬ (192 : ℕ) < 128; decide)).trans ?_
      refine (dif_neg (by show ¬ (192 : ℕ) < 192; decide)).trans ?_
      refine (bias_at bs 0 o).trans ?_
      exact hb
  · intro j h1
    refine (dif_neg (show ¬ j.val < 64 by omega)).trans ?_
    refine (dif_neg (show ¬ j.val < 128 by omega)).trans ?_
    refine (dif_neg (show ¬ j.val < 192 by omega)).trans ?_
    refine (bias_at bs _ o).trans ?_
    have sel0 : ∀ w : BitVec 1, Scalar.select w (0 : EReal) 0 = 0 := fun w => by rcases bit w with rfl | rfl <;> rfl
    have h0 : IntOp.cmpi .eq (BitVec.ofNat 32 (j.val - 192)) 0#32 = 0#1 := by
      have hj := j.isLt
      have h2 : j.val - 192 < 64 := by omega
      have h3 : 0 < j.val - 192 := by omega
      generalize j.val - 192 = a at h2 h3
      revert a
      decide
    rw [hb, pc_real 1, pc_real 2, if_neg (by decide), if_neg (by decide), sel0, sel0]
    exact congrArg (fun u => Scalar.select u (pc 0 (b : EReal)) 0) h0
  · congr 1
    rw [← EReal.coe_mul, Finset.sum_mul]
    congr 1
    exact Finset.sum_congr rfl fun i _ => by ring

end Result

section Both
open Cert.KernelIdeal Cert.KernelIdeal.Gen Cert.KernelIdeal.Val
open Cert.KernelIdeal.Hand hiding frame run_main dats
variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The two programs' arguments are the same. -/
def Agree (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)

/-- A pixel's opacities: real numbers from 0 to below 1, the kernel's and the reference's. -/
theorem opacities (hO : Ok m) (c : Dev nD) (hT : Tame m c) (hA : Agree m m' c) (t : Fin (cfgM m hO).N) (b : Fin 8) (p : Fin 256) :
    ∃ r : Fin 128 → ℝ, (∀ k, 0 ≤ r k ∧ r k < 1)
      ∧ (∀ k : Fin 128, (alphaV (grid0.coords t) (ctsOf m hO c t) b (ix2 k p) : EReal) = (r k : EReal))
      ∧ ∀ k : Fin 128, Cert.ReferenceIdeal.Val.at3 (Cert.ReferenceIdeal.Gen.V m' c Cert.ReferenceIdeal.main_v57) (row m t b) p k = (r k : EReal) := by
  have key : ∀ k : Fin 128, ∃ r : ℝ, (0 ≤ r ∧ r < 1)
      ∧ (alphaV (grid0.coords t) (ctsOf m hO c t) b (ix2 k p) : EReal) = (r : EReal)
      ∧ Cert.ReferenceIdeal.Val.at3 (Cert.ReferenceIdeal.Gen.V m' c Cert.ReferenceIdeal.main_v57) (row m t b) p k = (r : EReal) := by
    intro k
    obtain ⟨h0, h1, h2, h3, -⟩ := hA
    obtain ⟨mx, hmx⟩ := hT.mean (row m t b) k 0
    obtain ⟨my, hmy⟩ := hT.mean (row m t b) k 1
    obtain ⟨ca, hca⟩ := hT.conic (row m t b) k 0
    obtain ⟨cb, hcb⟩ := hT.conic (row m t b) k 1
    obtain ⟨cc, hcc⟩ := hT.conic (row m t b) k 2
    obtain ⟨op, hop0, hop⟩ := hT.opac (row m t b) k
    obtain ⟨r, hr, e1, e2⟩ := alpha_eq (len0 m c (row m t b)) k.val op ca cb cc mx my hop0 p _ (fun j hj => pix_at m hO c t j p hj) _ rfl
    refine ⟨r, hr, ?_, ?_⟩
    · refine (alpha_at _ _ b k p _ (fun q => ?_)).trans e1
      rw [coefV_at m hO c t b k q, hmx, hmy, hca, hcb, hcc, hop]
    · refine (Cert.ReferenceIdeal.Val.V_v57 m' c (row m t b) p k).trans ?_
      rw [Cert.ReferenceIdeal.Val.V_px, Cert.ReferenceIdeal.Val.V_py]
      have g0 : ((m' (c, Proc.tc.devRef Cert.ReferenceIdeal.main_arg0) : FVec Ideal Cert.ReferenceIdeal.S3000x128x2 .f32) (ix3 (row m t b) k 0) : EReal) = (mx : EReal) := (congrFun h0 _).trans hmx
      have g1 : ((m' (c, Proc.tc.devRef Cert.ReferenceIdeal.main_arg0) : FVec Ideal Cert.ReferenceIdeal.S3000x128x2 .f32) (ix3 (row m t b) k 1) : EReal) = (my : EReal) := (congrFun h0 _).trans hmy
      have g2 : ((m' (c, Proc.tc.devRef Cert.ReferenceIdeal.main_arg1) : FVec Ideal Cert.ReferenceIdeal.S3000x128x3 .f32) (ix3 (row m t b) k 0) : EReal) = (ca : EReal) := (congrFun h1 _).trans hca
      have g3 : ((m' (c, Proc.tc.devRef Cert.ReferenceIdeal.main_arg1) : FVec Ideal Cert.ReferenceIdeal.S3000x128x3 .f32) (ix3 (row m t b) k 1) : EReal) = (cb : EReal) := (congrFun h1 _).trans hcb
      have g4 : ((m' (c, Proc.tc.devRef Cert.ReferenceIdeal.main_arg1) : FVec Ideal Cert.ReferenceIdeal.S3000x128x3 .f32) (ix3 (row m t b) k 2) : EReal) = (cc : EReal) := (congrFun h1 _).trans hcc
      have g5 : ((m' (c, Proc.tc.devRef Cert.ReferenceIdeal.main_arg2) : FVec Ideal Cert.ReferenceIdeal.S3000x128 .f32) (ix2 (row m t b) k) : EReal) = (op : EReal) := (congrFun h2 _).trans hop
      have g6 : (m' (c, Proc.tc.devRef Cert.ReferenceIdeal.main_arg3) : IVec Cert.ReferenceIdeal.S3000 32) (ix1 (row m t b)) = len0 m c (row m t b) := congrFun h3 _
      rw [g0, g1, g2, g3, g4, g5, g6]
      exact e2
  choose r h using key
  exact ⟨r, fun k => (h k).1, fun k => (h k).2.1, fun k => (h k).2.2⟩

/-- The reference's feature map and its greatest absolute values over 448. -/
abbrev refF (c : Dev nD) : FVec Ideal Cert.ReferenceIdeal.S3000x256x64 .f32 :=
  Cert.ReferenceIdeal.Gen.k0_pay1 (F := Ideal) (Cert.ReferenceIdeal.Gen.V m' c Cert.ReferenceIdeal.main_v63) (Cert.ReferenceIdeal.Gen.V m' c Cert.ReferenceIdeal.main_arg4) (Cert.ReferenceIdeal.Gen.V m' c Cert.ReferenceIdeal.main_arg5)
abbrev refA (c : Dev nD) : FVec Ideal Cert.ReferenceIdeal.S3000x256 .f32 :=
  Cert.ReferenceIdeal.Gen.k0_pay2 (F := Ideal) (Cert.ReferenceIdeal.Gen.V m' c Cert.ReferenceIdeal.main_v63) (Cert.ReferenceIdeal.Gen.V m' c Cert.ReferenceIdeal.main_arg4) (Cert.ReferenceIdeal.Gen.V m' c Cert.ReferenceIdeal.main_arg5)

/-- The feature maps are the same. -/
theorem feats (hO : Ok m) (c : Dev nD) (hT : Tame m c) (hA : Agree m m' c) (t : Fin (cfgM m hO).N) (b : Fin 8) (p : Fin 256) (f : Fin 64) :
    (featM m hO c t b (ix2 f p) : EReal) = (refF m' c (ix3 (row m t b) p f) : EReal) := by
  obtain ⟨r, hr, hk, hv⟩ := opacities m m' hO c hT hA t b p
  refine (featM_at m hO c t b p r hk f).trans ?_
  refine Eq.trans ?_ (ref_feat _ _ _ (row m t b) p r hr (refW_at m' c (row m t b) p r hr hv) f).symm
  obtain ⟨-, -, -, -, h4, h5, -⟩ := hA
  have e4 : (Cert.ReferenceIdeal.Gen.V m' c Cert.ReferenceIdeal.main_arg4 : FVec Ideal Cert.ReferenceIdeal.S3000x128x64 .fp8e4m3) = m ((c.tc : Thread nD τ).loc main_arg4) := (Cert.ReferenceIdeal.Gen.V_main_arg4 m' c).trans h4
  have e5 : (Cert.ReferenceIdeal.Gen.V m' c Cert.ReferenceIdeal.main_arg5 : FVec Ideal Cert.ReferenceIdeal.S64 .f32) = m ((c.tc : Thread nD τ).loc main_arg5) := (Cert.ReferenceIdeal.Gen.V_main_arg5 m' c).trans h5
  rw [e4, e5]

/-- Their greatest absolute values over 448 are. -/
theorem amaxes (hO : Ok m) (c : Dev nD) (hT : Tame m c) (hA : Agree m m' c) (t : Fin (cfgM m hO).N) (b : Fin 8) (p : Fin 256) :
    (amaxOf (featM m hO c t b) (ix2 0 p) : EReal) * Cert.KernelIdeal.Val.inv448 = (refA m' c (ix2 (row m t b) p) : EReal) := by
  rw [amax_at]
  refine Eq.trans ?_ (Cert.ReferenceIdeal.Val.pay2_at _ _ _ (row m t b) p).symm
  refine congrArg (fun u : EReal => u * _) ?_
  refine congrArg (fun g : Fin 64 → EReal => Finset.fold max _ g Finset.univ) (funext fun f => ?_)
  exact congrArg (fun u : EReal => max u (-u)) (feats m m' hO c hT hA t b p f)

/-- The scales are the same. -/
theorem scales_eq (hO : Ok m) (c : Dev nD) (hT : Tame m c) (hA : Agree m m' c) (t : Fin (cfgM m hO).N) (b : Fin 8) (p : Fin 256) :
    (scalesM m hO c t (ix2 b p) : EReal) = (Cert.ReferenceIdeal.Gen.k0_pay4 (F := Ideal) (refA m' c) (ix2 (row m t b) p) : EReal) := by
  refine (scale_at (amaxOf (featM m hO c t b)) (ix2 0 p)).trans ?_
  rw [amaxes m m' hO c hT hA t b p]
  exact (Cert.ReferenceIdeal.Val.pay4_at _ _ _).symm

/-- The codes are the same. -/
theorem codes_eq (hO : Ok m) (c : Dev nD) (hT : Tame m c) (hA : Agree m m' c) (t : Fin (cfgM m hO).N) (b : Fin 8) (f : Fin 64) (p : Fin 256) :
    (codesM m hO c t (ix3 b f p) : EReal) = (Cert.ReferenceIdeal.Gen.k0_pay7 (F := Ideal) (refF m' c) (refA m' c) (ix3 (row m t b) f p) : EReal) := by
  refine (fCode_at (featM m hO c t b) f p).trans ?_
  rw [amaxes m m' hO c hT hA t b p, feats m m' hO c hT hA t b p f]
  exact (Cert.ReferenceIdeal.Val.pay7_at _ _ _ _ _).symm

/-- The results of the decoder are the same. -/
theorem y_eq (hO : Ok m) (c : Dev nD) (hT : Tame m c) (hA : Agree m m' c) (t : Fin (cfgM m hO).N) (b : Fin 8) (p : Fin 256) (o : Fin 384) :
    (yM m hO c t (ix3 b p o) : EReal) = (Cert.ReferenceIdeal.Gen.k0_pay6 (F := Ideal) (refF m' c) (refA m' c) (Cert.ReferenceIdeal.Gen.V m' c Cert.ReferenceIdeal.main_v64)
      (Cert.ReferenceIdeal.Gen.V m' c Cert.ReferenceIdeal.main_arg7) (Cert.ReferenceIdeal.Gen.V m' c Cert.ReferenceIdeal.main_arg8) (ix3 (row m t b) p o) : EReal) := by
  choose dec hdec using fun f => hT.dec f o
  obtain ⟨s, hs⟩ := hT.scale o
  obtain ⟨bi, hbi⟩ := hT.bias o
  refine (kernel_y (featM m hO c t b) _ _ _ p o dec s bi (fun f => (iblk6_at m hO c (pt0 m hO) f o).trans (hdec f))
    ((iblk7_at m hO c (pt0 m hO) 0 o).trans hs) ((iblk8_at m hO c (pt0 m hO) 0 o).trans hbi)).trans ?_
  refine Eq.trans ?_ (Cert.ReferenceIdeal.Val.pay6_at _ _ _ _ _ (row m t b) p o).symm
  have hA0 := hA
  obtain ⟨-, -, -, -, -, -, h6, h7, h8⟩ := hA0
  have e6 : ∀ f : Fin 64, ((Cert.ReferenceIdeal.Gen.V m' c Cert.ReferenceIdeal.main_v64 : FVec Ideal Cert.ReferenceIdeal.S64x384 .fp8e4m3) (ix2 f o) : EReal) = (dec f : EReal) := fun f =>
    (Cert.ReferenceIdeal.Val.V_v64 m' c f o).trans ((congrFun h6 _).trans (hdec f))
  have e7 : ((Cert.ReferenceIdeal.Gen.V m' c Cert.ReferenceIdeal.main_arg7 : FVec Ideal Cert.ReferenceIdeal.S384 .f32) (ix1 o) : EReal) = (s : EReal) :=
    (congrFun ((Cert.ReferenceIdeal.Gen.V_main_arg7 m' c).trans h7) _).trans hs
  have e8 : ((Cert.ReferenceIdeal.Gen.V m' c Cert.ReferenceIdeal.main_arg8 : FVec Ideal Cert.ReferenceIdeal.S384 .f32) (ix1 o) : EReal) = (bi : EReal) :=
    (congrFun ((Cert.ReferenceIdeal.Gen.V_main_arg8 m' c).trans h8) _).trans hbi
  rw [e7, e8, amaxes m m' hO c hT hA t b p]
  generalize (refA m' c (ix2 (row m t b) p) : EReal) = X
  refine congrArg (fun u : EReal => u * sc X * (s : EReal) + (bi : EReal)) (Finset.sum_congr rfl fun f _ => ?_)
  exact mul_congr' (congrArg (fun u : EReal => clip (u * iv X)) (feats m m' hO c hT hA t b p f)) (e6 f).symm

end Both

end Cert.Equal
end
-- ==== Proof.Algebraic.lean ====
/-
The kernel's three result arrays are the reference's, at the ideal instance; with the two programs' runs, the value claim.
-/
module

public import proofs.«01_k».proof.Proof.Equal

@[expose] public section

set_option maxRecDepth 16384
set_option maxHeartbeats 4000000

noncomputable section

namespace Cert.Equal

open Idealize.ShloMosaic Idealize.ShloMosaic.TcCoe Idealize.ShloMosaic.Tactic Idealize.SL.Sem
open Cert.KernelIdeal Cert.KernelIdeal.Gen Cert.KernelIdeal.Val
open Cert.KernelIdeal.Hand hiding frame run_main dats

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- Every tile is one of some block's eight. -/
theorem row_of (hO : Ok m) (n : Fin 3000) : ∃ (t : Fin (cfgM m hO).N) (b : Fin 8), n = row m t b := by
  have hN : (cfgM m hO).N = 375 := N_0
  refine ⟨⟨n.val / 8, by rw [hN]; omega⟩, ⟨n.val % 8, by omega⟩, Fin.ext ?_⟩
  show n.val = 8 * (n.val / 8) + n.val % 8
  omega

/-- The decoder's results, as whole arrays. -/
theorem y_array (hO : Ok m) (c : Dev nD) (hT : Tame m c) (hA : Agree m m' c) :
    ((Cert.ReferenceIdeal.Gen.dats m' 0 c).arrAt 6 Cert.ReferenceIdeal.cfg0.N : FVec Ideal Cert.ReferenceIdeal.S3000x256x384 .bf16)
      = ((datsV m hO 0 c).arrAt 9 (cfgM m hO).N : FVec Ideal S3000x256x384 .bf16) := by
  refine (Cert.ReferenceIdeal.Val.arr6 m' c).trans ?_
  funext z
  obtain ⟨n, p, o, rfl⟩ : ∃ (n : Fin 3000) (p : Fin 256) (o : Fin 384), z = ix3 n p o := ⟨z 0, z 1, z 2, eq_ix3 z⟩
  obtain ⟨t, b, rfl⟩ := row_of m hO n
  exact (y_eq m m' hO c hT hA t b p o).symm.trans (arr9_at m hO c t b p o).symm

/-- The codes, as whole arrays. -/
theorem codes_array (hO : Ok m) (c : Dev nD) (hT : Tame m c) (hA : Agree m m' c) :
    ((Cert.ReferenceIdeal.Gen.dats m' 0 c).arrAt 7 Cert.ReferenceIdeal.cfg0.N : FVec Ideal Cert.ReferenceIdeal.S3000x64x256 .fp8e4m3)
      = ((datsV m hO 0 c).arrAt 10 (cfgM m hO).N : FVec Ideal S3000x64x256 .fp8e4m3) := by
  refine (Cert.ReferenceIdeal.Val.arr7 m' c).trans ?_
  funext z
  obtain ⟨n, f, p, rfl⟩ : ∃ (n : Fin 3000) (f : Fin 64) (p : Fin 256), z = ix3 n f p := ⟨z 0, z 1, z 2, eq_ix3 z⟩
  obtain ⟨t, b, rfl⟩ := row_of m hO n
  exact (codes_eq m m' hO c hT hA t b f p).symm.trans (arr10_at m hO c t b f p).symm

/-- The scales, as whole arrays. -/
theorem scales_array (hO : Ok m) (c : Dev nD) (hT : Tame m c) (hA : Agree m m' c) :
    ((Cert.ReferenceIdeal.Gen.dats m' 0 c).arrAt 8 Cert.ReferenceIdeal.cfg0.N : FVec Ideal Cert.ReferenceIdeal.S3000x256 .f32)
      = ((datsV m hO 0 c).arrAt 11 (cfgM m hO).N : FVec Ideal S3000x256 .f32) := by
  refine (Cert.ReferenceIdeal.Val.arr8 m' c).trans ?_
  funext z
  obtain ⟨n, p, rfl⟩ : ∃ (n : Fin 3000) (p : Fin 256), z = ix2 n p := ⟨z 0, z 1, eq_ix2 z⟩
  obtain ⟨t, b, rfl⟩ := row_of m hO n
  exact (scales_eq m m' hO c hT hA t b p).symm.trans (arr11_at m hO c t b p).symm

/-- From memories that agree on the arguments and are as the precondition says, the idealized kernel and the idealized
    reference end with equal results. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' hP hA
  have hO : Ok m := trivial
  refine ⟨fun c => (datsV m hO 0 c).arrAt 9 (cfgM m hO).N, fun c => (datsV m hO 0 c).arrAt 10 (cfgM m hO).N,
    fun c => (datsV m hO 0 c).arrAt 11 (cfgM m hO).N, run_blocks m g hO, ?_⟩
  refine (θ_run _ _ _).mono (fun r h c => ?_) (Cert.ReferenceIdeal.Value.run_blocks m' g')
  obtain ⟨h0, h1, h2, h3⟩ := h c
  exact ⟨h0.trans (y_array m m' hO c (tame m hP c) (hA c)), h1.trans (codes_array m m' hO c (tame m hP c) (hA c)),
    h2.trans (scales_array m m' hO c (tame m hP c) (hA c)), h3⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.KernelFrame
public import proofs.«01_k».proof.Proof.KernelIdealFrame
public import proofs.«01_k».proof.Proof.Algebraic
public import proofs.«01_k».proof.Proof.Gen.ReferenceIdeal
public import proofs.«01_k».proof.Proof.Gen.ReferenceIdeal.Skeleton
public import proofs.«01_k».proof.Proof.Gen.ReferenceIdeal.Value
public import proofs.«01_k».proof.Proof.Gen.Pre_tame
public import Idealize.ShloMosaic.Adequacy
public import Idealize.ShloMosaic.Init

@[expose] public section

noncomputable section

namespace Cert.Proof

open Idealize.ShloMosaic Idealize.SL.Sem Cert.Kernel

/-- The kernel's frame at the bit-exact floats. -/
theorem quiescent_kernel : Cert.quiescent_Kernel (hKernel := Cert.Kernel.Gen.facts) := fun m g _ =>
  Cert.Kernel.Hand.frame m g trivial

/-- The idealized kernel's frame at the ideal floats. -/
theorem quiescent_kernelIdeal : Cert.quiescent_KernelIdeal (hKernelIdeal := Cert.KernelIdeal.Gen.facts) := fun m g _ =>
  Cert.KernelIdeal.Hand.frame m g trivial

/-- Every rewrite between the kernel and its idealized form, by the statement of its rule. -/
theorem preserves_kernel : Cert.preserves_Kernel_KernelIdeal :=
  ⟨IdealRules.bf16_pack.statement _, IdealRules.bf16_pack.statement _, IdealRules.named_const.statement _ _ _ _ _ rfl,
    IdealRules.named_const.statement _ _ _ _ _ rfl, IdealRules.bf16_pack.statement _⟩

/-- The same under the precondition of the value claim. -/
theorem quiescent_kernelIdeal_tame : Cert.quiescent_KernelIdeal_pre_tame (hKernelIdeal := Cert.KernelIdeal.Gen.facts) (hPre_tame := Cert.Pre_tame.Gen.facts) :=
  fun m g _ => Cert.KernelIdeal.Hand.frame m g trivial

/-- The idealized reference's frame at the ideal floats. -/
theorem quiescent_referenceIdeal : Cert.quiescent_ReferenceIdeal (hReferenceIdeal := Cert.ReferenceIdeal.Gen.facts) := fun m g _ =>
  Cert.ReferenceIdeal.Gen.frame m g

/-- The same under the precondition of the value claim. -/
theorem quiescent_referenceIdeal_tame : Cert.quiescent_ReferenceIdeal_pre_tame (hReferenceIdeal := Cert.ReferenceIdeal.Gen.facts) (hPre_tame := Cert.Pre_tame.Gen.facts) :=
  fun m g _ => Cert.ReferenceIdeal.Gen.frame m g

/-- All the claims. -/
theorem claim : Cert.Claim := ⟨Cert.Kernel.Gen.facts, Cert.KernelIdeal.Gen.facts, Cert.ReferenceIdeal.Gen.facts, Cert.Pre_tame.Gen.facts,
  quiescent_kernel, quiescent_kernelIdeal, quiescent_kernelIdeal_tame, quiescent_referenceIdeal, quiescent_referenceIdeal_tame, preserves_kernel,
  Cert.Equal.algebraic⟩

end Cert.Proof

end
